-- ==== Defs.lean ====
def Pre_Kernel [hPre_genes_in_table : Cert.Pre_genes_in_table.Facts] (m : (ℓ : Loc Cert.Kernel.nD Cert.Kernel.τ Cert.Kernel.sig) → Buf (Elt Bits) ℓ) : Prop :=
  ∀ c : Dev Cert.Kernel.nD,
    (Cert.Pre_genes_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_genes_in_table : Cert.Pre_genes_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_genes_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_genes_in_table [hPre_genes_in_table : Cert.Pre_genes_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_genes_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_genes_in_table : Cert.Pre_genes_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_genes_in_table : Cert.Pre_genes_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_genes_in_table [hReferenceIdeal : Cert.ReferenceIdeal.Facts] [hPre_genes_in_table : Cert.Pre_genes_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_genes_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_genes_in_table : Cert.Pre_genes_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_genes_in_table : Cert.Pre_genes_in_table.Facts),
    quiescent_Kernel (hKernel := hKernel) (hPre_genes_in_table := hPre_genes_in_table)
    ∧ quiescent_KernelIdeal (hKernelIdeal := hKernelIdeal) (hPre_genes_in_table := hPre_genes_in_table)
    ∧ quiescent_ReferenceIdeal (hReferenceIdeal := hReferenceIdeal)
    ∧ quiescent_ReferenceIdeal_pre_genes_in_table (hReferenceIdeal := hReferenceIdeal) (hPre_genes_in_table := hPre_genes_in_table)
    ∧ preserves_Kernel_KernelIdeal
    ∧ algebraic_KernelIdeal_ReferenceIdeal (hKernelIdeal := hKernelIdeal) (hReferenceIdeal := hReferenceIdeal) (hPre_genes_in_table := hPre_genes_in_table)
-- ==== Pre_genes_in_table.lean ====
abbrev S1024x16 : Shape := ⟨2, ![1024, 16]⟩
abbrev S500 : Shape := ⟨1, ![500]⟩
abbrev S50000x16x224 : Shape := ⟨3, ![50000, 16, 224]⟩
abbrev S50000x16 : Shape := ⟨2, ![50000, 16]⟩
abbrev S_ : Shape := ⟨0, ![]⟩

class Facts : Prop where
  bcast_S_S500 : S_.BroadcastsInDim S500 (![] : Fin 0 → Fin S500.rank)

variable [Facts]

def fn {F : FTy → Type} [FloatOps F] (main_arg0 : FVec F S1024x16 .f32) (main_arg1 : IVec S500 32) (main_arg2 : FVec F S50000x16x224 .f32) (main_arg3 : FVec F S50000x16 .f32) : IVec S500 1 :=
  let main_c : IVec S_ 32 := constantI S_ 32 0#32
  let main_v0 : IVec S500 32 := broadcastInDim S500 ![] bcast_S_S500 main_c
  let main_v1 : IVec S500 1 := cmpi .sge main_arg1 main_v0
  let main_c_0 : IVec S_ 32 := constantI S_ 32 50000#32
  let main_v2 : IVec S500 32 := broadcastInDim S500 ![] bcast_S_S500 main_c_0
  let main_v3 : IVec S500 1 := cmpi .slt main_arg1 main_v2
  let main_v4 : IVec S500 1 := andi main_v1 main_v3
  main_v4
-- ==== Kernel.lean ====
abbrev S1024x16 : Shape := ⟨2, ![1024, 16]⟩
abbrev S500 : Shape := ⟨1, ![500]⟩
abbrev S50000x16x224 : Shape := ⟨3, ![50000, 16, 224]⟩
abbrev S50000x16 : Shape := ⟨2, ![50000, 16]⟩
abbrev S16x1024 : Shape := ⟨2, ![16, 1024]⟩
abbrev S16x224x50000 : Shape := ⟨3, ![16, 224, 50000]⟩
abbrev S16x50000 : Shape := ⟨2, ![16, 50000]⟩
abbrev S_ : Shape := ⟨0, ![]⟩
abbrev S500x1 : Shape := ⟨2, ![500, 1]⟩
abbrev S1 : Shape := ⟨1, ![1]⟩
abbrev S1x1 : Shape := ⟨2, ![1, 1]⟩
abbrev S499 : Shape := ⟨1, ![499]⟩
abbrev S500x16x224 : Shape := ⟨3, ![500, 16, 224]⟩
abbrev S16x224x128 : Shape := ⟨3, ![16, 224, 128]⟩
abbrev S4x16x224x128 : Shape := ⟨4, ![4, 16, 224, 128]⟩
abbrev S16x128x224 : Shape := ⟨3, ![16, 128, 224]⟩
abbrev S4 : Shape := ⟨1, ![4]⟩
abbrev S1x16x224x128 : Shape := ⟨4, ![1, 16, 224, 128]⟩
abbrev S16x8x224 : Shape := ⟨3, ![16, 8, 224]⟩
abbrev S16x1x224 : Shape := ⟨3, ![16, 1, 224]⟩
abbrev S1x16x224 : Shape := ⟨3, ![1, 16, 224]⟩
abbrev S500x224x1024 : Shape := ⟨3, ![500, 224, 1024]⟩
abbrev S4x16x224 : Shape := ⟨3, ![4, 16, 224]⟩
abbrev S4x224x1024 : Shape := ⟨3, ![4, 224, 1024]⟩
abbrev S16x224 : Shape := ⟨2, ![16, 224]⟩
abbrev S224x1024 : Shape := ⟨2, ![224, 1024]⟩
abbrev S1x224x1024 : Shape := ⟨3, ![1, 224, 1024]⟩
abbrev S50000x1024 : Shape := ⟨2, ![50000, 1024]⟩
abbrev S16x2048 : Shape := ⟨2, ![16, 2048]⟩
abbrev S2048x1024 : Shape := ⟨2, ![2048, 1024]⟩
abbrev S1024x500x224 : Shape := ⟨3, ![1024, 500, 224]⟩
abbrev S1024x50000 : Shape := ⟨2, ![1024, 50000]⟩

abbrev nBuf : Space → Nat
  | .hbm => 99
  | .vmem => 14
  | .smem => 5
  | _ => 0

abbrev bufTy : (tb : Table) → Fin (tcTables nBuf tb) → BufTy
  | .hbm, ⟨0, _⟩ => ⟨S1024x16, .f32⟩
  | .hbm, ⟨1, _⟩ => ⟨S500, .i32⟩
  | .hbm, ⟨2, _⟩ => ⟨S50000x16x224, .f32⟩
  | .hbm, ⟨3, _⟩ => ⟨S50000x16, .f32⟩
  | .hbm, ⟨4, _⟩ => ⟨S16x1024, .f32⟩
  | .hbm, ⟨5, _⟩ => ⟨S16x224x50000, .f32⟩
  | .hbm, ⟨6, _⟩ => ⟨S16x50000, .f32⟩
  | .hbm, ⟨7, _⟩ => ⟨S500, .i32⟩
  | .hbm, ⟨8, _⟩ => ⟨S500, .i32⟩
  | .hbm, ⟨9, _⟩ => ⟨S_, .i32⟩
  | .hbm, ⟨10, _⟩ => ⟨S500, .i32⟩
  | .hbm, ⟨11, _⟩ => ⟨S500, .i1⟩
  | .hbm, ⟨12, _⟩ => ⟨S_, .i32⟩
  | .hbm, ⟨13, _⟩ => ⟨S500, .i32⟩
  | .hbm, ⟨14, _⟩ => ⟨S500, .i32⟩
  | .hbm, ⟨15, _⟩ => ⟨S500, .i32⟩
  | .hbm, ⟨16, _⟩ => ⟨S500x1, .i32⟩
  | .hbm, ⟨17, _⟩ => ⟨S1, .i32⟩
  | .hbm, ⟨18, _⟩ => ⟨S_, .i32⟩
  | .hbm, ⟨19, _⟩ => ⟨S500x1, .i32⟩
  | .hbm, ⟨20, _⟩ => ⟨S500x1, .i1⟩
  | .hbm, ⟨21, _⟩ => ⟨S1x1, .i32⟩
  | .hbm, ⟨22, _⟩ => ⟨S500x1, .i32⟩
  | .hbm, ⟨23, _⟩ => ⟨S500x1, .i1⟩
  | .hbm, ⟨24, _⟩ => ⟨S500x1, .i1⟩
  | .hbm, ⟨25, _⟩ => ⟨S_, .i1⟩
  | .hbm, ⟨26, _⟩ => ⟨S500, .i1⟩
  | .hbm, ⟨27, _⟩ => ⟨S500, .i32⟩
  | .hbm, ⟨28, _⟩ => ⟨S_, .i32⟩
  | .hbm, ⟨29, _⟩ => ⟨S500, .i32⟩
  | .hbm, ⟨30, _⟩ => ⟨S500, .i32⟩
  | .hbm, ⟨31, _⟩ => ⟨S_, .i32⟩
  | .hbm, ⟨32, _⟩ => ⟨S_, .i32⟩
  | .hbm, ⟨33, _⟩ => ⟨S500, .i32⟩
  | .hbm, ⟨34, _⟩ => ⟨S500, .i32⟩
  | .hbm, ⟨35, _⟩ => ⟨S500, .i32⟩
  | .hbm, ⟨36, _⟩ => ⟨S_, .i32⟩
  | .hbm, ⟨37, _⟩ => ⟨S500, .i32⟩
  | .hbm, ⟨38, _⟩ => ⟨S500, .i1⟩
  | .hbm, ⟨39, _⟩ => ⟨S500, .i32⟩
  | .hbm, ⟨40, _⟩ => ⟨S500, .i32⟩
  | .hbm, ⟨41, _⟩ => ⟨S_, .i32⟩
  | .hbm, ⟨42, _⟩ => ⟨S500, .i32⟩
  | .hbm, ⟨43, _⟩ => ⟨S500, .i1⟩
  | .hbm, ⟨44, _⟩ => ⟨S500, .i1⟩
  | .hbm, ⟨45, _⟩ => ⟨S_, .i32⟩
  | .hbm, ⟨46, _⟩ => ⟨S500, .i32⟩
  | .hbm, ⟨47, _⟩ => ⟨S500, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S500, .i32⟩
  | .hbm, ⟨55, _⟩ => ⟨S500, .i32⟩
  | .hbm, ⟨56, _⟩ => ⟨S_, .i32⟩
  | .hbm, ⟨57, _⟩ => ⟨S500, .i32⟩
  | .hbm, ⟨58, _⟩ => ⟨S500, .i1⟩
  | .hbm, ⟨59, _⟩ => ⟨S_, .i32⟩
  | .hbm, ⟨60, _⟩ => ⟨S500, .i32⟩
  | .hbm, ⟨61, _⟩ => ⟨S500, .i1⟩
  | .hbm, ⟨62, _⟩ => ⟨S_, .i32⟩
  | .hbm, ⟨63, _⟩ => ⟨S_, .i1⟩
  | .hbm, ⟨64, _⟩ => ⟨S500, .i1⟩
  | .hbm, ⟨65, _⟩ => ⟨S500, .i1⟩
  | .hbm, ⟨66, _⟩ => ⟨S500, .i1⟩
  | .hbm, ⟨67, _⟩ => ⟨S500, .i32⟩
  | .hbm, ⟨68, _⟩ => ⟨S500, .i32⟩
  | .hbm, ⟨69, _⟩ => ⟨S_, .i32⟩
  | .hbm, ⟨70, _⟩ => ⟨S1, .i32⟩
  | .hbm, ⟨71, _⟩ => ⟨S499, .i32⟩
  | .hbm, ⟨72, _⟩ => ⟨S499, .i32⟩
  | .hbm, ⟨73, _⟩ => ⟨S499, .i1⟩
  | .hbm, ⟨74, _⟩ => ⟨S499, .i32⟩
  | .hbm, ⟨75, _⟩ => ⟨S500, .i32⟩
  | .hbm, ⟨76, _⟩ => ⟨S_, .i32⟩
  | .hbm, ⟨77, _⟩ => ⟨S_, .i32⟩
  | .hbm, ⟨78, _⟩ => ⟨S500, .i32⟩
  | .hbm, ⟨79, _⟩ => ⟨S_, .i32⟩
  | .hbm, ⟨80, _⟩ => ⟨S500, .i32⟩
  | .hbm, ⟨81, _⟩ => ⟨S_, .i32⟩
  | .hbm, ⟨82, _⟩ => ⟨S500, .i32⟩
  | .hbm, ⟨83, _⟩ => ⟨S_, .i32⟩
  | .hbm, ⟨84, _⟩ => ⟨S500, .i32⟩
  | .hbm, ⟨85, _⟩ => ⟨S500, .i1⟩
  | .hbm, ⟨86, _⟩ => ⟨S_, .i32⟩
  | .hbm, ⟨87, _⟩ => ⟨S500, .i32⟩
  | .hbm, ⟨88, _⟩ => ⟨S500, .i32⟩
  | .hbm, ⟨89, _⟩ => ⟨S500, .i32⟩
  | .hbm, ⟨90, _⟩ => ⟨S500x1, .i32⟩
  | .hbm, ⟨91, _⟩ => ⟨S500, .i32⟩
  | .hbm, ⟨92, _⟩ => ⟨S_, .i32⟩
  | .hbm, ⟨93, _⟩ => ⟨S_, .i32⟩
  | .hbm, ⟨94, _⟩ => ⟨S500x16x224, .f32⟩
  | .hbm, ⟨95, _⟩ => ⟨S500x224x1024, .f32⟩
  | .hbm, ⟨96, _⟩ => ⟨S50000x1024, .f32⟩
  | .hbm, ⟨97, _⟩ => ⟨S1024x500x224, .f32⟩
  | .hbm, ⟨98, _⟩ => ⟨S1024x50000, .f32⟩
  | .local _ .vmem, ⟨0, _⟩ => ⟨S16x224x128, .f32⟩
  | .local _ .vmem, ⟨1, _⟩ => ⟨S500x16x224, .f32⟩
  | .local _ .vmem, ⟨2, _⟩ => ⟨S4x16x224x128, .f32⟩
  | .local _ .vmem, ⟨3, _⟩ => ⟨S16x128x224, .f32⟩
  | .local _ .vmem, ⟨4, _⟩ => ⟨S16x1024, .f32⟩
  | .local _ .vmem, ⟨5, _⟩ => ⟨S4x16x224, .f32⟩
  | .local _ .vmem, ⟨6, _⟩ => ⟨S4x16x224, .f32⟩
  | .local _ .vmem, ⟨7, _⟩ => ⟨S4x224x1024, .f32⟩
  | .local _ .vmem, ⟨8, _⟩ => ⟨S4x224x1024, .f32⟩
  | .local _ .vmem, ⟨9, _⟩ => ⟨S16x1024, .f32⟩
  | .local _ .vmem, ⟨10, _⟩ => ⟨S16x2048, .f32⟩
  | .local _ .vmem, ⟨11, _⟩ => ⟨S16x2048, .f32⟩
  | .local _ .vmem, ⟨12, _⟩ => ⟨S2048x1024, .f32⟩
  | .local _ .vmem, ⟨13, _⟩ => ⟨S2048x1024, .f32⟩
  | .local _ .smem, ⟨0, _⟩ => ⟨S500, .i32⟩
  | .local _ .smem, ⟨1, _⟩ => ⟨S500, .i32⟩
  | .local _ .smem, ⟨2, _⟩ => ⟨S500, .i32⟩
  | .local _ .smem, ⟨3, _⟩ => ⟨S500, .i32⟩
  | .local _ .smem, ⟨4, _⟩ => ⟨S500, .i32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1_0 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_c_4 : Ref sig .tc := ⟨.hbm, 28, rfl⟩
abbrev main_call1_v14 : Ref sig .tc := ⟨.hbm, 29, rfl⟩
abbrev main_v4 : Ref sig .tc := ⟨.hbm, 30, rfl⟩
abbrev main_c : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_c : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_0 : Ref sig .tc := ⟨.hbm, 45, rfl⟩
abbrev main_call2_v12 : Ref sig .tc := ⟨.hbm, 46, rfl⟩
abbrev main_call2_v13 : Ref sig .tc := ⟨.hbm, 47, rfl⟩
abbrev main_c_0 : Ref sig .tc := ⟨.hbm, 48, rfl⟩
abbrev main_call3_v0 : Ref sig .tc := ⟨.hbm, 49, rfl⟩
abbrev main_call3_c : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_c_1 : Ref sig .tc := ⟨.hbm, 56, rfl⟩
abbrev main_call3_v5 : Ref sig .tc := ⟨.hbm, 57, rfl⟩
abbrev main_call3_v6 : Ref sig .tc := ⟨.hbm, 58, rfl⟩
abbrev main_call3_c_2 : Ref sig .tc := ⟨.hbm, 59, rfl⟩
abbrev main_call3_v7 : Ref sig .tc := ⟨.hbm, 60, rfl⟩
abbrev main_call3_v8 : Ref sig .tc := ⟨.hbm, 61, rfl⟩
abbrev main_call3_c_3 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_v12 : Ref sig .tc := ⟨.hbm, 66, rfl⟩
abbrev main_call3_v13 : Ref sig .tc := ⟨.hbm, 67, rfl⟩
abbrev main_call3_v14 : Ref sig .tc := ⟨.hbm, 68, rfl⟩
abbrev main_c_1 : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_call4_call0_c : Ref sig .tc := ⟨.hbm, 76, rfl⟩
abbrev main_call4_call0_v0 : Ref sig .tc := ⟨.hbm, 77, rfl⟩
abbrev main_v13 : Ref sig .tc := ⟨.hbm, 78, rfl⟩
abbrev main_c_2 : Ref sig .tc := ⟨.hbm, 79, rfl⟩
abbrev main_v14 : Ref sig .tc := ⟨.hbm, 80, rfl⟩
abbrev main_c_3 : Ref sig .tc := ⟨.hbm, 81, rfl⟩
abbrev main_v16 : Ref sig .tc := ⟨.hbm, 82, rfl⟩
abbrev main_c_4 : Ref sig .tc := ⟨.hbm, 83, rfl⟩
abbrev main_v17 : Ref sig .tc := ⟨.hbm, 84, rfl⟩
abbrev main_v18 : Ref sig .tc := ⟨.hbm, 85, rfl⟩
abbrev main_c_5 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_call5_c : Ref sig .tc := ⟨.hbm, 92, rfl⟩
abbrev main_call5_v0 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v5 : Ref sig .tc := ⟨.smem, 0, rfl⟩
abbrev main_v6 : Ref sig .tc := ⟨.smem, 1, rfl⟩
abbrev main_v3 : Ref sig .tc := ⟨.smem, 2, rfl⟩
abbrev main_v15 : Ref sig .tc := ⟨.smem, 3, rfl⟩
abbrev main_v24 : Ref sig .tc := ⟨.smem, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem1_0 : DmaSem sig := 1
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![500], ![false]⟩

abbrev pre0 : Pipeline.Prefetch sig := ⟨5, ![main_v5.idx, main_v6.idx, main_v3.idx, main_v15.idx, main_v24.idx], fun | 0 => main_v5.names | 1 => main_v6.names | 2 => main_v3.names | 3 => main_v15.names | 4 => main_v24.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond1 (i : grid0.Coords) : BitVec 1 :=
  let arg0 : BitVec 32 := BitVec.ofNat 32 (i 0).val
  let c0_i32_1 : BitVec 32 := 0#32
  let v9 : BitVec 1 := Scalar.cmpi .eq arg0 c0_i32_1
  let v10 : BitVec 32 := Scalar.extui v9
  let c0_i32_2 : BitVec 32 := 0#32
  let v11 : BitVec 1 := Scalar.cmpi .ne v10 c0_i32_2
  v11

def k0_off3 (v58 : BitVec 32) : Fin 1 → Nat :=
  let c0_i32_21 : BitVec 32 := 0#32
  let v59 : BitVec 32 := Scalar.minsi c0_i32_21 v58
  let v60 : Index := Scalar.indexCast v59
  ![v60.toNat]

def k0_chk1 (i : grid0.Coords) (v58 : BitVec 32) : Prop :=
  (∀ (k0_h1 : k0_cond1 i = 1#1), ∀ a, (k0_off3 v58) a + S1.size a ≤ S500.size a)
theorem k0_off3_inb : ∀ (i : grid0.Coords) (v58 : BitVec 32) (k0_hw1 : k0_chk1 i v58), ∀ (k0_h1 : k0_cond1 i = 1#1), ∀ a, (k0_off3 v58) a + S1.size a ≤ S500.size a := fun i v58 k0_hw1 k0_h1 => k0_hw1 k0_h1

def k0_mult1 (v61 : BitVec 32) : BitVec 32 :=
  let c128_i32 : BitVec 32 := 128#32
  let v79 : BitVec 32 := Scalar.muli v61 c128_i32
  v79
def k0_cond2 (v61 : BitVec 32) : BitVec 1 :=
  let c390_i32 : BitVec 32 := 390#32
  let v62 : BitVec 1 := Scalar.cmpi .ne v61 c390_i32
  let v63 : BitVec 32 := Scalar.extui v62
  let c0_i32_22 : BitVec 32 := 0#32
  let v64 : BitVec 1 := Scalar.cmpi .ne v63 c0_i32_22
  v64

def k0_off4 (v61 : BitVec 32) : Fin 3 → Nat :=
  let c0_i32_35 : BitVec 32 := 0#32
  let c0_i32_36 : BitVec 32 := 0#32
  let c128_i32 : BitVec 32 := 128#32
  let v79 : BitVec 32 := Scalar.muli v61 c128_i32
  let v80 : BitVec 32 := v79
  ![0, 0, v80.toNat]

def k0_chk2 (i : grid0.Coords) (v61 : BitVec 32) : Prop :=
  (∀ (k0_h1 : k0_cond1 i = 1#1), ∀ (k0_h2 : k0_cond2 v61 = 1#1), 128 ∣ (k0_mult1 v61).toNat) ∧
  (∀ (k0_h1 : k0_cond1 i = 1#1), ∀ (k0_h2 : k0_cond2 v61 = 1#1), ∀ a, (k0_off4 v61) a + S16x224x128.size a ≤ S16x224x50000.size a)
theorem k0_mult1_dvd : ∀ (i : grid0.Coords) (v61 : BitVec 32) (k0_hw2 : k0_chk2 i v61), ∀ (k0_h1 : k0_cond1 i = 1#1), ∀ (k0_h2 : k0_cond2 v61 = 1#1), 128 ∣ (k0_mult1 v61).toNat := fun i v61 k0_hw2 k0_h1 k0_h2 => k0_hw2.1 k0_h1 k0_h2
theorem k0_off4_inb : ∀ (i : grid0.Coords) (v61 : BitVec 32) (k0_hw2 : k0_chk2 i v61), ∀ (k0_h1 : k0_cond1 i = 1#1), ∀ (k0_h2 : k0_cond2 v61 = 1#1), ∀ a, (k0_off4 v61) a + S16x224x128.size a ≤ S16x224x50000.size a := fun i v61 k0_hw2 k0_h1 k0_h2 => k0_hw2.2 k0_h1 k0_h2

def k0_off5 (v65 : BitVec 32) : Fin 1 → Nat :=
  let c1_i32_24 : BitVec 32 := 1#32
  let v66 : BitVec 32 := Scalar.minsi c1_i32_24 v65
  let v67 : Index := Scalar.indexCast v66
  ![v67.toNat]

def k0_chk3 (i : grid0.Coords) (v65 : BitVec 32) : Prop :=
  (∀ (k0_h1 : k0_cond1 i = 1#1), ∀ a, (k0_off5 v65) a + S1.size a ≤ S500.size a)
theorem k0_off5_inb : ∀ (i : grid0.Coords) (v65 : BitVec 32) (k0_hw3 : k0_chk3 i v65), ∀ (k0_h1 : k0_cond1 i = 1#1), ∀ a, (k0_off5 v65) a + S1.size a ≤ S500.size a := fun i v65 k0_hw3 k0_h1 => k0_hw3 k0_h1

def k0_mult2 (v68 : BitVec 32) : BitVec 32 :=
  let c128_i32 : BitVec 32 := 128#32
  let v79 : BitVec 32 := Scalar.muli v68 c128_i32
  v79
def k0_cond3 (v68 : BitVec 32) : BitVec 1 :=
  let c390_i32_25 : BitVec 32 := 390#32
  let v69 : BitVec 1 := Scalar.cmpi .ne v68 c390_i32_25
  let v70 : BitVec 32 := Scalar.extui v69
  let c0_i32_26 : BitVec 32 := 0#32
  let v71 : BitVec 1 := Scalar.cmpi .ne v70 c0_i32_26
  v71

def k0_off6 (v68 : BitVec 32) : Fin 3 → Nat :=
  let c0_i32_35 : BitVec 32 := 0#32
  let c0_i32_36 : BitVec 32 := 0#32
  let c128_i32 : BitVec 32 := 128#32
  let v79 : BitVec 32 := Scalar.muli v68 c128_i32
  let v80 : BitVec 32 := v79
  ![0, 0, v80.toNat]

def k0_chk4 (i : grid0.Coords) (v68 : BitVec 32) : Prop :=
  (∀ (k0_h1 : k0_cond1 i = 1#1), ∀ (k0_h3 : k0_cond3 v68 = 1#1), 128 ∣ (k0_mult2 v68).toNat) ∧
  (∀ (k0_h1 : k0_cond1 i = 1#1), ∀ (k0_h3 : k0_cond3 v68 = 1#1), ∀ a, (k0_off6 v68) a + S16x224x128.size a ≤ S16x224x50000.size a)
theorem k0_mult2_dvd : ∀ (i : grid0.Coords) (v68 : BitVec 32) (k0_hw4 : k0_chk4 i v68), ∀ (k0_h1 : k0_cond1 i = 1#1), ∀ (k0_h3 : k0_cond3 v68 = 1#1), 128 ∣ (k0_mult2 v68).toNat := fun i v68 k0_hw4 k0_h1 k0_h3 => k0_hw4.1 k0_h1 k0_h3
theorem k0_off6_inb : ∀ (i : grid0.Coords) (v68 : BitVec 32) (k0_hw4 : k0_chk4 i v68), ∀ (k0_h1 : k0_cond1 i = 1#1), ∀ (k0_h3 : k0_cond3 v68 = 1#1), ∀ a, (k0_off6 v68) a + S16x224x128.size a ≤ S16x224x50000.size a := fun i v68 k0_hw4 k0_h1 k0_h3 => k0_hw4.2 k0_h1 k0_h3

def k0_off7 (v72 : BitVec 32) : Fin 1 → Nat :=
  let c2_i32 : BitVec 32 := 2#32
  let v73 : BitVec 32 := Scalar.minsi c2_i32 v72
  let v74 : Index := Scalar.indexCast v73
  ![v74.toNat]

def k0_chk5 (i : grid0.Coords) (v72 : BitVec 32) : Prop :=
  (∀ (k0_h1 : k0_cond1 i = 1#1), ∀ a, (k0_off7 v72) a + S1.size a ≤ S500.size a)
theorem k0_off7_inb : ∀ (i : grid0.Coords) (v72 : BitVec 32) (k0_hw5 : k0_chk5 i v72), ∀ (k0_h1 : k0_cond1 i = 1#1), ∀ a, (k0_off7 v72) a + S1.size a ≤ S500.size a := fun i v72 k0_hw5 k0_h1 => k0_hw5 k0_h1

def k0_mult3 (v75 : BitVec 32) : BitVec 32 :=
  let c128_i32 : BitVec 32 := 128#32
  let v79 : BitVec 32 := Scalar.muli v75 c128_i32
  v79
def k0_cond4 (v75 : BitVec 32) : BitVec 1 :=
  let c390_i32_28 : BitVec 32 := 390#32
  let v76 : BitVec 1 := Scalar.cmpi .ne v75 c390_i32_28
  let v77 : BitVec 32 := Scalar.extui v76
  let c0_i32_29 : BitVec 32 := 0#32
  let v78 : BitVec 1 := Scalar.cmpi .ne v77 c0_i32_29
  v78

def k0_off8 (v75 : BitVec 32) : Fin 3 → Nat :=
  let c0_i32_35 : BitVec 32 := 0#32
  let c0_i32_36 : BitVec 32 := 0#32
  let c128_i32 : BitVec 32 := 128#32
  let v79 : BitVec 32 := Scalar.muli v75 c128_i32
  let v80 : BitVec 32 := v79
  ![0, 0, v80.toNat]

def k0_chk6 (i : grid0.Coords) (v75 : BitVec 32) : Prop :=
  (∀ (k0_h1 : k0_cond1 i = 1#1), ∀ (k0_h4 : k0_cond4 v75 = 1#1), 128 ∣ (k0_mult3 v75).toNat) ∧
  (∀ (k0_h1 : k0_cond1 i = 1#1), ∀ (k0_h4 : k0_cond4 v75 = 1#1), ∀ a, (k0_off8 v75) a + S16x224x128.size a ≤ S16x224x50000.size a)
theorem k0_mult3_dvd : ∀ (i : grid0.Coords) (v75 : BitVec 32) (k0_hw6 : k0_chk6 i v75), ∀ (k0_h1 : k0_cond1 i = 1#1), ∀ (k0_h4 : k0_cond4 v75 = 1#1), 128 ∣ (k0_mult3 v75).toNat := fun i v75 k0_hw6 k0_h1 k0_h4 => k0_hw6.1 k0_h1 k0_h4
theorem k0_off8_inb : ∀ (i : grid0.Coords) (v75 : BitVec 32) (k0_hw6 : k0_chk6 i v75), ∀ (k0_h1 : k0_cond1 i = 1#1), ∀ (k0_h4 : k0_cond4 v75 = 1#1), ∀ a, (k0_off8 v75) a + S16x224x128.size a ≤ S16x224x50000.size a := fun i v75 k0_hw6 k0_h1 k0_h4 => k0_hw6.2 k0_h1 k0_h4

def k0_off9 (i : grid0.Coords) : Fin 1 → Nat :=
  let arg0 : BitVec 32 := BitVec.ofNat 32 (i 0).val
  let v58 : Index := Scalar.indexCast arg0
  ![v58.toNat]
def k0_off10 (v1 : BitVec 32) (v62 : BitVec 32) : Fin 1 → Nat :=
  let c4_i32 : BitVec 32 := 4#32
  let v60 : BitVec 32 := Scalar.addi v1 c4_i32
  let c1_i32_21 : BitVec 32 := 1#32
  let v61 : BitVec 32 := Scalar.subi v60 c1_i32_21
  let v63 : BitVec 32 := Scalar.minsi v61 v62
  let v64 : Index := Scalar.indexCast v63
  ![v64.toNat]
def k0_cond5 (i : grid0.Coords) (v1 : BitVec 32) (v6 : BitVec 32) : BitVec 1 :=
  let arg0 : BitVec 32 := BitVec.ofNat 32 (i 0).val
  let c0_i32 : BitVec 32 := 0#32
  let v2 : BitVec 1 := Scalar.cmpi .eq arg0 c0_i32
  let v7 : BitVec 1 := Scalar.cmpi .ne v6 v1
  let v8 : BitVec 1 := Scalar.ori v2 v7
  let v12 : BitVec 32 := Scalar.extui v8
  let c0_i32_3 : BitVec 32 := 0#32
  let v13 : BitVec 1 := Scalar.cmpi .ne v12 c0_i32_3
  v13

def k0_chk7 (i : grid0.Coords) (v1 : BitVec 32) (v6 : BitVec 32) (v62 : BitVec 32) : Prop :=
  (∀ (k0_h5 : k0_cond5 i v1 v6 = 1#1), ∀ a, (k0_off10 v1 v62) a + S1.size a ≤ S500.size a)
theorem k0_off10_inb : ∀ (i : grid0.Coords) (v1 : BitVec 32) (v6 : BitVec 32) (v62 : BitVec 32) (k0_hw7 : k0_chk7 i v1 v6 v62), ∀ (k0_h5 : k0_cond5 i v1 v6 = 1#1), ∀ a, (k0_off10 v1 v62) a + S1.size a ≤ S500.size a := fun i v1 v6 v62 k0_hw7 k0_h5 => k0_hw7 k0_h5

def k0_mult4 (v65 : BitVec 32) : BitVec 32 :=
  let c128_i32 : BitVec 32 := 128#32
  let v87 : BitVec 32 := Scalar.muli v65 c128_i32
  v87
def k0_cond6 (v65 : BitVec 32) : BitVec 1 :=
  let c390_i32 : BitVec 32 := 390#32
  let v66 : BitVec 1 := Scalar.cmpi .ne v65 c390_i32
  let v67 : BitVec 32 := Scalar.extui v66
  let c0_i32_22 : BitVec 32 := 0#32
  let v68 : BitVec 1 := Scalar.cmpi .ne v67 c0_i32_22
  v68

def k0_off11 (v1 : BitVec 32) : Fin 1 → Nat :=
  let c4_i32_27 : BitVec 32 := 4#32
  let v75 : BitVec 32 := Scalar.addi v1 c4_i32_27
  let c1_i32_28 : BitVec 32 := 1#32
  let v76 : BitVec 32 := Scalar.subi v75 c1_i32_28
  let c4_i32_29 : BitVec 32 := 4#32
  let c0_i32_30 : BitVec 32 := 0#32
  let v77 : BitVec 1 := Scalar.cmpi .eq c4_i32_29 c0_i32_30
  let c1_i32_31 : BitVec 32 := 1#32
  let v78 : BitVec 32 := Scalar.select v77 c1_i32_31 c4_i32_29
  let v79 : BitVec 32 := Scalar.remsi v76 v78
  let c0_i32_33 : BitVec 32 := 0#32
  let v81 : BitVec 1 := Scalar.cmpi .slt v79 c0_i32_33
  let c0_i32_34 : BitVec 32 := 0#32
  let v82 : BitVec 1 := Scalar.cmpi .slt v78 c0_i32_34
  let v83 : BitVec 1 := Scalar.xori v81 v82
  let c0_i32_32 : BitVec 32 := 0#32
  let v80 : BitVec 1 := Scalar.cmpi .ne v79 c0_i32_32
  let v84 : BitVec 1 := Scalar.andi v83 v80
  let v85 : BitVec 32 := Scalar.addi v79 v78
  let v86 : BitVec 32 := Scalar.select v84 v85 v79
  ![v86.toNat]
def k0_off12 (v1 : BitVec 32) : Fin 4 → Nat :=
  let c4_i32_27 : BitVec 32 := 4#32
  let v75 : BitVec 32 := Scalar.addi v1 c4_i32_27
  let c1_i32_28 : BitVec 32 := 1#32
  let v76 : BitVec 32 := Scalar.subi v75 c1_i32_28
  let c4_i32_29 : BitVec 32 := 4#32
  let c0_i32_30 : BitVec 32 := 0#32
  let v77 : BitVec 1 := Scalar.cmpi .eq c4_i32_29 c0_i32_30
  let c1_i32_31 : BitVec 32 := 1#32
  let v78 : BitVec 32 := Scalar.select v77 c1_i32_31 c4_i32_29
  let v79 : BitVec 32 := Scalar.remsi v76 v78
  let c0_i32_33 : BitVec 32 := 0#32
  let v81 : BitVec 1 := Scalar.cmpi .slt v79 c0_i32_33
  let c0_i32_34 : BitVec 32 := 0#32
  let v82 : BitVec 1 := Scalar.cmpi .slt v78 c0_i32_34
  let v83 : BitVec 1 := Scalar.xori v81 v82
  let c0_i32_32 : BitVec 32 := 0#32
  let v80 : BitVec 1 := Scalar.cmpi .ne v79 c0_i32_32
  let v84 : BitVec 1 := Scalar.andi v83 v80
  let v85 : BitVec 32 := Scalar.addi v79 v78
  let v86 : BitVec 32 := Scalar.select v84 v85 v79
  let c0_i32_35 : BitVec 32 := 0#32
  let c0_i32_36 : BitVec 32 := 0#32
  let c0_i32_37 : BitVec 32 := 0#32
  ![v86.toNat, 0, 0, 0]
def k0_off13 (v65 : BitVec 32) : Fin 3 → Nat :=
  let c0_i32_38 : BitVec 32 := 0#32
  let c0_i32_39 : BitVec 32 := 0#32
  let c128_i32 : BitVec 32 := 128#32
  let v87 : BitVec 32 := Scalar.muli v65 c128_i32
  let v88 : BitVec 32 := v87
  ![0, 0, v88.toNat]

def k0_chk8 (i : grid0.Coords) (v1 : BitVec 32) (v6 : BitVec 32) (v65 : BitVec 32) : Prop :=
  (∀ (k0_h5 : k0_cond5 i v1 v6 = 1#1), ∀ (k0_h6 : k0_cond6 v65 = 1#1), 128 ∣ (k0_mult4 v65).toNat) ∧
  (∀ (k0_h5 : k0_cond5 i v1 v6 = 1#1), ∀ (k0_h6 : k0_cond6 v65 = 1#1), ∀ a, (k0_off11 v1) a + S1.size a ≤ S4.size a) ∧
  (∀ (k0_h5 : k0_cond5 i v1 v6 = 1#1), ∀ (k0_h6 : k0_cond6 v65 = 1#1), ∀ a, (k0_off12 v1) a + S1x16x224x128.size a ≤ S4x16x224x128.size a) ∧
  (∀ (k0_h5 : k0_cond5 i v1 v6 = 1#1), ∀ (k0_h6 : k0_cond6 v65 = 1#1), ∀ a, (k0_off13 v65) a + S16x224x128.size a ≤ S16x224x50000.size a)
theorem k0_mult4_dvd : ∀ (i : grid0.Coords) (v1 : BitVec 32) (v6 : BitVec 32) (v65 : BitVec 32) (k0_hw8 : k0_chk8 i v1 v6 v65), ∀ (k0_h5 : k0_cond5 i v1 v6 = 1#1), ∀ (k0_h6 : k0_cond6 v65 = 1#1), 128 ∣ (k0_mult4 v65).toNat := fun i v1 v6 v65 k0_hw8 k0_h5 k0_h6 => k0_hw8.1 k0_h5 k0_h6
theorem k0_off11_inb : ∀ (i : grid0.Coords) (v1 : BitVec 32) (v6 : BitVec 32) (v65 : BitVec 32) (k0_hw8 : k0_chk8 i v1 v6 v65), ∀ (k0_h5 : k0_cond5 i v1 v6 = 1#1), ∀ (k0_h6 : k0_cond6 v65 = 1#1), ∀ a, (k0_off11 v1) a + S1.size a ≤ S4.size a := fun i v1 v6 v65 k0_hw8 k0_h5 k0_h6 => k0_hw8.2.1 k0_h5 k0_h6
theorem k0_off12_inb : ∀ (i : grid0.Coords) (v1 : BitVec 32) (v6 : BitVec 32) (v65 : BitVec 32) (k0_hw8 : k0_chk8 i v1 v6 v65), ∀ (k0_h5 : k0_cond5 i v1 v6 = 1#1), ∀ (k0_h6 : k0_cond6 v65 = 1#1), ∀ a, (k0_off12 v1) a + S1x16x224x128.size a ≤ S4x16x224x128.size a := fun i v1 v6 v65 k0_hw8 k0_h5 k0_h6 => k0_hw8.2.2.1 k0_h5 k0_h6
theorem k0_off13_inb : ∀ (i : grid0.Coords) (v1 : BitVec 32) (v6 : BitVec 32) (v65 : BitVec 32) (k0_hw8 : k0_chk8 i v1 v6 v65), ∀ (k0_h5 : k0_cond5 i v1 v6 = 1#1), ∀ (k0_h6 : k0_cond6 v65 = 1#1), ∀ a, (k0_off13 v65) a + S16x224x128.size a ≤ S16x224x50000.size a := fun i v1 v6 v65 k0_hw8 k0_h5 k0_h6 => k0_hw8.2.2.2 k0_h5 k0_h6

def k0_mult5 (v59 : BitVec 32) : BitVec 32 :=
  let c128_i32 : BitVec 32 := 128#32
  let v85 : BitVec 32 := Scalar.muli v59 c128_i32
  v85
def k0_cond7 (v59 : BitVec 32) : BitVec 1 :=
  let c390_i32_23 : BitVec 32 := 390#32
  let v69 : BitVec 1 := Scalar.cmpi .ne v59 c390_i32_23
  let v70 : BitVec 32 := Scalar.extui v69
  let c0_i32_24 : BitVec 32 := 0#32
  let v71 : BitVec 1 := Scalar.cmpi .ne v70 c0_i32_24
  v71

def k0_off14 (v1 : BitVec 32) : Fin 1 → Nat :=
  let c4_i32_27 : BitVec 32 := 4#32
  let c0_i32_28 : BitVec 32 := 0#32
  let v75 : BitVec 1 := Scalar.cmpi .eq c4_i32_27 c0_i32_28
  let c1_i32_29 : BitVec 32 := 1#32
  let v76 : BitVec 32 := Scalar.select v75 c1_i32_29 c4_i32_27
  let v77 : BitVec 32 := Scalar.remsi v1 v76
  let c0_i32_31 : BitVec 32 := 0#32
  let v79 : BitVec 1 := Scalar.cmpi .slt v77 c0_i32_31
  let c0_i32_32 : BitVec 32 := 0#32
  let v80 : BitVec 1 := Scalar.cmpi .slt v76 c0_i32_32
  let v81 : BitVec 1 := Scalar.xori v79 v80
  let c0_i32_30 : BitVec 32 := 0#32
  let v78 : BitVec 1 := Scalar.cmpi .ne v77 c0_i32_30
  let v82 : BitVec 1 := Scalar.andi v81 v78
  let v83 : BitVec 32 := Scalar.addi v77 v76
  let v84 : BitVec 32 := Scalar.select v82 v83 v77
  ![v84.toNat]
def k0_off15 (v1 : BitVec 32) : Fin 4 → Nat :=
  let c4_i32_27 : BitVec 32 := 4#32
  let c0_i32_28 : BitVec 32 := 0#32
  let v75 : BitVec 1 := Scalar.cmpi .eq c4_i32_27 c0_i32_28
  let c1_i32_29 : BitVec 32 := 1#32
  let v76 : BitVec 32 := Scalar.select v75 c1_i32_29 c4_i32_27
  let v77 : BitVec 32 := Scalar.remsi v1 v76
  let c0_i32_31 : BitVec 32 := 0#32
  let v79 : BitVec 1 := Scalar.cmpi .slt v77 c0_i32_31
  let c0_i32_32 : BitVec 32 := 0#32
  let v80 : BitVec 1 := Scalar.cmpi .slt v76 c0_i32_32
  let v81 : BitVec 1 := Scalar.xori v79 v80
  let c0_i32_30 : BitVec 32 := 0#32
  let v78 : BitVec 1 := Scalar.cmpi .ne v77 c0_i32_30
  let v82 : BitVec 1 := Scalar.andi v81 v78
  let v83 : BitVec 32 := Scalar.addi v77 v76
  let v84 : BitVec 32 := Scalar.select v82 v83 v77
  let c0_i32_33 : BitVec 32 := 0#32
  let c0_i32_34 : BitVec 32 := 0#32
  let c0_i32_35 : BitVec 32 := 0#32
  ![v84.toNat, 0, 0, 0]
def k0_off16 (v59 : BitVec 32) : Fin 3 → Nat :=
  let c0_i32_36 : BitVec 32 := 0#32
  let c0_i32_37 : BitVec 32 := 0#32
  let c128_i32 : BitVec 32 := 128#32
  let v85 : BitVec 32 := Scalar.muli v59 c128_i32
  let v86 : BitVec 32 := v85
  ![0, 0, v86.toNat]
def k0_off17 (v1 : BitVec 32) : Fin 4 → Nat :=
  let c4_i32_38 : BitVec 32 := 4#32
  let c0_i32_39 : BitVec 32 := 0#32
  let v92 : BitVec 1 := Scalar.cmpi .eq c4_i32_38 c0_i32_39
  let c1_i32_40 : BitVec 32 := 1#32
  let v93 : BitVec 32 := Scalar.select v92 c1_i32_40 c4_i32_38
  let v94 : BitVec 32 := Scalar.remsi v1 v93
  let c0_i32_42 : BitVec 32 := 0#32
  let v96 : BitVec 1 := Scalar.cmpi .slt v94 c0_i32_42
  let c0_i32_43 : BitVec 32 := 0#32
  let v97 : BitVec 1 := Scalar.cmpi .slt v93 c0_i32_43
  let v98 : BitVec 1 := Scalar.xori v96 v97
  let c0_i32_41 : BitVec 32 := 0#32
  let v95 : BitVec 1 := Scalar.cmpi .ne v94 c0_i32_41
  let v99 : BitVec 1 := Scalar.andi v98 v95
  let v100 : BitVec 32 := Scalar.addi v94 v93
  let v101 : BitVec 32 := Scalar.select v99 v100 v94
  let v102 : Index := Scalar.indexCast v101
  let c0_44 : Index := 0#32
  let c0_45 : Index := 0#32
  let c0_46 : Index := 0#32
  ![v102.toNat, 0, 0, 0]

def k0_chk9 (i : grid0.Coords) (v1 : BitVec 32) (v6 : BitVec 32) (v59 : BitVec 32) : Prop :=
  (∀ (k0_h5 : k0_cond5 i v1 v6 = 1#1), ∀ (k0_h7 : k0_cond7 v59 = 1#1), 128 ∣ (k0_mult5 v59).toNat) ∧
  (∀ (k0_h5 : k0_cond5 i v1 v6 = 1#1), ∀ (k0_h7 : k0_cond7 v59 = 1#1), ∀ a, (k0_off14 v1) a + S1.size a ≤ S4.size a) ∧
  (∀ (k0_h5 : k0_cond5 i v1 v6 = 1#1), ∀ (k0_h7 : k0_cond7 v59 = 1#1), ∀ a, (k0_off15 v1) a + S1x16x224x128.size a ≤ S4x16x224x128.size a) ∧
  (∀ (k0_h5 : k0_cond5 i v1 v6 = 1#1), ∀ (k0_h7 : k0_cond7 v59 = 1#1), ∀ a, (k0_off16 v59) a + S16x224x128.size a ≤ S16x224x50000.size a) ∧
  (∀ (k0_h5 : k0_cond5 i v1 v6 = 1#1), ∀ (k0_h7 : k0_cond7 v59 = 1#1), ∀ a, (k0_off17 v1) a + S1x16x224x128.size a ≤ S4x16x224x128.size a)
theorem k0_mult5_dvd : ∀ (i : grid0.Coords) (v1 : BitVec 32) (v6 : BitVec 32) (v59 : BitVec 32) (k0_hw9 : k0_chk9 i v1 v6 v59), ∀ (k0_h5 : k0_cond5 i v1 v6 = 1#1), ∀ (k0_h7 : k0_cond7 v59 = 1#1), 128 ∣ (k0_mult5 v59).toNat := fun i v1 v6 v59 k0_hw9 k0_h5 k0_h7 => k0_hw9.1 k0_h5 k0_h7
theorem k0_off14_inb : ∀ (i : grid0.Coords) (v1 : BitVec 32) (v6 : BitVec 32) (v59 : BitVec 32) (k0_hw9 : k0_chk9 i v1 v6 v59), ∀ (k0_h5 : k0_cond5 i v1 v6 = 1#1), ∀ (k0_h7 : k0_cond7 v59 = 1#1), ∀ a, (k0_off14 v1) a + S1.size a ≤ S4.size a := fun i v1 v6 v59 k0_hw9 k0_h5 k0_h7 => k0_hw9.2.1 k0_h5 k0_h7
theorem k0_off15_inb : ∀ (i : grid0.Coords) (v1 : BitVec 32) (v6 : BitVec 32) (v59 : BitVec 32) (k0_hw9 : k0_chk9 i v1 v6 v59), ∀ (k0_h5 : k0_cond5 i v1 v6 = 1#1), ∀ (k0_h7 : k0_cond7 v59 = 1#1), ∀ a, (k0_off15 v1) a + S1x16x224x128.size a ≤ S4x16x224x128.size a := fun i v1 v6 v59 k0_hw9 k0_h5 k0_h7 => k0_hw9.2.2.1 k0_h5 k0_h7
theorem k0_off16_inb : ∀ (i : grid0.Coords) (v1 : BitVec 32) (v6 : BitVec 32) (v59 : BitVec 32) (k0_hw9 : k0_chk9 i v1 v6 v59), ∀ (k0_h5 : k0_cond5 i v1 v6 = 1#1), ∀ (k0_h7 : k0_cond7 v59 = 1#1), ∀ a, (k0_off16 v59) a + S16x224x128.size a ≤ S16x224x50000.size a := fun i v1 v6 v59 k0_hw9 k0_h5 k0_h7 => k0_hw9.2.2.2.1 k0_h5 k0_h7
theorem k0_off17_inb : ∀ (i : grid0.Coords) (v1 : BitVec 32) (v6 : BitVec 32) (v59 : BitVec 32) (k0_hw9 : k0_chk9 i v1 v6 v59), ∀ (k0_h5 : k0_cond5 i v1 v6 = 1#1), ∀ (k0_h7 : k0_cond7 v59 = 1#1), ∀ a, (k0_off17 v1) a + S1x16x224x128.size a ≤ S4x16x224x128.size a := fun i v1 v6 v59 k0_hw9 k0_h5 k0_h7 => k0_hw9.2.2.2.2 k0_h5 k0_h7

def k0_cond9 (i : grid0.Coords) : BitVec 1 :=
  let arg0 : BitVec 32 := BitVec.ofNat 32 (i 0).val
  let c499_i32 : BitVec 32 := 499#32
  let v14 : BitVec 1 := Scalar.cmpi .eq arg0 c499_i32
  let v15 : BitVec 32 := Scalar.extui v14
  let c0_i32_4 : BitVec 32 := 0#32
  let v16 : BitVec 1 := Scalar.cmpi .ne v15 c0_i32_4
  v16

def k0_off18 (v1 : BitVec 32) (v59 : BitVec 32) : Fin 1 → Nat :=
  let c1_i32_21 : BitVec 32 := 1#32
  let v58 : BitVec 32 := Scalar.addi v1 c1_i32_21
  let v60 : BitVec 32 := Scalar.minsi v58 v59
  let v61 : Index := Scalar.indexCast v60
  ![v61.toNat]

def k0_chk10 (i : grid0.Coords) (v1 : BitVec 32) (v59 : BitVec 32) : Prop :=
  (∀ (k0_h9 : k0_cond9 i = 1#1), ∀ a, (k0_off18 v1 v59) a + S1.size a ≤ S500.size a)
theorem k0_off18_inb : ∀ (i : grid0.Coords) (v1 : BitVec 32) (v59 : BitVec 32) (k0_hw10 : k0_chk10 i v1 v59), ∀ (k0_h9 : k0_cond9 i = 1#1), ∀ a, (k0_off18 v1 v59) a + S1.size a ≤ S500.size a := fun i v1 v59 k0_hw10 k0_h9 => k0_hw10 k0_h9

def k0_mult6 (v62 : BitVec 32) : BitVec 32 :=
  let c128_i32 : BitVec 32 := 128#32
  let v93 : BitVec 32 := Scalar.muli v62 c128_i32
  v93
def k0_cond10 (v62 : BitVec 32) : BitVec 1 :=
  let c390_i32 : BitVec 32 := 390#32
  let v63 : BitVec 1 := Scalar.cmpi .ne v62 c390_i32
  let v64 : BitVec 32 := Scalar.extui v63
  let c0_i32_22 : BitVec 32 := 0#32
  let v65 : BitVec 1 := Scalar.cmpi .ne v64 c0_i32_22
  v65

def k0_off19 (v1 : BitVec 32) : Fin 1 → Nat :=
  let c1_i32_29 : BitVec 32 := 1#32
  let v82 : BitVec 32 := Scalar.addi v1 c1_i32_29
  let c4_i32 : BitVec 32 := 4#32
  let c0_i32_30 : BitVec 32 := 0#32
  let v83 : BitVec 1 := Scalar.cmpi .eq c4_i32 c0_i32_30
  let c1_i32_31 : BitVec 32 := 1#32
  let v84 : BitVec 32 := Scalar.select v83 c1_i32_31 c4_i32
  let v85 : BitVec 32 := Scalar.remsi v82 v84
  let c0_i32_33 : BitVec 32 := 0#32
  let v87 : BitVec 1 := Scalar.cmpi .slt v85 c0_i32_33
  let c0_i32_34 : BitVec 32 := 0#32
  let v88 : BitVec 1 := Scalar.cmpi .slt v84 c0_i32_34
  let v89 : BitVec 1 := Scalar.xori v87 v88
  let c0_i32_32 : BitVec 32 := 0#32
  let v86 : BitVec 1 := Scalar.cmpi .ne v85 c0_i32_32
  let v90 : BitVec 1 := Scalar.andi v89 v86
  let v91 : BitVec 32 := Scalar.addi v85 v84
  let v92 : BitVec 32 := Scalar.select v90 v91 v85
  ![v92.toNat]
def k0_off20 (v1 : BitVec 32) : Fin 4 → Nat :=
  let c1_i32_29 : BitVec 32 := 1#32
  let v82 : BitVec 32 := Scalar.addi v1 c1_i32_29
  let c4_i32 : BitVec 32 := 4#32
  let c0_i32_30 : BitVec 32 := 0#32
  let v83 : BitVec 1 := Scalar.cmpi .eq c4_i32 c0_i32_30
  let c1_i32_31 : BitVec 32 := 1#32
  let v84 : BitVec 32 := Scalar.select v83 c1_i32_31 c4_i32
  let v85 : BitVec 32 := Scalar.remsi v82 v84
  let c0_i32_33 : BitVec 32 := 0#32
  let v87 : BitVec 1 := Scalar.cmpi .slt v85 c0_i32_33
  let c0_i32_34 : BitVec 32 := 0#32
  let v88 : BitVec 1 := Scalar.cmpi .slt v84 c0_i32_34
  let v89 : BitVec 1 := Scalar.xori v87 v88
  let c0_i32_32 : BitVec 32 := 0#32
  let v86 : BitVec 1 := Scalar.cmpi .ne v85 c0_i32_32
  let v90 : BitVec 1 := Scalar.andi v89 v86
  let v91 : BitVec 32 := Scalar.addi v85 v84
  let v92 : BitVec 32 := Scalar.select v90 v91 v85
  let c0_i32_35 : BitVec 32 := 0#32
  let c0_i32_36 : BitVec 32 := 0#32
  let c0_i32_37 : BitVec 32 := 0#32
  ![v92.toNat, 0, 0, 0]
def k0_off21 (v62 : BitVec 32) : Fin 3 → Nat :=
  let c0_i32_38 : BitVec 32 := 0#32
  let c0_i32_39 : BitVec 32 := 0#32
  let c128_i32 : BitVec 32 := 128#32
  let v93 : BitVec 32 := Scalar.muli v62 c128_i32
  let v94 : BitVec 32 := v93
  ![0, 0, v94.toNat]

def k0_chk11 (i : grid0.Coords) (v1 : BitVec 32) (v62 : BitVec 32) : Prop :=
  (∀ (k0_h9 : k0_cond9 i = 1#1), ∀ (k0_h10 : k0_cond10 v62 = 1#1), 128 ∣ (k0_mult6 v62).toNat) ∧
  (∀ (k0_h9 : k0_cond9 i = 1#1), ∀ (k0_h10 : k0_cond10 v62 = 1#1), ∀ a, (k0_off19 v1) a + S1.size a ≤ S4.size a) ∧
  (∀ (k0_h9 : k0_cond9 i = 1#1), ∀ (k0_h10 : k0_cond10 v62 = 1#1), ∀ a, (k0_off20 v1) a + S1x16x224x128.size a ≤ S4x16x224x128.size a) ∧
  (∀ (k0_h9 : k0_cond9 i = 1#1), ∀ (k0_h10 : k0_cond10 v62 = 1#1), ∀ a, (k0_off21 v62) a + S16x224x128.size a ≤ S16x224x50000.size a)
theorem k0_mult6_dvd : ∀ (i : grid0.Coords) (v1 : BitVec 32) (v62 : BitVec 32) (k0_hw11 : k0_chk11 i v1 v62), ∀ (k0_h9 : k0_cond9 i = 1#1), ∀ (k0_h10 : k0_cond10 v62 = 1#1), 128 ∣ (k0_mult6 v62).toNat := fun i v1 v62 k0_hw11 k0_h9 k0_h10 => k0_hw11.1 k0_h9 k0_h10
theorem k0_off19_inb : ∀ (i : grid0.Coords) (v1 : BitVec 32) (v62 : BitVec 32) (k0_hw11 : k0_chk11 i v1 v62), ∀ (k0_h9 : k0_cond9 i = 1#1), ∀ (k0_h10 : k0_cond10 v62 = 1#1), ∀ a, (k0_off19 v1) a + S1.size a ≤ S4.size a := fun i v1 v62 k0_hw11 k0_h9 k0_h10 => k0_hw11.2.1 k0_h9 k0_h10
theorem k0_off20_inb : ∀ (i : grid0.Coords) (v1 : BitVec 32) (v62 : BitVec 32) (k0_hw11 : k0_chk11 i v1 v62), ∀ (k0_h9 : k0_cond9 i = 1#1), ∀ (k0_h10 : k0_cond10 v62 = 1#1), ∀ a, (k0_off20 v1) a + S1x16x224x128.size a ≤ S4x16x224x128.size a := fun i v1 v62 k0_hw11 k0_h9 k0_h10 => k0_hw11.2.2.1 k0_h9 k0_h10
theorem k0_off21_inb : ∀ (i : grid0.Coords) (v1 : BitVec 32) (v62 : BitVec 32) (k0_hw11 : k0_chk11 i v1 v62), ∀ (k0_h9 : k0_cond9 i = 1#1), ∀ (k0_h10 : k0_cond10 v62 = 1#1), ∀ a, (k0_off21 v62) a + S16x224x128.size a ≤ S16x224x50000.size a := fun i v1 v62 k0_hw11 k0_h9 k0_h10 => k0_hw11.2.2.2 k0_h9 k0_h10

def k0_off22 (v1 : BitVec 32) (v67 : BitVec 32) : Fin 1 → Nat :=
  let c2_i32 : BitVec 32 := 2#32
  let v66 : BitVec 32 := Scalar.addi v1 c2_i32
  let v68 : BitVec 32 := Scalar.minsi v66 v67
  let v69 : Index := Scalar.indexCast v68
  ![v69.toNat]

def k0_chk12 (i : grid0.Coords) (v1 : BitVec 32) (v67 : BitVec 32) : Prop :=
  (∀ (k0_h9 : k0_cond9 i = 1#1), ∀ a, (k0_off22 v1 v67) a + S1.size a ≤ S500.size a)
theorem k0_off22_inb : ∀ (i : grid0.Coords) (v1 : BitVec 32) (v67 : BitVec 32) (k0_hw12 : k0_chk12 i v1 v67), ∀ (k0_h9 : k0_cond9 i = 1#1), ∀ a, (k0_off22 v1 v67) a + S1.size a ≤ S500.size a := fun i v1 v67 k0_hw12 k0_h9 => k0_hw12 k0_h9

def k0_mult7 (v70 : BitVec 32) : BitVec 32 :=
  let c128_i32 : BitVec 32 := 128#32
  let v93 : BitVec 32 := Scalar.muli v70 c128_i32
  v93
def k0_cond11 (v70 : BitVec 32) : BitVec 1 :=
  let c390_i32_24 : BitVec 32 := 390#32
  let v71 : BitVec 1 := Scalar.cmpi .ne v70 c390_i32_24
  let v72 : BitVec 32 := Scalar.extui v71
  let c0_i32_25 : BitVec 32 := 0#32
  let v73 : BitVec 1 := Scalar.cmpi .ne v72 c0_i32_25
  v73

def k0_off23 (v1 : BitVec 32) : Fin 1 → Nat :=
  let c2_i32_29 : BitVec 32 := 2#32
  let v82 : BitVec 32 := Scalar.addi v1 c2_i32_29
  let c4_i32 : BitVec 32 := 4#32
  let c0_i32_30 : BitVec 32 := 0#32
  let v83 : BitVec 1 := Scalar.cmpi .eq c4_i32 c0_i32_30
  let c1_i32_31 : BitVec 32 := 1#32
  let v84 : BitVec 32 := Scalar.select v83 c1_i32_31 c4_i32
  let v85 : BitVec 32 := Scalar.remsi v82 v84
  let c0_i32_33 : BitVec 32 := 0#32
  let v87 : BitVec 1 := Scalar.cmpi .slt v85 c0_i32_33
  let c0_i32_34 : BitVec 32 := 0#32
  let v88 : BitVec 1 := Scalar.cmpi .slt v84 c0_i32_34
  let v89 : BitVec 1 := Scalar.xori v87 v88
  let c0_i32_32 : BitVec 32 := 0#32
  let v86 : BitVec 1 := Scalar.cmpi .ne v85 c0_i32_32
  let v90 : BitVec 1 := Scalar.andi v89 v86
  let v91 : BitVec 32 := Scalar.addi v85 v84
  let v92 : BitVec 32 := Scalar.select v90 v91 v85
  ![v92.toNat]
def k0_off24 (v1 : BitVec 32) : Fin 4 → Nat :=
  let c2_i32_29 : BitVec 32 := 2#32
  let v82 : BitVec 32 := Scalar.addi v1 c2_i32_29
  let c4_i32 : BitVec 32 := 4#32
  let c0_i32_30 : BitVec 32 := 0#32
  let v83 : BitVec 1 := Scalar.cmpi .eq c4_i32 c0_i32_30
  let c1_i32_31 : BitVec 32 := 1#32
  let v84 : BitVec 32 := Scalar.select v83 c1_i32_31 c4_i32
  let v85 : BitVec 32 := Scalar.remsi v82 v84
  let c0_i32_33 : BitVec 32 := 0#32
  let v87 : BitVec 1 := Scalar.cmpi .slt v85 c0_i32_33
  let c0_i32_34 : BitVec 32 := 0#32
  let v88 : BitVec 1 := Scalar.cmpi .slt v84 c0_i32_34
  let v89 : BitVec 1 := Scalar.xori v87 v88
  let c0_i32_32 : BitVec 32 := 0#32
  let v86 : BitVec 1 := Scalar.cmpi .ne v85 c0_i32_32
  let v90 : BitVec 1 := Scalar.andi v89 v86
  let v91 : BitVec 32 := Scalar.addi v85 v84
  let v92 : BitVec 32 := Scalar.select v90 v91 v85
  let c0_i32_35 : BitVec 32 := 0#32
  let c0_i32_36 : BitVec 32 := 0#32
  let c0_i32_37 : BitVec 32 := 0#32
  ![v92.toNat, 0, 0, 0]
def k0_off25 (v70 : BitVec 32) : Fin 3 → Nat :=
  let c0_i32_38 : BitVec 32 := 0#32
  let c0_i32_39 : BitVec 32 := 0#32
  let c128_i32 : BitVec 32 := 128#32
  let v93 : BitVec 32 := Scalar.muli v70 c128_i32
  let v94 : BitVec 32 := v93
  ![0, 0, v94.toNat]

def k0_chk13 (i : grid0.Coords) (v1 : BitVec 32) (v70 : BitVec 32) : Prop :=
  (∀ (k0_h9 : k0_cond9 i = 1#1), ∀ (k0_h11 : k0_cond11 v70 = 1#1), 128 ∣ (k0_mult7 v70).toNat) ∧
  (∀ (k0_h9 : k0_cond9 i = 1#1), ∀ (k0_h11 : k0_cond11 v70 = 1#1), ∀ a, (k0_off23 v1) a + S1.size a ≤ S4.size a) ∧
  (∀ (k0_h9 : k0_cond9 i = 1#1), ∀ (k0_h11 : k0_cond11 v70 = 1#1), ∀ a, (k0_off24 v1) a + S1x16x224x128.size a ≤ S4x16x224x128.size a) ∧
  (∀ (k0_h9 : k0_cond9 i = 1#1), ∀ (k0_h11 : k0_cond11 v70 = 1#1), ∀ a, (k0_off25 v70) a + S16x224x128.size a ≤ S16x224x50000.size a)
theorem k0_mult7_dvd : ∀ (i : grid0.Coords) (v1 : BitVec 32) (v70 : BitVec 32) (k0_hw13 : k0_chk13 i v1 v70), ∀ (k0_h9 : k0_cond9 i = 1#1), ∀ (k0_h11 : k0_cond11 v70 = 1#1), 128 ∣ (k0_mult7 v70).toNat := fun i v1 v70 k0_hw13 k0_h9 k0_h11 => k0_hw13.1 k0_h9 k0_h11
theorem k0_off23_inb : ∀ (i : grid0.Coords) (v1 : BitVec 32) (v70 : BitVec 32) (k0_hw13 : k0_chk13 i v1 v70), ∀ (k0_h9 : k0_cond9 i = 1#1), ∀ (k0_h11 : k0_cond11 v70 = 1#1), ∀ a, (k0_off23 v1) a + S1.size a ≤ S4.size a := fun i v1 v70 k0_hw13 k0_h9 k0_h11 => k0_hw13.2.1 k0_h9 k0_h11
theorem k0_off24_inb : ∀ (i : grid0.Coords) (v1 : BitVec 32) (v70 : BitVec 32) (k0_hw13 : k0_chk13 i v1 v70), ∀ (k0_h9 : k0_cond9 i = 1#1), ∀ (k0_h11 : k0_cond11 v70 = 1#1), ∀ a, (k0_off24 v1) a + S1x16x224x128.size a ≤ S4x16x224x128.size a := fun i v1 v70 k0_hw13 k0_h9 k0_h11 => k0_hw13.2.2.1 k0_h9 k0_h11
theorem k0_off25_inb : ∀ (i : grid0.Coords) (v1 : BitVec 32) (v70 : BitVec 32) (k0_hw13 : k0_chk13 i v1 v70), ∀ (k0_h9 : k0_cond9 i = 1#1), ∀ (k0_h11 : k0_cond11 v70 = 1#1), ∀ a, (k0_off25 v70) a + S16x224x128.size a ≤ S16x224x50000.size a := fun i v1 v70 k0_hw13 k0_h9 k0_h11 => k0_hw13.2.2.2 k0_h9 k0_h11

def k0_off26 (v1 : BitVec 32) (v75 : BitVec 32) : Fin 1 → Nat :=
  let c3_i32 : BitVec 32 := 3#32
  let v74 : BitVec 32 := Scalar.addi v1 c3_i32
  let v76 : BitVec 32 := Scalar.minsi v74 v75
  let v77 : Index := Scalar.indexCast v76
  ![v77.toNat]

def k0_chk14 (i : grid0.Coords) (v1 : BitVec 32) (v75 : BitVec 32) : Prop :=
  (∀ (k0_h9 : k0_cond9 i = 1#1), ∀ a, (k0_off26 v1 v75) a + S1.size a ≤ S500.size a)
theorem k0_off26_inb : ∀ (i : grid0.Coords) (v1 : BitVec 32) (v75 : BitVec 32) (k0_hw14 : k0_chk14 i v1 v75), ∀ (k0_h9 : k0_cond9 i = 1#1), ∀ a, (k0_off26 v1 v75) a + S1.size a ≤ S500.size a := fun i v1 v75 k0_hw14 k0_h9 => k0_hw14 k0_h9

def k0_mult8 (v78 : BitVec 32) : BitVec 32 :=
  let c128_i32 : BitVec 32 := 128#32
  let v93 : BitVec 32 := Scalar.muli v78 c128_i32
  v93
def k0_cond12 (v78 : BitVec 32) : BitVec 1 :=
  let c390_i32_27 : BitVec 32 := 390#32
  let v79 : BitVec 1 := Scalar.cmpi .ne v78 c390_i32_27
  let v80 : BitVec 32 := Scalar.extui v79
  let c0_i32_28 : BitVec 32 := 0#32
  let v81 : BitVec 1 := Scalar.cmpi .ne v80 c0_i32_28
  v81

def k0_off27 (v1 : BitVec 32) : Fin 1 → Nat :=
  let c3_i32_29 : BitVec 32 := 3#32
  let v82 : BitVec 32 := Scalar.addi v1 c3_i32_29
  let c4_i32 : BitVec 32 := 4#32
  let c0_i32_30 : BitVec 32 := 0#32
  let v83 : BitVec 1 := Scalar.cmpi .eq c4_i32 c0_i32_30
  let c1_i32_31 : BitVec 32 := 1#32
  let v84 : BitVec 32 := Scalar.select v83 c1_i32_31 c4_i32
  let v85 : BitVec 32 := Scalar.remsi v82 v84
  let c0_i32_33 : BitVec 32 := 0#32
  let v87 : BitVec 1 := Scalar.cmpi .slt v85 c0_i32_33
  let c0_i32_34 : BitVec 32 := 0#32
  let v88 : BitVec 1 := Scalar.cmpi .slt v84 c0_i32_34
  let v89 : BitVec 1 := Scalar.xori v87 v88
  let c0_i32_32 : BitVec 32 := 0#32
  let v86 : BitVec 1 := Scalar.cmpi .ne v85 c0_i32_32
  let v90 : BitVec 1 := Scalar.andi v89 v86
  let v91 : BitVec 32 := Scalar.addi v85 v84
  let v92 : BitVec 32 := Scalar.select v90 v91 v85
  ![v92.toNat]
def k0_off28 (v1 : BitVec 32) : Fin 4 → Nat :=
  let c3_i32_29 : BitVec 32 := 3#32
  let v82 : BitVec 32 := Scalar.addi v1 c3_i32_29
  let c4_i32 : BitVec 32 := 4#32
  let c0_i32_30 : BitVec 32 := 0#32
  let v83 : BitVec 1 := Scalar.cmpi .eq c4_i32 c0_i32_30
  let c1_i32_31 : BitVec 32 := 1#32
  let v84 : BitVec 32 := Scalar.select v83 c1_i32_31 c4_i32
  let v85 : BitVec 32 := Scalar.remsi v82 v84
  let c0_i32_33 : BitVec 32 := 0#32
  let v87 : BitVec 1 := Scalar.cmpi .slt v85 c0_i32_33
  let c0_i32_34 : BitVec 32 := 0#32
  let v88 : BitVec 1 := Scalar.cmpi .slt v84 c0_i32_34
  let v89 : BitVec 1 := Scalar.xori v87 v88
  let c0_i32_32 : BitVec 32 := 0#32
  let v86 : BitVec 1 := Scalar.cmpi .ne v85 c0_i32_32
  let v90 : BitVec 1 := Scalar.andi v89 v86
  let v91 : BitVec 32 := Scalar.addi v85 v84
  let v92 : BitVec 32 := Scalar.select v90 v91 v85
  let c0_i32_35 : BitVec 32 := 0#32
  let c0_i32_36 : BitVec 32 := 0#32
  let c0_i32_37 : BitVec 32 := 0#32
  ![v92.toNat, 0, 0, 0]
def k0_off29 (v78 : BitVec 32) : Fin 3 → Nat :=
  let c0_i32_38 : BitVec 32 := 0#32
  let c0_i32_39 : BitVec 32 := 0#32
  let c128_i32 : BitVec 32 := 128#32
  let v93 : BitVec 32 := Scalar.muli v78 c128_i32
  let v94 : BitVec 32 := v93
  ![0, 0, v94.toNat]

def k0_chk15 (i : grid0.Coords) (v1 : BitVec 32) (v78 : BitVec 32) : Prop :=
  (∀ (k0_h9 : k0_cond9 i = 1#1), ∀ (k0_h12 : k0_cond12 v78 = 1#1), 128 ∣ (k0_mult8 v78).toNat) ∧
  (∀ (k0_h9 : k0_cond9 i = 1#1), ∀ (k0_h12 : k0_cond12 v78 = 1#1), ∀ a, (k0_off27 v1) a + S1.size a ≤ S4.size a) ∧
  (∀ (k0_h9 : k0_cond9 i = 1#1), ∀ (k0_h12 : k0_cond12 v78 = 1#1), ∀ a, (k0_off28 v1) a + S1x16x224x128.size a ≤ S4x16x224x128.size a) ∧
  (∀ (k0_h9 : k0_cond9 i = 1#1), ∀ (k0_h12 : k0_cond12 v78 = 1#1), ∀ a, (k0_off29 v78) a + S16x224x128.size a ≤ S16x224x50000.size a)
theorem k0_mult8_dvd : ∀ (i : grid0.Coords) (v1 : BitVec 32) (v78 : BitVec 32) (k0_hw15 : k0_chk15 i v1 v78), ∀ (k0_h9 : k0_cond9 i = 1#1), ∀ (k0_h12 : k0_cond12 v78 = 1#1), 128 ∣ (k0_mult8 v78).toNat := fun i v1 v78 k0_hw15 k0_h9 k0_h12 => k0_hw15.1 k0_h9 k0_h12
theorem k0_off27_inb : ∀ (i : grid0.Coords) (v1 : BitVec 32) (v78 : BitVec 32) (k0_hw15 : k0_chk15 i v1 v78), ∀ (k0_h9 : k0_cond9 i = 1#1), ∀ (k0_h12 : k0_cond12 v78 = 1#1), ∀ a, (k0_off27 v1) a + S1.size a ≤ S4.size a := fun i v1 v78 k0_hw15 k0_h9 k0_h12 => k0_hw15.2.1 k0_h9 k0_h12
theorem k0_off28_inb : ∀ (i : grid0.Coords) (v1 : BitVec 32) (v78 : BitVec 32) (k0_hw15 : k0_chk15 i v1 v78), ∀ (k0_h9 : k0_cond9 i = 1#1), ∀ (k0_h12 : k0_cond12 v78 = 1#1), ∀ a, (k0_off28 v1) a + S1x16x224x128.size a ≤ S4x16x224x128.size a := fun i v1 v78 k0_hw15 k0_h9 k0_h12 => k0_hw15.2.2.1 k0_h9 k0_h12
theorem k0_off29_inb : ∀ (i : grid0.Coords) (v1 : BitVec 32) (v78 : BitVec 32) (k0_hw15 : k0_chk15 i v1 v78), ∀ (k0_h9 : k0_cond9 i = 1#1), ∀ (k0_h12 : k0_cond12 v78 = 1#1), ∀ a, (k0_off29 v78) a + S16x224x128.size a ≤ S16x224x50000.size a := fun i v1 v78 k0_hw15 k0_h9 k0_h12 => k0_hw15.2.2.2 k0_h9 k0_h12

def k0_off30 (i : grid0.Coords) : Fin 1 → Nat :=
  let arg0 : BitVec 32 := BitVec.ofNat 32 (i 0).val
  let v17 : Index := Scalar.indexCast arg0
  ![v17.toNat]
def k0_off31 (i : grid0.Coords) : Fin 1 → Nat :=
  let arg0 : BitVec 32 := BitVec.ofNat 32 (i 0).val
  let v54 : Index := Scalar.indexCast arg0
  ![v54.toNat]
def k0_off32 (v55 : BitVec 32) : Fin 3 → Nat :=
  let v56 : Index := Scalar.indexCast v55
  let c0 : Index := 0#32
  let c0_20 : Index := 0#32
  ![v56.toNat, 0, 0]

def k0_chk16 (v55 : BitVec 32) : Prop :=
  (∀ a, (k0_off32 v55) a + S1x16x224.size a ≤ S500x16x224.size a)
theorem k0_off32_inb : ∀ (v55 : BitVec 32) (k0_hw16 : k0_chk16 v55), ∀ a, (k0_off32 v55) a + S1x16x224.size a ≤ S500x16x224.size a := fun v55 k0_hw16 => k0_hw16

def cc0_transform_1 (i : grid0.Coords) : Fin 3 → Nat :=
  let arg0 : BitVec 32 := BitVec.ofNat 32 (i 0).val
  let c0_i32 : BitVec 32 := 0#32
  let c0_i32_0 : BitVec 32 := 0#32
  let c390_i32 : BitVec 32 := 390#32
  let c0_i32_1 : BitVec 32 := 0#32
  ![c0_i32.toNat, c0_i32_0.toNat, c390_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S16x224x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S500x16x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S16x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4x16x224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x224x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S16x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S16x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S1024x16 : Shape := ⟨2, ![1024, 16]⟩
abbrev S500 : Shape := ⟨1, ![500]⟩
abbrev S50000x16x224 : Shape := ⟨3, ![50000, 16, 224]⟩
abbrev S50000x16 : Shape := ⟨2, ![50000, 16]⟩
abbrev S_ : Shape := ⟨0, ![]⟩
abbrev S500x1 : Shape := ⟨2, ![500, 1]⟩
abbrev S1 : Shape := ⟨1, ![1]⟩
abbrev S1x1 : Shape := ⟨2, ![1, 1]⟩
abbrev S500x16x224 : Shape := ⟨3, ![500, 16, 224]⟩
abbrev S1024x500x224 : Shape := ⟨3, ![1024, 500, 224]⟩
abbrev S16x50000 : Shape := ⟨2, ![16, 50000]⟩
abbrev S1024x50000 : Shape := ⟨2, ![1024, 50000]⟩

abbrev nBuf : Space → Nat
  | .hbm => 30
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S500, .i32⟩
  | .hbm, ⟨2, _⟩ => ⟨S50000x16x224, .f32⟩
  | .hbm, ⟨3, _⟩ => ⟨S50000x16, .f32⟩
  | .hbm, ⟨4, _⟩ => ⟨S_, .i32⟩
  | .hbm, ⟨5, _⟩ => ⟨S500, .i32⟩
  | .hbm, ⟨6, _⟩ => ⟨S500, .i1⟩
  | .hbm, ⟨7, _⟩ => ⟨S_, .i32⟩
  | .hbm, ⟨8, _⟩ => ⟨S500, .i32⟩
  | .hbm, ⟨9, _⟩ => ⟨S500, .i32⟩
  | .hbm, ⟨10, _⟩ => ⟨S500, .i32⟩
  | .hbm, ⟨11, _⟩ => ⟨S500x1, .i32⟩
  | .hbm, ⟨12, _⟩ => ⟨S1, .i32⟩
  | .hbm, ⟨13, _⟩ => ⟨S_, .i32⟩
  | .hbm, ⟨14, _⟩ => ⟨S500x1, .i32⟩
  | .hbm, ⟨15, _⟩ => ⟨S500x1, .i1⟩
  | .hbm, ⟨16, _⟩ => ⟨S1x1, .i32⟩
  | .hbm, ⟨17, _⟩ => ⟨S500x1, .i32⟩
  | .hbm, ⟨18, _⟩ => ⟨S500x1, .i1⟩
  | .hbm, ⟨19, _⟩ => ⟨S500x1, .i1⟩
  | .hbm, ⟨20, _⟩ => ⟨S_, .i1⟩
  | .hbm, ⟨21, _⟩ => ⟨S500, .i1⟩
  | .hbm, ⟨22, _⟩ => ⟨S500x16x224, .f32⟩
  | .hbm, ⟨23, _⟩ => ⟨S500x16x224, .i1⟩
  | .hbm, ⟨24, _⟩ => ⟨S_, .f32⟩
  | .hbm, ⟨25, _⟩ => ⟨S500x16x224, .f32⟩
  | .hbm, ⟨26, _⟩ => ⟨S500x16x224, .f32⟩
  | .hbm, ⟨27, _⟩ => ⟨S1024x500x224, .f32⟩
  | .hbm, ⟨28, _⟩ => ⟨S16x50000, .f32⟩
  | .hbm, ⟨29, _⟩ => ⟨S1024x50000, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]
-- ==== Proof.Plan.lean ====
/-
  The plan of the gather call: the tables the host prepares, as sequences of numbers, and what the four slots hold
  between two points.
-/
module

public import Idealize.ShloMosaic.Lib.Claim

@[expose] public section

namespace Cert.Plan

/-- The facts of the host's tables that the gather call relies on: tiles `T`, lanes `L`, places in the result `D`, the
    number `Q` of the tile among the distinct ones, and the distinct tiles `U`. -/
structure Facts (T L D Q U : ℕ → ℕ) : Prop where
  tile_le : ∀ i < 500, T i ≤ 390
  lane_lt : ∀ i < 500, L i < 128
  gene_lt : ∀ i < 500, T i * 128 + L i < 50000
  dest_lt : ∀ i < 500, D i < 500
  dest_surj : ∀ d < 500, ∃ i < 500, D i = d
  pos_zero : Q 0 = 0
  pos_succ : ∀ i, i + 1 < 500 → (T (i + 1) = T i ∧ Q (i + 1) = Q i) ∨ (T (i + 1) ≠ T i ∧ Q (i + 1) = Q i + 1)
  distinct : ∀ i < 500, U (Q i) = T i

variable {T L D Q U : ℕ → ℕ} (H : Facts T L D Q U)
include H

theorem Facts.pos_mono {i j : ℕ} (hij : i ≤ j) (hj : j < 500) : Q i ≤ Q j := by
  induction j, hij using Nat.le_induction with
  | base => exact le_rfl
  | succ j hij ih => have := ih (by omega); rcases H.pos_succ j hj with ⟨-, h⟩ | ⟨-, h⟩ <;> omega

theorem Facts.pos_le (i : ℕ) (hi : i < 500) : Q i ≤ i := by
  induction i with
  | zero => rw [H.pos_zero]
  | succ i ih => have := ih (by omega); rcases H.pos_succ i hi with ⟨-, h⟩ | ⟨-, h⟩ <;> omega

theorem Facts.pos_lt (i : ℕ) (hi : i < 500) : Q i < 500 := lt_of_le_of_lt (H.pos_le i hi) hi

theorem Facts.pos_hits (j : ℕ) (hj : j < 500) (q : ℕ) (hq : q ≤ Q j) : ∃ i < 500, Q i = q := by
  induction j with
  | zero => exact ⟨0, by omega, by rw [H.pos_zero] at hq ⊢; omega⟩
  | succ j ih =>
    rcases H.pos_succ j hj with ⟨-, h⟩ | ⟨-, h⟩
    · exact ih (by omega) (by omega)
    · by_cases e : q = Q (j + 1)
      · exact ⟨j + 1, hj, e.symm⟩
      · exact ih (by omega) (by omega)

omit H in
/-- The distinct tile of number `q`, the last one from there on. -/
def ask (Q U : ℕ → ℕ) (q : ℕ) : ℕ := U (min q (Q 499))

theorem Facts.ask_le (q : ℕ) : ask Q U q ≤ 390 := by
  obtain ⟨i, hi, e⟩ := H.pos_hits 499 (by omega) (min q (Q 499)) (min_le_right _ _)
  unfold ask
  rw [← e, H.distinct i hi]
  exact H.tile_le i hi

theorem Facts.ask_pos (i : ℕ) (hi : i < 500) : ask Q U (Q i) = T i := by
  unfold ask
  rw [min_eq_left (H.pos_mono (show i ≤ 499 by omega) (by omega)), H.distinct i hi]

omit H

/-- The slot a number goes to. -/
def slotOf (q : ℕ) : Fin 4 := ⟨q % 4, Nat.mod_lt _ (by decide)⟩

/-- What the slots hold once the block of number `p` has been taken: the three that follow it; `p`'s own slot is free. -/
def ring (u : ℕ → ℕ) (p : ℕ) (k : Fin 4) : ℕ := if k = slotOf p then 390 else u (p + (k.val + 4 - p % 4) % 4)

theorem slotOf_inj {p d e : ℕ} (hd : d < 4) (he : e < 4) (h : slotOf (p + d) = slotOf (p + e)) : d = e := by
  have := congrArg Fin.val h
  simp only [slotOf] at this
  omega

theorem ring_self (u : ℕ → ℕ) (p : ℕ) : ring u p (slotOf p) = 390 := if_pos rfl

theorem ring_next (u : ℕ → ℕ) (p d : ℕ) (h0 : 0 < d) (hd : d < 4) : ring u p (slotOf (p + d)) = u (p + d) := by
  unfold ring
  rw [if_neg fun h => by have := slotOf_inj (p := p) (d := d) (e := 0) hd (by omega) h; omega]
  congr 1
  simp only [slotOf]
  omega

theorem slot_cases (p : ℕ) (k : Fin 4) : ∃ d < 4, k = slotOf (p + d) :=
  ⟨(k.val + 4 - p % 4) % 4, Nat.mod_lt _ (by decide), Fin.ext (by simp only [slotOf]; have := k.isLt; omega)⟩

/-- The first three transfers. -/
theorem ring_start (u : ℕ → ℕ) :
    Function.update (Function.update (Function.update (Function.update (Function.update (fun _ : Fin 4 => 390) 0 (u 0)) 1 (u 1)) 2 (u 2))
      (slotOf (0 + 3)) (u (0 + 3))) (slotOf 0) 390 = ring u 0 := by
  funext k; fin_cases k <;> rfl

/-- The step to the next number: its fourth one is started, its own is taken. -/
theorem ring_step (u : ℕ → ℕ) (p : ℕ) :
    Function.update (Function.update (ring u p) (slotOf (p + 1 + 3)) (u (p + 1 + 3))) (slotOf (p + 1)) 390 = ring u (p + 1) := by
  funext k
  obtain ⟨d, hd, rfl⟩ := slot_cases (p + 1) k
  by_cases h0 : d = 0
  · subst h0; rw [Nat.add_zero, Function.update_self, ring_self]
  rw [Function.update_of_ne (fun h => h0 (slotOf_inj (e := 0) hd (by omega) h)), ring_next u (p + 1) d (by omega) hd]
  by_cases h3 : d = 3
  · subst h3; rw [Function.update_self]
  rw [Function.update_of_ne (fun h => h3 (slotOf_inj hd (by omega) h)), show p + 1 + d = p + (d + 1) by omega]
  exact ring_next u p (d + 1) (by omega) (by omega)

theorem step_free (u : ℕ → ℕ) (p : ℕ) : ring u p (slotOf (p + 1 + 3)) = 390 := by
  rw [show slotOf (p + 1 + 3) = slotOf p from Fin.ext (by simp only [slotOf]; omega), ring_self]

theorem step_asked (u : ℕ → ℕ) (p : ℕ) :
    Function.update (ring u p) (slotOf (p + 1 + 3)) (u (p + 1 + 3)) (slotOf (p + 1)) = u (p + 1) := by
  rw [Function.update_of_ne (fun h => by have := slotOf_inj (p := p + 1) (d := 0) (e := 3) (by omega) (by omega) h; omega)]
  exact ring_next u p 1 (by omega) (by omega)

/-- The last three are waited for. -/
theorem ring_end (u : ℕ → ℕ) (p : ℕ) :
    Function.update (Function.update (Function.update (ring u p) (slotOf (p + 1)) 390) (slotOf (p + 2)) 390) (slotOf (p + 3)) 390 = fun _ => 390 := by
  funext k
  obtain ⟨d, hd, rfl⟩ := slot_cases p k
  simp only [Function.update_apply]
  by_cases h0 : d = 0
  · subst h0; rw [Nat.add_zero, ring_self]; simp
  · have h : d = 1 ∨ d = 2 ∨ d = 3 := by omega
    rcases h with rfl | rfl | rfl <;> simp

theorem end_second (u : ℕ → ℕ) (p : ℕ) : Function.update (ring u p) (slotOf (p + 1)) 390 (slotOf (p + 2)) = u (p + 2) := by
  rw [Function.update_of_ne (fun h => by have := slotOf_inj (p := p) (d := 2) (e := 1) (by omega) (by omega) h; omega)]
  exact ring_next u p 2 (by omega) (by omega)

theorem end_third (u : ℕ → ℕ) (p : ℕ) :
    Function.update (Function.update (ring u p) (slotOf (p + 1)) 390) (slotOf (p + 2)) 390 (slotOf (p + 3)) = u (p + 3) := by
  rw [Function.update_of_ne (fun h => by have := slotOf_inj (p := p) (d := 3) (e := 2) (by omega) (by omega) h; omega),
    Function.update_of_ne (fun h => by have := slotOf_inj (p := p) (d := 3) (e := 1) (by omega) (by omega) h; omega)]
  exact ring_next u p 3 (by omega) (by omega)

end Cert.Plan
-- ==== Proof.Tables.lean ====
/-
  How the host's tables come about, as sequences of numbers: quotients and remainders of a gene by a tile's width, the
  running maximum of a table, the running number of the distinct tiles of an ascending sequence, and the facts of the plan
  that follow.
-/
module

public import proofs.«01_k».proof.Proof.Plan
public import Idealize.ShloMosaic.Lib.Claim
public import Idealize.ShloMosaic.Lib.Pipeline.ValueKit
public import Idealize.ShloMosaic.Lib.Routing.OpsSet
public import Idealize.ShloMosaic.Lib.Routing.Ops
public import Idealize.ShloMosaic.Lib.SortFacts
public import Idealize.ShloMosaic.Lib.ReduceAll
public import Idealize.ShloMosaic.Lib.WordCmp
public import Idealize.ShloMosaic.Lib.Affine

@[expose] public section

set_option maxRecDepth 16384

namespace Cert.Tables

open Idealize.ShloMosaic hiding ix0 ix1 ix2 ix3
open Idealize.ShloMosaic.Routing Idealize.ShloMosaic.ValueIdx Idealize.ShloMosaic.WordCmp

/-! ## One gene's tile and lane -/

theorem toNat_small (n : ℕ) (h : n < 2 ^ 32) : (BitVec.ofNat 32 n).toNat = n := by
  rw [BitVec.toNat_ofNat]; omega

theorem eq_ofNat (x : BitVec 32) (n : ℕ) (h : x.toNat = n) : x = BitVec.ofNat 32 n := by
  subst h; exact BitVec.eq_of_toNat_eq (toNat_small _ x.isLt).symm

theorem rem_word (x : BitVec 32) (hx : x.toNat < 50000) : IntOp.remsi .host x 128#32 = BitVec.ofNat 32 (x.toNat % 128) :=
  eq_ofNat _ _ (IntOp.toNat_remsi .host (by omega) 128 (by omega) (by omega))

theorem div_word (x : BitVec 32) (hx : x.toNat < 50000) : IntOp.divsi .host x 128#32 = BitVec.ofNat 32 (x.toNat / 128) := by
  have hm : x.msb = false := by rw [BitVec.msb_eq_false_iff_two_mul_lt]; omega
  have e : IntOp.divsi .host x 128#32 = x.sdiv 128#32 := if_neg (IntOp.not_corner_of_pos (by decide))
  rw [e, BitVec.sdiv_eq, hm, show (128#32 : BitVec 32).msb = false from by decide]
  refine eq_ofNat _ _ ?_
  show (x / 128#32).toNat = _
  rw [BitVec.toNat_udiv]
  rfl

/-- The sign of a word. -/
def sign (x : BitVec 32) : BitVec 32 := if x = 0 then 0 else if x.msb then -1 else 1

theorem tile_word (x : BitVec 32) (hx : x.toNat < 50000) :
    Scalar.select (IntOp.andi (IntOp.cmpi .ne (sign x) (sign 128#32)) (IntOp.cmpi .ne (IntOp.remsi .host x 128#32) 0#32))
      (IntOp.subi (IntOp.divsi .host x 128#32) 1#32) (IntOp.divsi .host x 128#32) = BitVec.ofNat 32 (x.toNat / 128) := by
  have hm : x.msb = false := by rw [BitVec.msb_eq_false_iff_two_mul_lt]; omega
  rw [rem_word x hx, div_word x hx]
  unfold Scalar.select
  rw [if_neg]
  intro h
  have h' := (IntOp.andi_eq_one.1 h)
  have h1 := IntOp.cmpi_ne.1 h'.1
  have h2 := IntOp.cmpi_ne.1 h'.2
  unfold sign at h1
  rw [hm] at h1
  by_cases hz : x = 0
  · subst hz; exact h2 rfl
  · rw [if_neg hz] at h1; exact h1 (by decide)

theorem lane_word (x : BitVec 32) (hx : x.toNat < 50000) (k : BitVec 32) (hk : k = 128#32) :
    Scalar.select (IntOp.andi (IntOp.cmpi .ne (IntOp.cmpi .slt (IntOp.remsi .host x k) 0#32) (IntOp.cmpi .slt k 0#32))
        (IntOp.cmpi .ne (IntOp.remsi .host x k) 0#32))
      (IntOp.addi (IntOp.remsi .host x k) k) (IntOp.remsi .host x k) = BitVec.ofNat 32 (x.toNat % 128) := by
  subst hk
  rw [rem_word x hx]
  unfold Scalar.select
  rw [if_neg]
  intro h
  have h1 := IntOp.cmpi_ne.1 (IntOp.andi_eq_one.1 h).1
  rw [cmpi_slt_ofNat (by omega) (by omega), cmpi_slt_ofNat (by omega) (by omega)] at h1
  exact h1 (by rw [decide_eq_false (by omega), decide_eq_false (by omega)])

/-- An index from the front stays as it is. -/
theorem front_word (n : ℕ) (hn : n < 2 ^ 31) (y : BitVec 32) :
    Scalar.select (IntOp.cmpi .slt (BitVec.ofNat 32 n) 0#32) y (BitVec.ofNat 32 n) = BitVec.ofNat 32 n := by
  unfold Scalar.select
  rw [if_neg]
  intro h
  have := (cmpi_slt_ofNat_eq_one_iff (w := 32) (a := n) (b := 0) (by omega) (by omega)).1 h
  omega

/-- A stable sort of a vector carries a second one along. -/
theorem carried {n : ℕ} (cmp : BitVec 32 × BitVec 32 → BitVec 32 × BitVec 32 → BitVec 1) (x y : IVec (shape1 n) 32) (j : Fin n) :
    (Host.sort2 (shape1 n) 0 cmp x y).2 (ix1 j)
      = y (ix1 (sortedFrom (fun k k' => cmp (x (ix1 k), y (ix1 k)) (x (ix1 k'), y (ix1 k')) == 1#1) j)) := by
  have e : ∀ k : Fin n, Shape.Idx.along (s := shape1 n) (ix1 j) 0 k = ix1 k := fun k => by
    funext a
    match a with
    | ⟨0, _⟩ => exact Function.update_self _ _ _
  unfold Host.sort2
  rw [dif_pos (show 0 < (shape1 n).rank from Nat.one_pos)]
  refine (congrArg y (e _)).trans (congrArg y (congrArg ix1 ?_))
  refine congrArg (fun R => sortedFrom R j) (funext fun k => funext fun k' => ?_)
  have e1 := e k
  have e2 := e k'
  exact congrArg₂ (fun a b => cmp (x a, y a) (x b, y b) == 1#1) e1 e2

/-! ## The running maximum -/

theorem maxsi_absorb (a b : BitVec 32) (h : b.toInt ≤ a.toInt) : IntOp.maxsi a b = a := by
  unfold IntOp.maxsi
  split
  · rfl
  · rename_i h'
    simp only [BitVec.slt_iff_toInt_lt] at h'
    first
      | exact BitVec.eq_of_toInt_eq (by omega)
      | omega

theorem maxsi_of_le (a b : BitVec 32) (h : a.toInt ≤ b.toInt) : IntOp.maxsi a b = b := by
  unfold IntOp.maxsi
  split
  · rename_i h'
    simp only [BitVec.slt_iff_toInt_lt] at h'
    first
      | exact BitVec.eq_of_toInt_eq (by omega)
      | omega
  · rfl

theorem maxsi_bound (a b M : BitVec 32) (ha : a.toInt ≤ M.toInt) (hb : b.toInt ≤ M.toInt) : (IntOp.maxsi a b).toInt ≤ M.toInt := by
  unfold IntOp.maxsi
  split
  · exact ha
  · exact hb

theorem fold_max {ι : Type} (v : ι → BitVec 32) (M : BitVec 32) (l : List ι) (hv : ∀ n ∈ l, (v n).toInt ≤ M.toInt) (r : BitVec 32)
    (hr : r.toInt ≤ M.toInt) (h : r = M ∨ ∃ n ∈ l, v n = M) : l.foldl (fun r n => IntOp.maxsi r (v n)) r = M := by
  induction l generalizing r with
  | nil => rcases h with h | ⟨n, hn, -⟩
           · exact h
           · exact absurd hn List.not_mem_nil
  | cons a l ih =>
    have ha := hv a List.mem_cons_self
    refine ih (fun n hn => hv n (List.mem_cons_of_mem _ hn)) _ (maxsi_bound _ _ _ hr ha) ?_
    rcases h with rfl | ⟨n, hn, e⟩
    · exact Or.inl (maxsi_absorb _ _ ha)
    · rcases List.mem_cons.1 hn with rfl | hn
      · exact Or.inl ((maxsi_of_le _ _ (by rw [e]; exact hr)).trans e)
      · exact Or.inr ⟨n, hn, e⟩

/-- The running maximum at a place whose entry is the largest so far is that entry. -/
theorem running_max {N K : ℕ} (hN : K + 1 = N) (x : IVec (shape1 N) 32) (init : IVec shape0 32)
    (h : (shape1 N).ReduceWindows (![N] : Fin 1 → Nat) ![1] ![K] ![0] (shape1 N)) (hu : 0 < shape0.numel) (j : Fin N)
    (hinit : (init ix0).toInt ≤ (x (ix1 j)).toInt) (hx : ∀ i : Fin N, i ≤ j → (x (ix1 i)).toInt ≤ (x (ix1 j)).toInt) :
    Host.reduceWindow IntOp.maxsi ![N] ![1] ![K] ![0] x init h hu (ix1 j) = x (ix1 j) := by
  subst hN
  have hv : init (Shape.Idx.first hu) = init ix0 := congrArg init (eq_ix0 _)
  have hj := j.isLt
  unfold Host.reduceWindow
  refine fold_max _ (x (ix1 j)) _ (fun n _ => ?_) _ (by rw [hv]; exact hinit) (Or.inr ⟨⟨K, by rw [numel1]; omega⟩, List.mem_finRange _, ?_⟩)
  · have hw : ((shape1 (K + 1)).rowMajor.symm n 0).val = n.val := by rw [symm1]; rfl
    have hn : n.val < K + 1 := (n.cast (numel1 _)).isLt
    dsimp only
    split
    · next hin =>
      have h0 := hin 0
      change K ≤ j.val * 1 + ((shape1 (K + 1)).rowMajor.symm n 0).val
        ∧ j.val * 1 + ((shape1 (K + 1)).rowMajor.symm n 0).val - K < K + 1 at h0
      rw [hw] at h0
      refine le_of_eq_of_le (congrArg BitVec.toInt (congrArg x (funext fun a => Fin.ext ?_))) (hx ⟨j.val + n.val - K, by omega⟩ (Fin.mk_le_of_le_val (by omega)))
      match a with
      | ⟨0, _⟩ =>
        show j.val * 1 + ((shape1 (K + 1)).rowMajor.symm n 0).val - K = j.val + n.val - K
        rw [hw, Nat.mul_one]
    · rw [hv]; exact hinit
  · generalize hgn : (⟨K, by rw [numel1]; omega⟩ : Fin (shape1 (K + 1)).numel) = n
    have hK : n.val = K := by rw [← hgn]
    have hw : ((shape1 (K + 1)).rowMajor.symm n 0).val = n.val := by rw [symm1]; rfl
    dsimp only
    rw [dif_pos]
    · refine congrArg x (funext fun a => Fin.ext ?_)
      match a with
      | ⟨0, _⟩ =>
        show j.val * 1 + ((shape1 (K + 1)).rowMajor.symm n 0).val - K = j.val
        rw [hw]; omega
    · intro a
      match a with
      | ⟨0, _⟩ =>
        show K ≤ j.val * 1 + ((shape1 (K + 1)).rowMajor.symm n 0).val
          ∧ j.val * 1 + ((shape1 (K + 1)).rowMajor.symm n 0).val - K < K + 1
        rw [hw]; omega

/-! ## The distinct tiles of an ascending sequence -/

/-- One where a tile differs from the one before, and at the head. -/
def fresh (T : ℕ → ℕ) (i : ℕ) : ℕ := if i = 0 then 1 else if T i ≠ T (i - 1) then 1 else 0

/-- The number of distinct tiles up to a place. -/
def count (T : ℕ → ℕ) (i : ℕ) : ℕ := ((List.range (i + 1)).map (fresh T)).sum

theorem count_zero (T : ℕ → ℕ) : count T 0 = 1 := rfl

theorem count_succ (T : ℕ → ℕ) (i : ℕ) : count T (i + 1) = count T i + fresh T (i + 1) := by
  unfold count
  rw [List.range_succ, List.map_append, List.sum_append]
  simp

theorem count_pos (T : ℕ → ℕ) (i : ℕ) : 1 ≤ count T i := by
  induction i with
  | zero => rw [count_zero]
  | succ i ih => rw [count_succ]; omega

theorem fresh_le (T : ℕ → ℕ) (i : ℕ) : fresh T i ≤ 1 := by unfold fresh; split_ifs <;> omega

theorem count_le (T : ℕ → ℕ) (i : ℕ) : count T i ≤ i + 1 := by
  induction i with
  | zero => rw [count_zero]
  | succ i ih => rw [count_succ]; have := fresh_le T (i + 1); omega

/-- A place's number among the distinct tiles. -/
def number (T : ℕ → ℕ) (i : ℕ) : ℕ := count T i - 1

theorem number_le (T : ℕ → ℕ) (i : ℕ) : number T i ≤ i := by unfold number; have := count_le T i; omega

theorem number_succ (T : ℕ → ℕ) (i : ℕ) :
    (T (i + 1) = T i ∧ number T (i + 1) = number T i) ∨ (T (i + 1) ≠ T i ∧ number T (i + 1) = number T i + 1) := by
  have := count_pos T i
  unfold number
  rw [count_succ]
  unfold fresh
  rw [if_neg (by omega), Nat.add_sub_cancel]
  by_cases h : T (i + 1) = T i
  · left; rw [if_neg (by simpa using h)]; exact ⟨h, by omega⟩
  · right; rw [if_pos h]; exact ⟨h, by omega⟩

theorem number_mono (T : ℕ → ℕ) {i j : ℕ} (hij : i ≤ j) : number T i ≤ number T j := by
  induction j, hij using Nat.le_induction with
  | base => exact le_rfl
  | succ j hij ih => rcases number_succ T j with ⟨-, h⟩ | ⟨-, h⟩ <;> omega

/-- The same number is the same tile. -/
theorem tile_of_number (T : ℕ → ℕ) {i j : ℕ} (hij : i ≤ j) (e : number T i = number T j) : T i = T j := by
  induction j, hij using Nat.le_induction with
  | base => rfl
  | succ j hij ih =>
    have := number_mono T hij
    rcases number_succ T j with ⟨h1, h⟩ | ⟨-, h⟩
    · rw [h1]; exact ih (by omega)
    · omega

theorem tile_eq (T : ℕ → ℕ) {i j : ℕ} (e : number T i = number T j) : T i = T j := by
  rcases le_total i j with h | h
  · exact tile_of_number T h e
  · exact (tile_of_number T h e.symm).symm

/-- In an ascending sequence the smaller number is the smaller tile. -/
theorem tile_le_of_number (T : ℕ → ℕ) (hT : ∀ i j, i ≤ j → j < 500 → T i ≤ T j) {i j : ℕ} (hi : i < 500) (hj : j < 500)
    (e : number T i ≤ number T j) : T i ≤ T j := by
  rcases le_total i j with h | h
  · exact hT i j h hj
  · exact (tile_eq T (le_antisymm e (number_mono T h))).le

/-- Writing each tile at its number and taking the running maximum gives, at a tile's number, that tile. -/
theorem distinct_of (T : ℕ → ℕ) (hT : ∀ i j, i ≤ j → j < 500 → T i ≤ T j) (hb : ∀ i < 500, T i < 2 ^ 31)
    (d : ScatterDims (shape1 500) (shape2 500 1) (shape1 500)) (hiw : d.insertedWindowDims = [0])
    (hsd : d.scatterDimsToOperandDims = [0]) (hivd : d.indexVectorDim = 1) (x0 : IVec (shape1 500) 32) (h0 : ∀ j, x0 j = 0#32)
    (idx : IVec (shape2 500 1) 32) (hidx : ∀ i : Fin 500, idx (ix2 i 0) = BitVec.ofNat 32 (number T i.val))
    (upd : IVec (shape1 500) 32) (hupd : ∀ i : Fin 500, upd (ix1 i) = BitVec.ofNat 32 (T i.val)) (init : IVec shape0 32)
    (hinit : init ix0 = 2147483648#32) (h : (shape1 500).ReduceWindows (![500] : Fin 1 → Nat) ![1] ![499] ![0] (shape1 500))
    (hu : 0 < shape0.numel) (i : Fin 500) (hq : number T i.val < 500) :
    Host.reduceWindow IntOp.maxsi ![500] ![1] ![499] ![0] (Host.scatter d (fun _ b => b) x0 idx upd) init h hu (ix1 ⟨number T i.val, hq⟩)
      = BitVec.ofNat 32 (T i.val) := by
  have hnum : ∀ k : Fin 500, number T k.val < 2 ^ 31 := fun k => lt_of_le_of_lt (number_le T k.val) (by have := k.isLt; omega)
  have hint : ∀ k : Fin 500, (BitVec.ofNat 32 (T k.val)).toInt = (T k.val : ℤ) := fun k =>
    StableHlo.Predicate.toInt_ofNat_small _ (hb k.val k.isLt)
  have hhit : ∀ k : Fin 500, ∀ q : Fin 500, number T k.val = q.val →
      Host.scatter d (fun _ b => b) x0 idx upd (ix1 q) = BitVec.ofNat 32 (T k.val) := fun k q e =>
    (scatter_set d hiw hsd hivd x0 idx upd (number T) hidx hnum q (BitVec.ofNat 32 (T k.val))
      fun k' e' => (hupd k').trans (congrArg (BitVec.ofNat 32) (tile_eq T (e'.trans e.symm)))).1 ⟨k, e⟩
  have hat := hhit i ⟨number T i.val, hq⟩ rfl
  refine (running_max rfl _ init h hu _ ?_ ?_).trans hat
  · rw [hat, hinit, hint]
    have : (2147483648#32 : BitVec 32).toInt = -2147483648 := by decide
    omega
  · intro q hle
    rw [hat, hint]
    by_cases hex : ∃ k : Fin 500, number T k.val = q.val
    · obtain ⟨k, e⟩ := hex
      rw [hhit k q e, hint]
      exact Int.ofNat_le.2 (tile_le_of_number T hT k.isLt i.isLt (by rw [e]; exact hle))
    · rw [(scatter_set d hiw hsd hivd x0 idx upd (number T) hidx hnum q 0#32 fun k e => absurd ⟨k, e⟩ hex).2
        fun k e => hex ⟨k, e⟩, h0]
      exact Int.natCast_nonneg _

/-- The facts of the plan, of ascending genes taken in some order. -/
theorem facts_of (g : ℕ → ℕ) (p : ℕ → ℕ) (hg : ∀ i < 500, g i < 50000) (hmono : ∀ i j, i ≤ j → j < 500 → g i ≤ g j)
    (hp : ∀ i < 500, p i < 500) (hsurj : ∀ d < 500, ∃ i < 500, p i = d) (U : ℕ → ℕ)
    (hU : ∀ i < 500, U (number (fun i => g i / 128) i) = g i / 128) :
    Plan.Facts (fun i => g i / 128) (fun i => g i % 128) p (number fun i => g i / 128) U where
  tile_le i hi := by have := hg i hi; omega
  lane_lt i hi := by omega
  gene_lt i hi := by have := hg i hi; omega
  dest_lt := hp
  dest_surj := hsurj
  pos_zero := rfl
  pos_succ i _ := number_succ (fun i => g i / 128) i
  distinct := hU

/-- Equal entries have equal facts. -/
theorem facts_congr {T L D Q U T' L' D' Q' U' : ℕ → ℕ} (H : Plan.Facts T L D Q U) (eT : ∀ i < 500, T' i = T i)
    (eL : ∀ i < 500, L' i = L i) (eD : ∀ i < 500, D' i = D i) (eQ : ∀ i < 500, Q' i = Q i) (eU : ∀ i < 500, U' i = U i) :
    Plan.Facts T' L' D' Q' U' where
  tile_le i hi := by rw [eT i hi]; exact H.tile_le i hi
  lane_lt i hi := by rw [eL i hi]; exact H.lane_lt i hi
  gene_lt i hi := by rw [eT i hi, eL i hi]; exact H.gene_lt i hi
  dest_lt i hi := by rw [eD i hi]; exact H.dest_lt i hi
  dest_surj d hd := by obtain ⟨i, hi, e⟩ := H.dest_surj d hd; exact ⟨i, hi, (eD i hi).trans e⟩
  pos_zero := by rw [eQ 0 (by omega)]; exact H.pos_zero
  pos_succ i hi := by rw [eT i (by omega), eT (i + 1) hi, eQ i (by omega), eQ (i + 1) hi]; exact H.pos_succ i hi
  distinct i hi := by rw [eQ i hi, eU _ (H.pos_lt i hi), eT i hi]; exact H.distinct i hi

end Cert.Tables
-- ==== Proof.KernelIdeal.Base.lean ====
/-
  What the region proofs of this program share: the resource algebra (the pipelines' own beside the counters that a
  transfer's bookkeeping takes its tokens from), the levels (none), and what rides along between two items.
-/
module

public import proofs.«01_k».proof.Proof.Gen.KernelIdeal.Regions
public import Idealize.ShloMosaic.Lib.Pipeline.RegionsLoop
public import Idealize.ShloMosaic.Lib.Pipeline.RegionsOwned
public import Idealize.ShloMosaic.Lib.Pipeline.DatRel
public import Idealize.ShloMosaic.Lib.Pipeline.ArrRel
public import Idealize.ShloMosaic.Lib.Pipeline.FrameBody
public import Idealize.ShloMosaic.Lib.Transfers
public import Idealize.ShloMosaic.Lib.Ring
public import Idealize.ShloMosaic.Lib.Tactic

@[expose] public section

noncomputable section

namespace Cert.KernelIdeal.Decoder

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

/-- The resource algebra: the pipelines' rounds beside the transfers' counters. -/
abbrev UU : Type := UR sig nD τ × Counters

local notation "𝕄" => MT nD τ sig Unit (Elt F) ℕ UU ℕ

/-- The pipelines' part of the algebra. -/
abbrev EP : Emb (UR sig nD τ) 𝕄 := embL

/-- No semaphore cell is given a level: no core owes another anything. -/
abbrev noCells : GSem nD τ sig → Finset Unit := fun _ => ∅
/-- The level of every cell. -/
abbrev level : GSem nD τ sig → Unit → ℕ := fun _ _ => 0

/-- What rides along beside the buffers: the core owes nothing. -/
abbrev settled (c : Dev nD) : sProp 𝕄 := iprop(∃ W, owes (c : Thread nD τ) (0 : CellTallies nD τ sig Unit) W)

/-- The thread state between two items: every unscoped buffer held whole at a valuation, nothing owed. -/
abbrev atRest (c : Dev nD) (W : Valuation τ sig (Elt F)) : sProp 𝕄 :=
  iprop(StableHlo.held (c : Thread nD τ) (Pipeline.ucRefs τ sig) W ∗ settled c)

end Cert.KernelIdeal.Decoder

end
-- ==== Proof.KernelIdeal.Logit.lean ====
/-
  The decoder call: from any contents `W` of the unscoped buffers, the pipeline over the 125 groups of four genes leaves
  in the result's array what `out` makes of each group's weights and the latent block, and every other buffer as it was.
-/
module

public import proofs.«01_k».proof.Proof.KernelIdeal.Base
public import proofs.«01_k».proof.Proof.Gen.KernelIdeal.Skeleton
public import proofs.«01_k».proof.Proof.Gen.KernelIdeal.Points

@[expose] public section

set_option maxRecDepth 16384

noncomputable section

namespace Cert.KernelIdeal.Logit

open Cert.KernelIdeal Cert.KernelIdeal.Gen Cert.KernelIdeal.Decoder
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

variable {F : FTy → Type} [FloatOps F]

local notation "𝕄" => MT nD τ sig Unit (Elt F) ℕ UU ℕ

abbrev rX : Rect S16x1024 := Rect.unit (s := S16x1024) ![0, 0] S16x1024.size inb_S16x1024_S16x1024_0_0
abbrev rW0 : Rect S4x16x224 := Rect.unit (s := S4x16x224) ![0, 0, 0] S1x16x224.size inb_S4x16x224_S1x16x224_0_0_0
abbrev rW1 : Rect S4x16x224 := Rect.unit (s := S4x16x224) ![1, 0, 0] S1x16x224.size inb_S4x16x224_S1x16x224_1_0_0
abbrev rW2 : Rect S4x16x224 := Rect.unit (s := S4x16x224) ![2, 0, 0] S1x16x224.size inb_S4x16x224_S1x16x224_2_0_0
abbrev rW3 : Rect S4x16x224 := Rect.unit (s := S4x16x224) ![3, 0, 0] S1x16x224.size inb_S4x16x224_S1x16x224_3_0_0
abbrev rO0 : Rect S4x224x1024 := Rect.unit (s := S4x224x1024) ![0, 0, 0] S1x224x1024.size inb_S4x224x1024_S1x224x1024_0_0_0
abbrev rO1 : Rect S4x224x1024 := Rect.unit (s := S4x224x1024) ![1, 0, 0] S1x224x1024.size inb_S4x224x1024_S1x224x1024_1_0_0
abbrev rO2 : Rect S4x224x1024 := Rect.unit (s := S4x224x1024) ![2, 0, 0] S1x224x1024.size inb_S4x224x1024_S1x224x1024_2_0_0
abbrev rO3 : Rect S4x224x1024 := Rect.unit (s := S4x224x1024) ![3, 0, 0] S1x224x1024.size inb_S4x224x1024_S1x224x1024_3_0_0

/-- What the body leaves in the result's buffer, of the latent block `x` and the four genes' weights `w`: one product per gene. -/
def out (x : Vec F S16x1024 .f32) (w : Vec F S4x16x224 .f32) : Vec F S4x224x1024 .f32 :=
  View.canon [⟨rO3, k1_pay5 (View.ld x rX) (View.ld w rW3)⟩, ⟨rO2, k1_pay4 (View.ld x rX) (View.ld w rW2)⟩,
    ⟨rO1, k1_pay3 (View.ld x rX) (View.ld w rW1)⟩, ⟨rO0, k1_pay2 (View.ld x rX) (View.ld w rW0)⟩]

/-- The four stores cover the buffer. -/
theorem out_cover (p0 p1 p2 p3 : Vec F S1x224x1024 .f32) (y : S4x224x1024.Idx) :
    ∃ pc ∈ ([⟨rO3, p0⟩, ⟨rO2, p1⟩, ⟨rO1, p2⟩, ⟨rO0, p3⟩] : List (View.Piece (Elt F) S4x224x1024 .f32)), y ∈ pc.1.set :=
  View.cover_of_tiled [⟨rO3, p0⟩, ⟨rO2, p1⟩, ⟨rO1, p2⟩, ⟨rO0, p3⟩] S1x224x1024.size (by rfl) y

set_option maxHeartbeats 1000000 in
/-- The body on whole staging buffers: the inputs stay, the result's buffer ends at `out` of them. -/
theorem body_runs (c : Dev nD) (E : Set ℕ) (i : grid1.Coords) (a1 : Memref sig .tc .vmem S16x1024 .f32) (h1 : a1.IsWhole)
    (a2 : Memref sig .tc .vmem S4x16x224 .f32) (h2 : a2.IsWhole) (a3 : Memref sig .tc .vmem S4x224x1024 .f32) (h3 : a3.IsWhole)
    (x : Vec F S16x1024 .f32) (w : Vec F S4x16x224 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (out x w)) -∗ K ⟨⟩))
      ⊢ wp frame (wpE (defs₀ (F := F)) Variants.none c none) E (cc1__logit_body i a1 h1 a2 h2 a3 h3) K := by
  simp only [cc1__logit_body_eq_skeleton]; unfold cc1__logit_body_skel
  simp only [k1_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  iexists _; isplitr
  swap; · iexact H2
  ipureintro
  exact View.read_writes_eq_canon _ _ _ (out_cover _ _ _ _)

variable (W : Dev nD → Valuation τ sig (Elt F))

/-- Window `w`'s block at point `t`, off its array at `W`. -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The proof data: the arrays at `W`; after the body the inputs' blocks in place and the result's buffer at `out` of them. -/
def dat (c : Dev nD) : Dat τ (Elt F) Unit ℕ UU ℕ cfg1 c where
  A w := W c (Pipeline.arrRef spec1 w)
  after w t := match w with
    | ⟨0, _⟩ => iblk W c 0 t
    | ⟨1, _⟩ => iblk W c 1 t
    | ⟨2, _⟩ => out (iblk W c 0 t) (iblk W c 1 t)
  Φ _ := Pipeline.scopedRest (Ix := Unit) (Name := ℕ) (U := UU) (Lvl := ℕ) (Val := Elt F) spec1 c
  q _ := fullShare
  owed _ := 0

theorem dat_A (c : Dev nD) (w : Fin cfg1.W) : (dat W c).A w = W c (Pipeline.arrRef spec1 w) := by dsimp only [dat]
theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = out (iblk W c 0 t) (iblk W c 1 t) := by dsimp only [dat]

/-- Each input's buffer holds its block when the body runs. -/
theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [dat_A]; try rfl) t d).trans
    (by unfold Dat.fetched Dat.blockOf iblk; rw [dat_A]; try rfl)
theorem before_1 (c : Dev nD) (t : Fin cfg1.N) (d) : (dat W c).before 1 t d = iblk W c 1 t :=
  ((dat W c).before_in_eq_fetched 1 rfl (fun _ => rfl) (fun _ _ _ => rfl) (fun t => by rw [after_1]; unfold Dat.blockOf iblk; rw [dat_A]; try rfl) t d).trans
    (by unfold Dat.fetched Dat.blockOf iblk; rw [dat_A]; try rfl)

/-- The body table's row at a point is the body there. -/
theorem row (t : Fin cfg1.N) : defs₀ (F := F) .tc cfg1.body (cfg1.bodyArgs t (cfg1.slots t)) = bodyAt1 t := by
  unfold defs₀; rw [Defs.onTc_tc]

/-- The body obligation at every point. -/
theorem obligation (c : Dev nD) : BodyObligation (dat W c) (defs₀ (F := F)) Variants.none () Set.univ := fun t => by
  rw [bigSep_W1, bigSep_W1, row]
  simp only [before_0, before_1]
  rw [show (dat W c).Φ t.succ = (dat W c).Φ t.castSucc from rfl,
    show (dat W c).owesAt () t.succ = (dat W c).owesAt () t.castSucc from rfl]
  unfold bodyAt1
  iintro ⟨HΦ, Ho, ⟨%d0, H0⟩, ⟨%d1, H1⟩, ⟨%d2, H2⟩⟩
  iapply (body_runs c Set.univ (grid1.coords t) _ _ _ _ _ _ (iblk W c 0 t) (iblk W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · rw [after_0]; iexact H0
  isplitl [H1]; · rw [after_1]; iexact H1
  rw [after_2]; iexact H2

/-- The result's array when the call ends. -/
def result (c : Dev nD) : Buf (Elt F) ((c : Thread nD τ).loc main_v26) := (dat W c).arrAt 2 cfg1.N

/-- The unscoped buffers when the call ends. -/
abbrev next (c : Dev nD) : Valuation τ sig (Elt F) := Function.update (W c) main_v26 (result W c)

theorem next_out (c : Dev nD) : next W c main_v26 = result W c := Function.update_self (Proc.devRef .tc main_v26 : DevRef τ sig) _ _
theorem next_of (c : Dev nD) (b : Ref sig .tc) (h : b ≠ main_v26) : next W c b = W c b :=
  Function.update_of_ne (StableHlo.devRef_ne_of_ne h : (Proc.devRef .tc b : DevRef τ sig) ≠ Proc.devRef .tc main_v26) _ _

variable (adm : (p : Fin 3) → (pcfgs (F := F) p).Adm)
  (rdats : (p : Fin 3) → (c : Dev nD) → RDat τ (Elt F) Unit ℕ UU ℕ (Pipeline.pin (pcfgs (F := F)) adm p) c)

/-- Exact data for all the pipelines, of which only this one's matters. -/
def family : (p : Fin 3) → (c : Dev nD) → Dat τ (Elt F) Unit ℕ UU ℕ (Pipeline.pin (pcfgs (F := F)) adm p) c := fun p c =>
  if h : p = 1 then h ▸ dat W c else
  { A := fun _ _ => Classical.arbitrary _, after := fun _ _ _ => Classical.arbitrary _, Φ := fun _ => BI.emp, q := fun _ => fullShare, owed := fun _ => 0 }

theorem family_at (c : Dev nD) : family W adm 1 c = dat W c := rfl

/-- Nothing owed, read as what the pipeline's first and last points ask. -/
theorem owed_in (c : Dev nD) : settled c ⊢ ((dat W c).owesAt () 0 : sProp 𝕄) := by
  unfold settled Pipeline.Dat.owesAt Pipeline.owesWithin
  iintro ⟨%D, HO⟩; iexists D; isplitr; · ipureintro; exact fun _ _ => Or.inl trivial
  iexact HO
theorem owed_out (c : Dev nD) : ((dat W c).owesAt () (Fin.last cfg1.N) : sProp 𝕄) ⊢ settled c := by
  unfold settled Pipeline.Dat.owesAt Pipeline.owesWithin
  iintro ⟨%D, -, HO⟩; iexists D; iexact HO

set_option backward.isDefEq.respectTransparency.types false in
/-- The call as a segment: from `W` to `next W`. -/
def segment (hr : ∀ c, rdats 1 c = (dat W c).toR) :
    RDat.RegionSeg (pcfgs (F := F)) adm rdats () defs₀ Variants.none noCells level 1 where
  win := winFacts1.to₀
  block_pos := block_pos1
  stage_whole := stage_whole1
  K := PEmpty
  osem k := k.elim
  ho := Pipeline.OwnSemFacts.none _
  hbody c := by rw [hr c]; exact (obligation W c).loose.toR
  hwaits c := RDat.hwaits_of_owed_zero (pcfgs (F := F)) adm rdats () noCells level 1 (fun c t => by rw [hr c]; rfl) c
  pre c := atRest c (W c)
  post c := atRest c (next W c)
  X _ := BI.emp
  Y _ := BI.emp
  Z c := Pipeline.unscopedRest (Ix := Unit) (Name := ℕ) (U := UU) (Lvl := ℕ) spec1 c (fun b => W c b)
  hentry c := by
    unfold atRest
    rw [hr c, Pipeline.ownSems0_none, ← Pipeline.unscopedBufs_held]
    have hsplit := Pipeline.arrays_of_unscopedBufs (p := 1) (pcfgs (F := F)) adm (family W adm) winFacts1 arr_whole1 c
      ((dat W c).share_full fun _ => rfl) (fun b => W c b) fun _ => rfl
    iintro ⟨⟨Hub, HO⟩, -, -⟩
    ihave H := hsplit $$ Hub
    icases H with ⟨Ha, Hrest⟩
    imodintro
    isplitl [Ha]; · iapply (show ((family W adm 1 c).arrays ((family W adm 1 c).arrAt · 0) : sProp 𝕄) ⊢ (dat W c).toR.arrays (dat W c).toR.A from .rfl); iexact Ha
    isplitr; · unfold Pipeline.prefHeld; rw [show (Finset.univ : Finset (Fin 0)) = ∅ from rfl, BI.bigSep_empty]; iempintro
    isplitl [HO]
    · iapply (owed_in W c); iexact HO
    isplitr; · iempintro
    iexact Hrest
  hin c := by
    rw [hr c, show (dat W c).toR.Φ 0 = Pipeline.scopedRest spec1 c from rfl]
    iintro ⟨-, -, Hr⟩; iexact Hr
  hout c := by
    rw [hr c, Pipeline.ownSems0_none, show (dat W c).toR.Φ (Fin.last (Pipeline.pin (pcfgs (F := F)) adm 1).N) = Pipeline.scopedRest spec1 c from rfl]
    iintro Hr
    isplitr; · iempintro
    isplitr; · iempintro
    iexact Hr
  hexit c := by
    unfold atRest
    rw [hr c, ← Pipeline.unscopedBufs_held]
    have hjoin := Pipeline.unscopedBufs_of_arrays (p := 1) (pcfgs (F := F)) adm (Ix := Unit) (Name := ℕ) (U := UU) (Lvl := ℕ) winFacts1 arr_whole1 c
      (family W adm) ((dat W c).share_full fun _ => rfl) (fun b => W c b) (fun b => next W c b) ((dat W c).arrAt · cfg1.N)
      (fun w => by
        fin_cases w
        · exact ((dat W c).arrAt_in 0 rfl _).trans (next_of W c _ (by decide)).symm
        · exact ((dat W c).arrAt_in 1 rfl _).trans (next_of W c _ (by decide)).symm
        · exact (next_out W c).symm)
      (fun b hb => next_of W c b fun h => hb (by subst h; exact Finset.mem_image.mpr ⟨2, Finset.mem_univ _, rfl⟩))
    have hpost := (dat W c).toR_arraysAt_post cfg1.N
    iintro ⟨Ha, HO, -, Hrest⟩
    imodintro
    isplitl [Ha Hrest]
    · iapply hjoin; isplitl [Ha]
      · iapply hpost; iexact Ha
      iexact Hrest
    iapply (owed_out W c); iexact HO

end Cert.KernelIdeal.Logit

end
-- ==== Proof.KernelIdeal.LogitValue.lean ====
/-
  What the decoder call computes over exact numbers: at gene `g`, class `c` and cell `b`, the sum over the latent axis of
  the gene's weight times the cell's latent.
-/
module

public import proofs.«01_k».proof.Proof.KernelIdeal.Logit
public import Idealize.ShloMosaic.Lib.Pipeline.ValueKit
public import Idealize.ShloMosaic.Lib.Claim

@[expose] public section

set_option maxRecDepth 16384

noncomputable section

namespace Cert.KernelIdeal.Logit

open Cert.KernelIdeal Cert.KernelIdeal.Gen Cert.KernelIdeal.Decoder
open Idealize.ShloMosaic Idealize.ShloMosaic.TcCoe Idealize.ShloMosaic.Tactic
open Idealize.ShloMosaic.Pipeline (Dat Cfg Window)

/-- The decoder's sums, of the latents by axis and cell and the weights by gene, axis and class. -/
def sums (x : FVec Ideal S16x1024 .f32) (w : FVec Ideal S500x16x224 .f32) : FVec Ideal S500x224x1024 .f32 := fun i =>
  ∑ h : Fin 16, w (ix3 (i 0) h (i 1)) * x (ix2 h (i 2))

theorem out_apply (x : FVec Ideal S16x1024 .f32) (w : FVec Ideal S4x16x224 .f32) (j : S4x224x1024.Idx) :
    out (F := Ideal) x w j = ∑ h : Fin 16, w (ix3 (j 0) h (j 1)) * x (ix2 h (j 2)) := by
  unfold out
  canon_tiles y h
  all_goals
    pointwise [k1_pay2, k1_pay3, k1_pay4, k1_pay5, k1_pay1]
    blk_point []

theorem index_at : ∀ t : Fin cfg1.N, win1_0.index t = ![0, 0] ∧ win1_1.index t = ![t.val, 0, 0] ∧ win1_2.index t = ![t.val, 0, 0] :=
  (by decide +kernel : ∀ t : Fin grid1.N, _)

variable (W : Dev nD → Valuation τ sig (Elt Ideal))

theorem point (c : Dev nD) (t : Fin cfg1.N) (y) :
    out (F := Ideal) (iblk W c 0 t) (iblk W c 1 t) y = sums (W c main_v0) (W c main_v25) (((cfg1.win 2).blk t).view.emb y) := by
  rw [out_apply]
  unfold sums
  blk_point [iblk, index_at t]

/-- The result's array when the call ends. -/
theorem result_eq (c : Dev nD) : result W c = sums (W c main_v0) (W c main_v25) := by
  refine (dat W c).arrAt_eq_of_covers 2 _ (by decide +kernel) fun t _ y => ?_
  blk_simp
  rw [after_2]
  exact point W c t y

end Cert.KernelIdeal.Logit

end
-- ==== Proof.KernelIdeal.Rho.lean ====
/-
  The scale call: from any contents `W` of the unscoped buffers, the pipeline over the 25 blocks of 2048 genes leaves the
  result's array at SOME contents that meet `Meets`, and every other buffer as it was. The last block overhangs the weights
  and the result: past the array's end the weights' buffer holds words that nothing names, and the result's rows there are
  never written back. Of each block the proof says that it is the product of the block fetched, those words chosen somehow.
-/
module

public import proofs.«01_k».proof.Proof.KernelIdeal.Base
public import proofs.«01_k».proof.Proof.Gen.KernelIdeal.Skeleton
public import proofs.«01_k».proof.Proof.Gen.KernelIdeal.Points

@[expose] public section

set_option maxRecDepth 16384

noncomputable section

namespace Cert.KernelIdeal.Rho

open Cert.KernelIdeal Cert.KernelIdeal.Gen Cert.KernelIdeal.Decoder
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

variable {F : FTy → Type} [FloatOps F]

local notation "𝕄" => MT nD τ sig Unit (Elt F) ℕ UU ℕ

abbrev rX : Rect S16x1024 := Rect.unit (s := S16x1024) ![0, 0] S16x1024.size inb_S16x1024_S16x1024_0_0
abbrev rW : Rect S16x2048 := Rect.unit (s := S16x2048) ![0, 0] S16x2048.size inb_S16x2048_S16x2048_0_0
abbrev rO : Rect S2048x1024 := Rect.unit (s := S2048x1024) ![0, 0] S2048x1024.size inb_S2048x1024_S2048x1024_0_0

/-- What the body leaves in the result's buffer, of the latent block `x` and the weights' buffer `w`. -/
def out (x : Vec F S16x1024 .f32) (w : Vec F S16x2048 .f32) : Vec F S2048x1024 .f32 :=
  View.canon [⟨rO, k2_pay1 (View.ld w rW) (View.ld x rX)⟩]

/-- The one store covers the buffer. -/
theorem out_cover (p0 : Vec F S2048x1024 .f32) (y : S2048x1024.Idx) :
    ∃ pc ∈ ([⟨rO, p0⟩] : List (View.Piece (Elt F) S2048x1024 .f32)), y ∈ pc.1.set :=
  View.cover_of_tiled [⟨rO, p0⟩] S2048x1024.size (by rfl) y

set_option maxHeartbeats 1000000 in
/-- The body on whole staging buffers: the inputs stay, the result's buffer ends at `out` of them. -/
theorem body_runs (c : Dev nD) (E : Set ℕ) (i : grid2.Coords) (a1 : Memref sig .tc .vmem S16x1024 .f32) (h1 : a1.IsWhole)
    (a2 : Memref sig .tc .vmem S16x2048 .f32) (h2 : a2.IsWhole) (a3 : Memref sig .tc .vmem S2048x1024 .f32) (h3 : a3.IsWhole)
    (x : Vec F S16x1024 .f32) (w : Vec F S16x2048 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (out x w)) -∗ K ⟨⟩))
      ⊢ wp frame (wpE (defs₀ (F := F)) Variants.none c none) E (cc2__rho_body i a1 h1 a2 h2 a3 h3) K := by
  simp only [cc2__rho_body_eq_skeleton]; unfold cc2__rho_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  iexists _; isplitr
  swap; · iexact H2
  ipureintro
  exact View.read_writes_eq_canon _ _ _ (out_cover _)

variable (W : Dev nD → Valuation τ sig (Elt F))

/-- Window `w`'s block at point `t`, off its array at `W`: its part inside the array. -/
def iblk (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- The weights' buffer at point `t`: the block fetched, `d` past the array's end. -/
abbrev wbuf (c : Dev nD) (t : Fin cfg2.N) (d : Vec F S16x2048 .f32) : Vec F S16x2048 .f32 :=
  win2_1.fill (grid2.coords t) d (iblk W c 1 t)

/-- The proof data: the arrays at `W`; after the body the inputs' blocks in place. Of the result's buffer `Rl` speaks. -/
def dat (c : Dev nD) : Dat τ (Elt F) Unit ℕ UU ℕ cfg2 c where
  A w := W c (Pipeline.arrRef spec2 w)
  after w t := match w with
    | ⟨0, _⟩ => iblk W c 0 t
    | ⟨1, _⟩ => wbuf W c t fun _ => Scalar.ofBits .f32 0#32
    | ⟨2, _⟩ => fun _ => Scalar.ofBits .f32 0#32
  Φ _ := Pipeline.scopedRest (Ix := Unit) (Name := ℕ) (U := UU) (Lvl := ℕ) (Val := Elt F) spec2 c
  q _ := fullShare
  owed _ := 0

/-- The window held to a predicate: the result's. -/
abbrev fgt : Fin cfg2.W → Bool := fun w => match w with | ⟨0, _⟩ => false | ⟨1, _⟩ => false | ⟨2, _⟩ => true

/-- What the body leaves in the result's buffer: the product of the block fetched, some words past the array's end. -/
def Rl (c : Dev nD) : (w : Fin cfg2.W) → (t : Fin cfg2.N) → ((cfg2.win w).block.Idx → Elt F (cfg2.win w).elt) → Prop := fun w t =>
  match w with
  | ⟨0, _⟩ => fun _ => True
  | ⟨1, _⟩ => fun _ => True
  | ⟨2, _⟩ => fun X => ∃ d, X = out (iblk W c 0 t) (wbuf W c t d)

/-- The data, the result's window held to `Rl`. -/
abbrev rdat (c : Dev nD) : RDat τ (Elt F) Unit ℕ UU ℕ cfg2 c := (dat W c).toRRel fgt (Rl W c)

theorem dat_A (c : Dev nD) (w : Fin cfg2.W) : (dat W c).A w = W c (Pipeline.arrRef spec2 w) := by dsimp only [dat]
theorem after_0 (c : Dev nD) (t : Fin cfg2.N) : (dat W c).after 0 t = iblk W c 0 t := by dsimp only [dat]
theorem after_1 (c : Dev nD) (t : Fin cfg2.N) : (dat W c).after 1 t = wbuf W c t fun _ => Scalar.ofBits .f32 0#32 := by dsimp only [dat]

/-- The latent's buffer holds its block when the body runs, the weights' what was just fetched. -/
theorem before_0 (c : Dev nD) (t : Fin cfg2.N) (d) : (dat W c).before 0 t d = iblk W c 0 t :=
  ((dat W c).before_in_eq_fetched 0 rfl (fun _ => rfl) (fun _ _ _ => rfl) (fun t => by rw [after_0]; unfold Dat.blockOf iblk; rw [dat_A]; try rfl) t d).trans
    (by unfold Dat.fetched Dat.blockOf iblk; rw [dat_A]; try rfl)
theorem before_1 (c : Dev nD) (t : Fin cfg2.N) (d) : (dat W c).before 1 t d = wbuf W c t d := by
  unfold Dat.before; rw [if_pos (fetch2_1 t)]; rfl

/-- The body table's row at a point is the body there. -/
theorem row (t : Fin cfg2.N) : defs₀ (F := F) .tc cfg2.body (cfg2.bodyArgs t (cfg2.slots t)) = bodyAt2 t := by
  unfold defs₀; rw [Defs.onTc_tc]

/-- The body obligation at every point. -/
theorem obligation (c : Dev nD) : Pipeline.BodyObligationRel (dat W c) (defs₀ (F := F)) Variants.none () Set.univ fgt (Rl W c) := fun t => by
  rw [bigSep_W2, bigSep_W2, row]
  simp only
  simp only [before_0, before_1]
  rw [show (dat W c).Φ t.succ = (dat W c).Φ t.castSucc from rfl,
    show (dat W c).owesAt () t.succ = (dat W c).owesAt () t.castSucc from rfl]
  unfold bodyAt2
  iintro ⟨HΦ, Ho, ⟨%d0, H0⟩, ⟨%d1, H1⟩, ⟨%d2, -, H2⟩⟩
  iapply (body_runs c Set.univ (grid2.coords t) _ _ _ _ _ _ (iblk W c 0 t) (wbuf W c t d1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · rw [after_0]; iexact H0
  isplitl [H1]
  · iexists d1
    rw [after_1, show (cfg2.win 1).cut (cfg2.grid.coords t) (wbuf W c t fun _ => Scalar.ofBits .f32 0#32) = iblk W c 1 t from win2_1.cut_fill _ _ _]
    iexact H1
  iexists _; isplitr
  swap; · iexact H2
  ipureintro; exact ⟨d1, rfl⟩

/-- What the result's array may hold when the call ends. -/
def Meets (c : Dev nD) (G : Buf (Elt F) ((c : Thread nD τ).loc main_v27)) : Prop := (rdat W c).ArrAt 2 cfg2.N G

/-- The unscoped buffers when the call ends, the result's array at `G`. -/
abbrev next (c : Dev nD) (G : Buf (Elt F) ((c : Thread nD τ).loc main_v27)) : Valuation τ sig (Elt F) := Function.update (W c) main_v27 G

theorem next_out (c : Dev nD) (G) : next W c G main_v27 = G := Function.update_self (Proc.devRef .tc main_v27 : DevRef τ sig) _ _
theorem next_of (c : Dev nD) (G) (b : Ref sig .tc) (h : b ≠ main_v27) : next W c G b = W c b :=
  Function.update_of_ne (StableHlo.devRef_ne_of_ne h : (Proc.devRef .tc b : DevRef τ sig) ≠ Proc.devRef .tc main_v27) _ _

variable (adm : (p : Fin 3) → (pcfgs (F := F) p).Adm)
  (rdats : (p : Fin 3) → (c : Dev nD) → RDat τ (Elt F) Unit ℕ UU ℕ (Pipeline.pin (pcfgs (F := F)) adm p) c)

/-- Exact data for all the pipelines, of which only this one's matters. -/
def family : (p : Fin 3) → (c : Dev nD) → Dat τ (Elt F) Unit ℕ UU ℕ (Pipeline.pin (pcfgs (F := F)) adm p) c := fun p c =>
  if h : p = 2 then h ▸ dat W c else
  { A := fun _ _ => Classical.arbitrary _, after := fun _ _ _ => Classical.arbitrary _, Φ := fun _ => BI.emp, q := fun _ => fullShare, owed := fun _ => 0 }

theorem family_at (c : Dev nD) : family W adm 2 c = dat W c := rfl

/-- Nothing owed, read as what the pipeline's first and last points ask. -/
theorem owed_in (c : Dev nD) : settled c ⊢ ((dat W c).owesAt () 0 : sProp 𝕄) := by
  unfold settled Pipeline.Dat.owesAt Pipeline.owesWithin
  iintro ⟨%D, HO⟩; iexists D; isplitr; · ipureintro; exact fun _ _ => Or.inl trivial
  iexact HO
theorem owed_out (c : Dev nD) : ((dat W c).owesAt () (Fin.last cfg2.N) : sProp 𝕄) ⊢ settled c := by
  unfold settled Pipeline.Dat.owesAt Pipeline.owesWithin
  iintro ⟨%D, -, HO⟩; iexists D; iexact HO

/-- The arrays when the call ends: the inputs' as they were, the result's at some contents that meet `Meets`. -/
theorem arrays_out (c : Dev nD) : ((rdat W c).arraysAt cfg2.N : sProp 𝕄)
    ⊢ iprop(∃ A : (w : Fin cfg2.W) → Buf (Elt F) ((cfg2.win w).arr.view.loc (c.tc : Thread nD τ)),
      ⌜A 0 = (dat W c).A 0 ∧ A 1 = (dat W c).A 1 ∧ Meets W c (A 2)⌝ ∗ (dat W c).arrays A) := by
  unfold Pipeline.RDat.arraysAt Pipeline.Dat.arrays
  refine (BI.bigSep_exists_pi Finset.univ _).trans ?_
  iintro ⟨%A, H⟩
  ihave H' := (BI.bigSep_pure_sep Finset.univ (fun w => (rdat W c).ArrAt w cfg2.N (A w)) _) $$ H
  icases H' with ⟨%hA, H⟩
  iexists A
  isplitr
  · ipureintro
    refine ⟨?_, ?_, hA 2 (Finset.mem_univ _)⟩
    · have h := hA 0 (Finset.mem_univ _)
      rw [(rdat W c).ArrAt_in 0 rfl] at h; exact h
    · have h := hA 1 (Finset.mem_univ _)
      rw [(rdat W c).ArrAt_in 1 rfl] at h; exact h
  iexact H

set_option backward.isDefEq.respectTransparency.types false in
/-- The call as a segment: from `W` to `next W` at some contents that meet `Meets`. -/
def segment (hr : ∀ c, rdats 2 c = rdat W c) :
    RDat.RegionSeg (pcfgs (F := F)) adm rdats () defs₀ Variants.none noCells level 2 where
  win := winFacts2.to₀
  block_pos := block_pos2
  stage_whole := stage_whole2
  K := PEmpty
  osem k := k.elim
  ho := Pipeline.OwnSemFacts.none _
  hbody c := by rw [hr c]; exact (obligation W c).toRRel
  hwaits c := RDat.hwaits_of_owed_zero (pcfgs (F := F)) adm rdats () noCells level 2 (fun c t => by rw [hr c]; rfl) c
  pre c := atRest c (W c)
  post c := iprop((∃ G : { G // Meets W c G }, StableHlo.held (c : Thread nD τ) (Pipeline.ucRefs τ sig) (next W c G.1)) ∗ settled c)
  X _ := BI.emp
  Y _ := BI.emp
  Z c := Pipeline.unscopedRest (Ix := Unit) (Name := ℕ) (U := UU) (Lvl := ℕ) spec2 c (fun b => W c b)
  hentry c := by
    unfold atRest
    rw [hr c, Pipeline.ownSems0_none, ← Pipeline.unscopedBufs_held]
    have hsplit := Pipeline.arrays_of_unscopedBufs (p := 2) (pcfgs (F := F)) adm (family W adm) winFacts2 arr_whole2 c
      ((dat W c).share_full fun _ => rfl) (fun b => W c b) fun _ => rfl
    iintro ⟨⟨Hub, HO⟩, -, -⟩
    ihave H := hsplit $$ Hub
    icases H with ⟨Ha, Hrest⟩
    imodintro
    isplitl [Ha]; · iapply (show ((family W adm 2 c).arrays ((family W adm 2 c).arrAt · 0) : sProp 𝕄) ⊢ (rdat W c).arrays (rdat W c).A from .rfl); iexact Ha
    isplitr; · unfold Pipeline.prefHeld; rw [show (Finset.univ : Finset (Fin 0)) = ∅ from rfl, BI.bigSep_empty]; iempintro
    isplitl [HO]
    · iapply (owed_in W c); iexact HO
    isplitr; · iempintro
    iexact Hrest
  hin c := by
    rw [hr c, show (rdat W c).Φ 0 = Pipeline.scopedRest spec2 c from rfl]
    iintro ⟨-, -, Hr⟩; iexact Hr
  hout c := by
    rw [hr c, Pipeline.ownSems0_none, show (rdat W c).Φ (Fin.last (Pipeline.pin (pcfgs (F := F)) adm 2).N) = Pipeline.scopedRest spec2 c from rfl]
    iintro Hr
    isplitr; · iempintro
    isplitr; · iempintro
    iexact Hr
  hexit c := by
    rw [hr c]
    have hjoin := fun (A : (w : Fin cfg2.W) → Buf (Elt F) ((cfg2.win w).arr.view.loc (c.tc : Thread nD τ)))
        (h : A 0 = (dat W c).A 0 ∧ A 1 = (dat W c).A 1 ∧ Meets W c (A 2)) =>
      Pipeline.unscopedBufs_of_arrays (p := 2) (pcfgs (F := F)) adm (Ix := Unit) (Name := ℕ) (U := UU) (Lvl := ℕ) winFacts2 arr_whole2 c
      (family W adm) ((dat W c).share_full fun _ => rfl) (fun b => W c b) (fun b => next W c (A 2) b) A
      (fun w => by
        fin_cases w
        · exact h.1.trans (next_of W c _ _ (by decide)).symm
        · exact h.2.1.trans (next_of W c _ _ (by decide)).symm
        · exact (next_out W c _).symm)
      (fun b hb => next_of W c _ b fun h => hb (by subst h; exact Finset.mem_image.mpr ⟨2, Finset.mem_univ _, rfl⟩))
    have hpost := arrays_out W c
    iintro ⟨Ha, HO, -, Hrest⟩
    ihave Ha := hpost $$ Ha
    icases Ha with ⟨%A, %hA, Ha⟩
    imodintro
    isplitl [Ha Hrest]
    · iexists (⟨A 2, hA.2.2⟩ : { G // Meets W c G })
      rw [← Pipeline.unscopedBufs_held]
      iapply (hjoin A hA); isplitl [Ha]
      · iapply (show ((dat W c).arrays A : sProp 𝕄) ⊢ (family W adm 2 c).arrays A from .rfl); iexact Ha
      iexact Hrest
    iapply (owed_out W c); iexact HO

end Cert.KernelIdeal.Rho

end
-- ==== Proof.KernelIdeal.RhoValue.lean ====
/-
  What the scale call computes over exact numbers: at gene `g` and cell `b`, the sum over the latent axis of the gene's
  weight times the cell's latent. The words past the end of the weights reach only rows that are not written back.
-/
module

public import proofs.«01_k».proof.Proof.KernelIdeal.Rho
public import Idealize.ShloMosaic.Lib.Pipeline.ValueKit
public import Idealize.ShloMosaic.Lib.Claim

@[expose] public section

set_option maxRecDepth 16384

noncomputable section

namespace Cert.KernelIdeal.Rho

open Cert.KernelIdeal Cert.KernelIdeal.Gen Cert.KernelIdeal.Decoder
open Idealize.ShloMosaic Idealize.ShloMosaic.TcCoe Idealize.ShloMosaic.Tactic
open Idealize.ShloMosaic.Pipeline (Dat RDat Cfg Window)

/-- The scale's sums, of the latents by axis and cell and the weights by axis and gene. -/
def sums (x : FVec Ideal S16x1024 .f32) (w : FVec Ideal S16x50000 .f32) : FVec Ideal S50000x1024 .f32 := fun i =>
  ∑ h : Fin 16, w (ix2 h (i 0)) * x (ix2 h (i 1))

theorem out_apply (x : FVec Ideal S16x1024 .f32) (w : FVec Ideal S16x2048 .f32) (j : S2048x1024.Idx) :
    out (F := Ideal) x w j = ∑ h : Fin 16, w (ix2 h (j 0)) * x (ix2 h (j 1)) := by
  unfold out
  canon_tiles y h
  all_goals
    pointwise [k2_pay1]
    rw [show j 0 = y 0 from Fin.ext h0, show j 1 = y 1 from Fin.ext h1]

theorem index_at : ∀ t : Fin cfg2.N, win2_0.index t = ![0, 0] ∧ win2_1.index t = ![0, t.val] ∧ win2_2.index t = ![t.val, 0] :=
  (by decide +kernel : ∀ t : Fin grid2.N, _)

variable (W : Dev nD → Valuation τ sig (Elt Ideal))

/-- The weights' block and the result's overhang their arrays alike. -/
theorem sizes_at : ∀ t : Fin cfg2.N, win2_1.xsize (grid2.coords t) 0 = 16 ∧ win2_1.xsize (grid2.coords t) 1 = win2_2.xsize (grid2.coords t) 0 :=
  (by decide +kernel : ∀ t : Fin grid2.N, _)

/-- A row inside the array reads the weights fetched, not what lay past them. -/
theorem weight_at (c : Dev nD) (t : Fin cfg2.N) (d : FVec Ideal S16x2048 .f32) (h : Fin 16)
    (y : (win2_2.xblock (grid2.coords t)).Idx) :
    (wbuf W c t d : FVec Ideal S16x2048 .f32) (ix2 h (win2_2.xinj (grid2.coords t) y 0))
      = (W c main_v2 : FVec Ideal S16x50000 .f32) (ix2 h ((win2_2.blk t).view.emb y 0)) := by
  have hb : ∀ a : Fin 2, ((ix2 h (win2_2.xinj (grid2.coords t) y 0) : S16x2048.Idx) a).val < win2_1.xsize (grid2.coords t) a := by
    intro a; fin_cases a
    · exact lt_of_lt_of_eq h.isLt (sizes_at t).1.symm
    · exact lt_of_lt_of_eq (y 0).isLt (sizes_at t).2.symm
  rw [show (ix2 h (win2_2.xinj (grid2.coords t) y 0) : S16x2048.Idx)
      = win2_1.xinj (grid2.coords t) (fun a => ⟨_, hb a⟩) from rfl]
  unfold wbuf
  rw [Window.fill_xinj]
  unfold iblk
  rw [View.read_apply]
  refine congrArg (W c main_v2 : FVec Ideal S16x50000 .f32) (funext fun a => Fin.ext ?_)
  have e1 := (index_at t).2.1
  have e2 := (index_at t).2.2
  fin_cases a
  · show win2_1.index t 0 * 16 + 1 * h.val = h.val
    rw [e1]; simp
  · show win2_1.index t 1 * 2048 + 1 * (y 0).val = win2_2.index t 0 * 2048 + 1 * (y 0).val
    rw [e1, e2]; rfl

theorem point (c : Dev nD) (t : Fin cfg2.N) (d : FVec Ideal S16x2048 .f32) (y) :
    out (F := Ideal) (iblk W c 0 t) (wbuf W c t d) ((cfg2.win 2).xinj (cfg2.grid.coords t) y)
      = sums (W c main_v0) (W c main_v2) (((cfg2.win 2).blk t).view.emb y) := by
  rw [out_apply]
  unfold sums
  refine Finset.sum_congr rfl fun h _ => congrArg₂ (· * ·) (weight_at W c t d h y) ?_
  blk_point [iblk, index_at t]

/-- An array with one block of the result written at every point is the sums. -/
theorem covered (c : Dev nD) (after : (w : Fin cfg2.W) → Fin cfg2.N → (cfg2.win w).block.Idx → Elt Ideal (cfg2.win w).elt)
    (h : ∀ t : Fin cfg2.N, (cfg2.win 2).flush t = true → ∃ d, after 2 t = out (F := Ideal) (iblk W c 0 t) (wbuf W c t d)) :
    ((rdat W c).withAfter after).arrAt 2 cfg2.N = sums (W c main_v0) (W c main_v2) := by
  refine Dat.arrAt_eq_of_covers _ 2 _ (by decide +kernel) fun t hf y => ?_
  obtain ⟨d, hd⟩ := h t hf
  refine (cast_eq _ _).trans ?_
  rw [RDat.withAfter_after, hd]
  exact point W c t d y

/-- The result's array when the call ends, whatever lay past the end of the weights. -/
theorem left_eq (c : Dev nD) (G) (h : Meets W c G) : G = sums (W c main_v0) (W c main_v2) := by
  obtain ⟨X, hX, hA⟩ := RDat.ArrAt.exists_exact h
  refine (hA (Function.update (fun _ _ _ => Classical.arbitrary _) 2 X) fun u _ _ => by rw [Function.update_self]).trans ?_
  refine covered W c _ fun t hf => ?_
  rw [Function.update_self]
  exact (dat W c).toRRel_leaves (fgt := fgt) (Rl := Rl W c) (w := 2) rfl (hX t t.isLt hf)

end Cert.KernelIdeal.Rho

end
-- ==== Proof.KernelIdeal.Ring.lean ====
/-
  The four slots of the gather call: each has a buffer of one block of the weights' table, a semaphore of its own, and a
  share of the table to read. A slot is free, or it is being filled with the block of a tile.
-/
module

public import proofs.«01_k».proof.Proof.KernelIdeal.Base
public import proofs.«01_k».proof.Proof.Gen.KernelIdeal.Skeleton

@[expose] public section

set_option maxRecDepth 16384

noncomputable section

namespace Cert.KernelIdeal.Collect

open Cert.KernelIdeal Cert.KernelIdeal.Gen Cert.KernelIdeal.Decoder
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The counters that a transfer's bookkeeping takes its tokens from. -/
abbrev EC : UEmb Counters 𝕄 := countersEmb

/-- The weights' table, where the call reads it from. -/
abbrev tableM : Memref sig .tc .hbm S16x224x50000 .f32 := Memref.whole main_v1
/-- The slots' buffer, and the block at hand turned. -/
abbrev slabM : Memref sig .tc .vmem S4x16x224x128 .f32 := Memref.whole cc0_scratch0
abbrev turnM : Memref sig .tc .vmem S16x128x224 .f32 := Memref.whole cc0_scratch1

theorem cell_inb (k : Fin 4) : ∀ a, (![k.val] : Fin 1 → ℕ) a + S1.size a ≤ S4.size a := by revert k; decide
theorem slot_inb (k : Fin 4) : ∀ a, (![k.val, 0, 0, 0] : Fin 4 → ℕ) a + S1x16x224x128.size a ≤ S4x16x224x128.size a := by revert k; decide
theorem block_inb (t : ℕ) (h : t < 390) : ∀ a, (![0, 0, t * 128] : Fin 3 → ℕ) a + S16x224x128.size a ≤ S16x224x50000.size a := by
  intro a; fin_cases a
  · exact (by decide : (0 + 16 : ℕ) ≤ 16)
  · exact (by decide : (0 + 224 : ℕ) ≤ 224)
  · show t * 128 + 128 ≤ 50000; omega

/-- Slot `k`'s semaphore, its buffer, and the block of tile `t`. -/
abbrev cell (k : Fin 4) : DmaSem sig := ((cc0_scratch2.slice (Rect.unit (s := S4) ![k.val] S1.size (cell_inb k))).squeeze S_ squeezes_S1_S_).sem
abbrev slot (k : Fin 4) : Memref sig .tc .vmem S16x224x128 .f32 :=
  (slabM.slice (Rect.unit (s := S4x16x224x128) ![k.val, 0, 0, 0] S1x16x224x128.size (slot_inb k)) (fun _ => rfl)).squeeze S16x224x128 squeezes_S1x16x224x128_S16x224x128
abbrev block (t : ℕ) (h : t < 390) : Memref sig .tc .hbm S16x224x128 .f32 :=
  tableM.slice (Rect.unit (s := S16x224x50000) ![0, 0, t * 128] S16x224x128.size (block_inb t h)) (fun _ => rfl)

/-- What a transfer of a block counts on its semaphore. -/
abbrev units (k : Fin 4) : ℕ := (slot k).view.dmaCredit

theorem units_pos (k : Fin 4) : 0 < units k := by revert k; decide

/-- The table's contents. -/
abbrev TableC (c : Dev nD) : Type := Buf (Elt F) ((c : Thread nD τ).loc main_v1)
/-- Slot `k`'s share of the table, of what the call has of it. -/
abbrev slotShare (k : Fin 4) : PosShare TreeShare := Transfers.shareTok (fullShare : PosShare TreeShare).right 4 k

variable (c : Dev nD) (X : Buf (Elt F) ((c : Thread nD τ).loc main_v1))

/-- Slot `k`'s buffer at `f`. -/
abbrev slotAt (k : Fin 4) (f : Buf (Elt F) ((slot k).view.loc (c : Thread nD τ))) : sProp 𝕄 :=
  (slot k).view.loc (c : Thread nD τ) ↦[(slot k).view.set]{fullShare} f

/-- Slot `k` holding the block of tile `t`. -/
abbrev holds (k : Fin 4) (t : ℕ) (h : t < 390) : sProp 𝕄 :=
  iprop(∃ f, ⌜(slot k).view.read (Elt F) f = (block t h).view.read (Elt F) X⌝ ∗ slotAt c k f)

/-- Slot `k`'s semaphore at zero and its share of the table. -/
abbrev idle (k : Fin 4) : sProp 𝕄 :=
  iprop(semVal ((c : Thread nD τ), SemLoc.dma (cell k)) 0 ∗ ((c : Thread nD τ).loc main_v1) ↦{slotShare k} X)

/-- Slot `k` free. -/
abbrev Free (k : Fin 4) : sProp 𝕄 := iprop(idle c X k ∗ ∃ f, slotAt c k f)

/-- Slot `k` being filled with the block of tile `t`. -/
def Filling (k : Fin 4) (t : ℕ) (h : t < 390) : sProp 𝕄 :=
  iprop(Transfers.Flight EC (c : Thread nD τ) (.dma (cell k)) () (units k)
      iprop(holds c X k t h ∗ (((c : Thread nD τ).loc main_v1) ↦[(block t h).view.set]{slotShare k} X))
    ∗ (((c : Thread nD τ).loc main_v1) ↦[Finset.univ \ (block t h).view.set]{slotShare k} X))

/-- Slot `k` by the tile asked for: being filled with its block, or free if the tile is not one of the whole blocks. -/
def Slot (k : Fin 4) (t : ℕ) : sProp 𝕄 := if h : t < 390 then Filling c X k t h else Free c X k

theorem Slot_free (k : Fin 4) (t : ℕ) (h : ¬ t < 390) : Slot c X k t = Free c X k := dif_neg h
theorem Slot_filling (k : Fin 4) (t : ℕ) (h : t < 390) : Slot c X k t = Filling c X k t h := dif_pos h

theorem table_split (q : PosShare TreeShare) (t : ℕ) (h : t < 390) :
    (((c : Thread nD τ).loc main_v1) ↦{q} X : sProp 𝕄)
      = iprop((((c : Thread nD τ).loc main_v1) ↦[(block t h).view.set]{q} X) ∗ (((c : Thread nD τ).loc main_v1) ↦[Finset.univ \ (block t h).view.set]{q} X)) :=
  Entails.antisymm (pointsTo_split_subset (Finset.subset_univ _)).1 (pointsTo_split_subset (Finset.subset_univ _)).2

/-- Starting a transfer of a whole block into a free slot. -/
theorem start_runs (k : Fin 4) (t : ℕ) (ht : t < 390) {offS : Fin 1 → ℕ} {offB : Fin 4 → ℕ} {offH : Fin 3 → ℕ}
    (hS : offS = ![k.val]) (hB : offB = ![k.val, 0, 0, 0]) (hH : offH = ![0, 0, t * 128])
    (iS : ∀ a, offS a + S1.size a ≤ S4.size a) (iB : ∀ a, offB a + S1x16x224x128.size a ≤ S4x16x224x128.size a)
    (iH : ∀ a, offH a + S16x224x128.size a ≤ S16x224x50000.size a)
    (h1 h2 h3) (Q : PUnit → sProp 𝕄) :
    iprop(Free c X k ∗ (Slot c X k t -∗ Q ⟨⟩))
      ⊢ wp frame (wpE (defs₀ (F := F)) Variants.none (c : Thread nD τ) none) Set.univ
          (Prog.lift (TpuEff.enqueueDma (tableM.slice (Rect.unit (s := S16x224x50000) offH S16x224x128.size iH) (fun _ => rfl))
            (.here ((slabM.slice (Rect.unit (s := S4x16x224x128) offB S1x16x224x128.size iB) (fun _ => rfl)).squeeze S16x224x128 squeezes_S1x16x224x128_S16x224x128))
            (.dma ((cc0_scratch2.slice (Rect.unit (s := S4) offS S1.size iS)).squeeze S_ squeezes_S1_S_).sem) h1 h2 h3)) Q := by
  subst hS hB hH
  rw [Slot_filling c X k t ht]; unfold Free idle; rw [table_split c X _ t ht]
  iintro ⟨⟨⟨Hv, Hs, Hr⟩, ⟨%fd, Hd⟩⟩, Hk⟩
  iapply (Transfers.wp_dmaLocal EC Variants.none (c : Thread nD τ) none (src := block t ht) (dst := slot k) (fs := X) (fd := fd) () (units k) rfl (units_pos k) (Finset.Subset.refl _)) $$ [Hs Hd Hv]
  · isplitl [Hs]; · iexact Hs
    isplitl [Hd]; · iexact Hd
    iexact Hv
  iintro HF
  iapply Sem.le_wp_ret
  iapply Hk
  unfold Filling
  isplitl [HF]
  · iapply (Transfers.Flight_mono EC (c : Thread nD τ) (by
      iintro ⟨Hd, Hs⟩
      isplitl [Hd]
      · iexists _
        isplitr
        swap; · iexact Hd
        ipureintro
        exact View.read_write_univ _ _
      · iexact Hs)) $$ HF
  · iexact Hr

/-- The same under the kernel's condition that the tile is not the last. -/
theorem start_if (k : Fin 4) (t : ℕ) {p : Prop} [Decidable p] (hp : p ↔ t < 390) {offS : Fin 1 → ℕ} {offB : Fin 4 → ℕ} {offH : Fin 3 → ℕ}
    (hS : offS = ![k.val]) (hB : offB = ![k.val, 0, 0, 0]) (hH : t < 390 → offH = ![0, 0, t * 128])
    (iS : p → ∀ a, offS a + S1.size a ≤ S4.size a) (iB : p → ∀ a, offB a + S1x16x224x128.size a ≤ S4x16x224x128.size a)
    (iH : p → ∀ a, offH a + S16x224x128.size a ≤ S16x224x50000.size a)
    (h1 : ∀ h : p, _) (h2 : ∀ h : p, _) (h3 : ∀ h : p, _) (Q : PUnit → sProp 𝕄) :
    iprop(Free c X k ∗ (Slot c X k t -∗ Q ⟨⟩))
      ⊢ wp frame (wpE (defs₀ (F := F)) Variants.none (c : Thread nD τ) none) Set.univ
          (if h : p then (do
            Prog.lift (TpuEff.enqueueDma (tableM.slice (Rect.unit (s := S16x224x50000) offH S16x224x128.size (iH h)) (fun _ => rfl))
              (.here ((slabM.slice (Rect.unit (s := S4x16x224x128) offB S1x16x224x128.size (iB h)) (fun _ => rfl)).squeeze S16x224x128 squeezes_S1x16x224x128_S16x224x128))
              (.dma ((cc0_scratch2.slice (Rect.unit (s := S4) offS S1.size (iS h))).squeeze S_ squeezes_S1_S_).sem) (h1 h) (h2 h) (h3 h))
            pure ⟨⟩) else (do pure ⟨⟩)) Q := by
  by_cases h : p
  · rw [dif_pos h, wp_bind]
    refine BIBase.Entails.trans ?_ (start_runs c X k t (hp.mp h) hS hB (hH (hp.mp h)) _ _ _ _ _ _ _)
    iintro ⟨HF, Hk⟩
    isplitl [HF]; · iexact HF
    iintro HS
    iapply Sem.le_wp_ret
    iapply Hk; iexact HS
  · rw [dif_neg h, Slot_free c X k t (fun h' => h (hp.mpr h'))]
    iintro ⟨HF, Hk⟩
    iapply Sem.le_wp_ret
    iapply Hk; iexact HF

/-- Waiting for a whole block. -/
theorem wait_runs (k : Fin 4) (t : ℕ) (ht : t < 390) {offS : Fin 1 → ℕ} {offB : Fin 4 → ℕ} {offH : Fin 3 → ℕ}
    (hS : offS = ![k.val]) (hB : offB = ![k.val, 0, 0, 0])
    (iS : ∀ a, offS a + S1.size a ≤ S4.size a) (iB : ∀ a, offB a + S1x16x224x128.size a ≤ S4x16x224x128.size a)
    (iH : ∀ a, offH a + S16x224x128.size a ≤ S16x224x50000.size a)
    (h1 h2) (Q : PUnit → sProp 𝕄) :
    iprop(Slot c X k t ∗ settled c ∗ ((idle c X k ∗ holds c X k t ht ∗ settled c) -∗ Q ⟨⟩))
      ⊢ wp frame (wpE (defs₀ (F := F)) Variants.none (c : Thread nD τ) none) Set.univ
          (Prog.lift (TpuEff.waitDma2 ((cc0_scratch2.slice (Rect.unit (s := S4) offS S1.size iS)).squeeze S_ squeezes_S1_S_).sem
            (tableM.slice (Rect.unit (s := S16x224x50000) offH S16x224x128.size iH) (fun _ => rfl))
            ((slabM.slice (Rect.unit (s := S4x16x224x128) offB S1x16x224x128.size iB) (fun _ => rfl)).squeeze S16x224x128 squeezes_S1x16x224x128_S16x224x128) h1 h2)) Q := by
  subst hS hB
  rw [Slot_filling c X k t ht]
  unfold Filling
  iintro ⟨⟨HF, Hr⟩, ⟨%W, HO⟩, Hk⟩
  iapply (Transfers.wp_waitLocal EC Variants.none (c : Thread nD τ) none (sem := cell k) (dstw := slot k) () (N := units k) rfl (W := W)) $$ [HF HO]
  · isplitl [HF]; · iexact HF
    iexact HO
  iintro ⟨⟨Hh, Hs⟩, Hv, HO⟩
  iapply Sem.le_wp_ret
  iapply Hk
  isplitl [Hv Hs Hr]
  · isplitl [Hv]; · iexact Hv
    rw [table_split c X _ t ht]
    isplitl [Hs] <;> iassumption
  isplitl [Hh]; · iexact Hh
  iexists _; iexact HO

/-- The same under the kernel's condition, what landed let go. -/
theorem wait_if (k : Fin 4) (t : ℕ) {p : Prop} [Decidable p] (hp : p ↔ t < 390) {offS : Fin 1 → ℕ} {offB : Fin 4 → ℕ} {offH : Fin 3 → ℕ}
    (hS : offS = ![k.val]) (hB : offB = ![k.val, 0, 0, 0])
    (iS : p → ∀ a, offS a + S1.size a ≤ S4.size a) (iB : p → ∀ a, offB a + S1x16x224x128.size a ≤ S4x16x224x128.size a)
    (iH : p → ∀ a, offH a + S16x224x128.size a ≤ S16x224x50000.size a)
    (h1 : ∀ h : p, _) (h2 : ∀ h : p, _) (Q : PUnit → sProp 𝕄) :
    iprop(Slot c X k t ∗ settled c ∗ ((Free c X k ∗ settled c) -∗ Q ⟨⟩))
      ⊢ wp frame (wpE (defs₀ (F := F)) Variants.none (c : Thread nD τ) none) Set.univ
          (if h : p then (do
            Prog.lift (TpuEff.waitDma2 ((cc0_scratch2.slice (Rect.unit (s := S4) offS S1.size (iS h))).squeeze S_ squeezes_S1_S_).sem
              (tableM.slice (Rect.unit (s := S16x224x50000) offH S16x224x128.size (iH h)) (fun _ => rfl))
              ((slabM.slice (Rect.unit (s := S4x16x224x128) offB S1x16x224x128.size (iB h)) (fun _ => rfl)).squeeze S16x224x128 squeezes_S1x16x224x128_S16x224x128) (h1 h) (h2 h))
            pure ⟨⟩) else (do pure ⟨⟩)) Q := by
  by_cases h : p
  · rw [dif_pos h, wp_bind]
    refine BIBase.Entails.trans ?_ (wait_runs c X k t (hp.mp h) hS hB _ _ _ _ _ _)
    iintro ⟨HF, HO, Hk⟩
    isplitl [HF]; · iexact HF
    isplitl [HO]; · iexact HO
    iintro ⟨Hi, ⟨%f, -, Hs⟩, HO⟩
    iapply Sem.le_wp_ret
    iapply Hk
    isplitl [Hi Hs]
    · isplitl [Hi]; · iexact Hi
      iexists f; iexact Hs
    iexact HO
  · rw [dif_neg h, Slot_free c X k t (fun h' => h (hp.mpr h'))]
    iintro ⟨HF, HO, Hk⟩
    iapply Sem.le_wp_ret
    iapply Hk
    isplitl [HF]; · iexact HF
    iexact HO

/-- The four slots, slot `k` by the tile `r k`. -/
def Slots (r : Fin 4 → ℕ) : sProp 𝕄 := bigSep Finset.univ fun k => Slot c X k (r k)

/-- One slot taken out and put back at another tile. -/
theorem Slots_take (r : Fin 4 → ℕ) (k : Fin 4) :
    Slots c X r ⊢ iprop(Slot c X k (r k) ∗ ∀ t, Slot c X k t -∗ Slots c X (Function.update r k t)) := by
  unfold Slots
  have e : ∀ r' : Fin 4 → ℕ, (bigSep Finset.univ fun k => Slot c X k (r' k) : sProp 𝕄)
      = iprop(Slot c X k (r' k) ∗ bigSep (Finset.univ.erase k) fun k => Slot c X k (r' k)) := fun r' =>
    bigSep_erase (Finset.mem_univ k)
  rw [e r]
  iintro ⟨H, Hr⟩
  isplitl [H]; · iexact H
  iintro %t H
  rw [e (Function.update r k t), Function.update_self]
  isplitl [H]; · iexact H
  rw [show (bigSep (Finset.univ.erase k) fun k' => Slot c X k' (Function.update r k t k') : sProp 𝕄)
      = bigSep (Finset.univ.erase k) fun k' => Slot c X k' (r k') from
    bigSep_congr fun k' hk' => by rw [Function.update_of_ne (Finset.ne_of_mem_erase hk')]]
  iexact Hr

end Cert.KernelIdeal.Collect

end
-- ==== Proof.KernelIdeal.Words.lean ====
/-
  The gather call's integer chains at the words its tables hold: places in a table, slots, tiles and lanes.
-/
module

public import proofs.«01_k».proof.Proof.KernelIdeal.Ring
public import Idealize.ShloMosaic.Lib.Pipeline.ValueKit
public import Idealize.ShloMosaic.Lib.Claim

@[expose] public section

set_option maxRecDepth 16384

noncomputable section

namespace Cert.KernelIdeal.Collect

open Cert.KernelIdeal Cert.KernelIdeal.Gen
open Idealize.ShloMosaic Idealize.ShloMosaic.Tactic

/-- The word of a small number. -/
abbrev w32 (n : ℕ) : BitVec 32 := BitVec.ofNat 32 n

theorem minsi_small (a b : ℕ) (ha : a < 1000) (hb : b < 1000) : (Scalar.minsi (w32 a) (w32 b)).toNat = min a b := by
  unfold Scalar.minsi IntOp.minsi
  have e : (w32 a).slt (w32 b) = decide (a < b) := by
    rw [Bool.eq_iff_iff]
    simp only [BitVec.slt, BitVec.toInt, BitVec.toNat_ofNat, decide_eq_true_eq]
    omega
  rw [e]
  by_cases h : a < b <;> simp only [h, decide_true, decide_false, if_true, Bool.false_eq_true, if_false, BitVec.toNat_ofNat] <;> omega

section Points
theorem off1_eq : ∀ t : Fin grid0.N, k0_off1 (grid0.coords t) = ![t.val] := by decide +kernel
theorem off2_eq : ∀ t : Fin grid0.N, k0_off2 (grid0.coords t) = ![t.val - 1] := by decide +kernel
theorem off9_eq : ∀ t : Fin grid0.N, k0_off9 (grid0.coords t) = ![t.val] := off1_eq
theorem off30_eq : ∀ t : Fin grid0.N, k0_off30 (grid0.coords t) = ![t.val] := off1_eq
theorem off31_eq : ∀ t : Fin grid0.N, k0_off31 (grid0.coords t) = ![t.val] := off1_eq
theorem cond1_eq : ∀ t : Fin grid0.N, k0_cond1 (grid0.coords t) = 1#1 ↔ t.val = 0 := by decide +kernel
theorem cond9_eq : ∀ t : Fin grid0.N, k0_cond9 (grid0.coords t) = 1#1 ↔ t.val = 499 := by decide +kernel

theorem cond5_eq (t : Fin grid0.N) (v1 v6 : BitVec 32) : k0_cond5 (grid0.coords t) v1 v6 = 1#1 ↔ (t.val = 0 ∨ v6 ≠ v1) := by
  have h0 : ∀ t : Fin grid0.N, Scalar.cmpi .eq (BitVec.ofNat 32 (grid0.coords t 0).val) 0#32 = if t.val = 0 then 1#1 else 0#1 := by decide +kernel
  unfold k0_cond5
  dsimp only
  rw [h0 t]
  have e : Scalar.cmpi .ne v6 v1 = if v6 ≠ v1 then 1#1 else 0#1 := by
    unfold Scalar.cmpi IntOp.cmpi
    by_cases h : v6 = v1
    · subst h; simp
    · rw [if_pos h]; simp [h, bne, beq_eq_false_iff_ne.mpr h]
  rw [e]
  by_cases h : t.val = 0 <;> by_cases h' : v6 = v1 <;> simp only [h, h', if_true, if_false, ne_eq, not_true_eq_false, not_false_eq_true, true_or, false_or, or_true, or_false, iff_true, iff_false] <;> decide
end Points

section Places
theorem off3_eq (P : Fin 500) : k0_off3 (w32 P) = ![min 0 P.val] := by
  unfold k0_off3; exact congrArg (fun n => ![n]) (minsi_small 0 P (by omega) (by omega))
theorem off5_eq (P : Fin 500) : k0_off5 (w32 P) = ![min 1 P.val] := by
  unfold k0_off5; exact congrArg (fun n => ![n]) (minsi_small 1 P (by omega) (by omega))
theorem off7_eq (P : Fin 500) : k0_off7 (w32 P) = ![min 2 P.val] := by
  unfold k0_off7; exact congrArg (fun n => ![n]) (minsi_small 2 P (by omega) (by omega))

theorem plus_three : ∀ p : Fin 500, Scalar.subi (Scalar.addi (w32 p) 4#32) 1#32 = w32 (p.val + 3) := by decide +kernel
theorem plus_one : ∀ p : Fin 500, Scalar.addi (w32 p) 1#32 = w32 (p.val + 1) := by decide +kernel
theorem plus_two : ∀ p : Fin 500, Scalar.addi (w32 p) 2#32 = w32 (p.val + 2) := by decide +kernel
theorem plus_three' : ∀ p : Fin 500, Scalar.addi (w32 p) 3#32 = w32 (p.val + 3) := by decide +kernel

theorem off10_eq (p P : Fin 500) : k0_off10 (w32 p) (w32 P) = ![min (p.val + 3) P.val] := by
  unfold k0_off10; dsimp only; rw [plus_three p]
  exact congrArg (fun n => ![n]) (minsi_small (p.val + 3) P (by omega) (by omega))
theorem off18_eq (p P : Fin 500) : k0_off18 (w32 p) (w32 P) = ![min (p.val + 1) P.val] := by
  unfold k0_off18; dsimp only; rw [plus_one p]
  exact congrArg (fun n => ![n]) (minsi_small (p.val + 1) P (by omega) (by omega))
theorem off22_eq (p P : Fin 500) : k0_off22 (w32 p) (w32 P) = ![min (p.val + 2) P.val] := by
  unfold k0_off22; dsimp only; rw [plus_two p]
  exact congrArg (fun n => ![n]) (minsi_small (p.val + 2) P (by omega) (by omega))
theorem off26_eq (p P : Fin 500) : k0_off26 (w32 p) (w32 P) = ![min (p.val + 3) P.val] := by
  unfold k0_off26; dsimp only; rw [plus_three' p]
  exact congrArg (fun n => ![n]) (minsi_small (p.val + 3) P (by omega) (by omega))
end Places

section Slots
theorem off11_eq : ∀ p : Fin 500, k0_off11 (w32 p) = ![(p.val + 3) % 4] := by decide +kernel
theorem off12_eq : ∀ p : Fin 500, k0_off12 (w32 p) = ![(p.val + 3) % 4, 0, 0, 0] := by decide +kernel
theorem off14_eq : ∀ p : Fin 500, k0_off14 (w32 p) = ![p.val % 4] := by decide +kernel
theorem off15_eq : ∀ p : Fin 500, k0_off15 (w32 p) = ![p.val % 4, 0, 0, 0] := by decide +kernel
theorem off17_eq : ∀ p : Fin 500, k0_off17 (w32 p) = ![p.val % 4, 0, 0, 0] := by decide +kernel
theorem off19_eq : ∀ p : Fin 500, k0_off19 (w32 p) = ![(p.val + 1) % 4] := by decide +kernel
theorem off20_eq : ∀ p : Fin 500, k0_off20 (w32 p) = ![(p.val + 1) % 4, 0, 0, 0] := by decide +kernel
theorem off23_eq : ∀ p : Fin 500, k0_off23 (w32 p) = ![(p.val + 2) % 4] := by decide +kernel
theorem off24_eq : ∀ p : Fin 500, k0_off24 (w32 p) = ![(p.val + 2) % 4, 0, 0, 0] := by decide +kernel
theorem off27_eq : ∀ p : Fin 500, k0_off27 (w32 p) = ![(p.val + 3) % 4] := by decide +kernel
theorem off28_eq : ∀ p : Fin 500, k0_off28 (w32 p) = ![(p.val + 3) % 4, 0, 0, 0] := by decide +kernel
end Slots

section Tiles
theorem off4_eq : ∀ t : Fin 391, k0_off4 (w32 t) = ![0, 0, t.val * 128] := by decide +kernel
theorem mult_dvd : ∀ t : Fin 391, 128 ∣ (k0_mult1 (w32 t)).toNat := by decide +kernel
theorem cond2_eq : ∀ t : Fin 391, k0_cond2 (w32 t) = 1#1 ↔ t.val < 390 := by decide +kernel
theorem last_eq : ∀ t : Fin 391, Scalar.cmpi .ne (Scalar.extui (Scalar.cmpi .eq (w32 t) 390#32) : BitVec 32) 0#32 = 1#1 ↔ ¬ t.val < 390 := by decide +kernel
theorem off32_eq : ∀ d : Fin 500, k0_off32 (w32 d) = ![d.val, 0, 0] := by decide +kernel
end Tiles

section Lanes
/-- The group of eight rows a lane lies in, as the kernel computes it. -/
abbrev groupOf (v18 : BitVec 32) : BitVec 32 :=
  let v19 : BitVec 32 := Scalar.divsi v18 8#32
  let v20 : BitVec 1 := Scalar.cmpi .sgt v18 0#32
  let v21 : BitVec 32 := Scalar.extui v20
  let v22 : BitVec 1 := Scalar.cmpi .slt v18 0#32
  let v23 : BitVec 32 := Scalar.extui v22
  let v24 : BitVec 32 := Scalar.subi v21 v23
  let v25 : BitVec 1 := Scalar.cmpi .sgt 8#32 0#32
  let v26 : BitVec 32 := Scalar.extui v25
  let v27 : BitVec 1 := Scalar.cmpi .slt 8#32 0#32
  let v28 : BitVec 32 := Scalar.extui v27
  let v29 : BitVec 32 := Scalar.subi v26 v28
  let v30 : BitVec 1 := Scalar.cmpi .ne v24 v29
  let v31 : BitVec 32 := Scalar.remsi v18 8#32
  let v32 : BitVec 1 := Scalar.cmpi .ne v31 0#32
  let v33 : BitVec 1 := Scalar.andi v30 v32
  let v34 : BitVec 32 := Scalar.subi v19 1#32
  let v35 : BitVec 32 := Scalar.select v33 v34 v19
  let v36 : BitVec 32 := Scalar.maxsi v35 0#32
  Scalar.minsi v36 15#32

theorem groupOf_eq : ∀ l : Fin 128, groupOf (w32 l) = w32 (l.val / 8) := by decide +kernel

/-- How far the group is turned to bring the lane's row first. -/
abbrev turnOf (v18 : BitVec 32) : BitVec 32 :=
  let v40 : BitVec 1 := Scalar.cmpi .eq 8#32 0#32
  let v41 : BitVec 32 := Scalar.select v40 1#32 8#32
  let v42 : BitVec 32 := Scalar.remsi v18 v41
  let v43 : BitVec 1 := Scalar.cmpi .ne v42 0#32
  let v44 : BitVec 1 := Scalar.cmpi .slt v42 0#32
  let v45 : BitVec 1 := Scalar.cmpi .slt v41 0#32
  let v46 : BitVec 1 := Scalar.xori v44 v45
  let v47 : BitVec 1 := Scalar.andi v46 v43
  let v48 : BitVec 32 := Scalar.addi v42 v41
  let v49 : BitVec 32 := Scalar.select v47 v48 v42
  Scalar.subi 0#32 v49

theorem turnOf_eq : ∀ l : Fin 128, (0 + 8 - (turnOf (w32 l)).toNat % 8) % 8 = l.val % 8 := by decide +kernel
end Lanes

section Row
variable {F : FTy → Type} [FloatOps F]

/-- The row the kernel stores: row `lane mod 8` of the group it loaded. -/
theorem pay1_apply (l : Fin 128) (v39 : FVec F S16x8x224 .f32) (y : S1x16x224.Idx) :
    k0_pay1 (F := F) (w32 l) v39 y = v39 (ix3 ⟨(y 1).val, (y 1).isLt⟩ ⟨l.val % 8, Nat.mod_lt _ (by decide)⟩ ⟨(y 2).val, (y 2).isLt⟩) := by
  have h := turnOf_eq l
  have e : k0_pay1 (F := F) (w32 l) v39 = shapeCast S1x16x224 (extractStridedSlice S16x1x224 ![0, 0, 0]
      (dynamicRotate 1 (turnOf (w32 l)) none v39 rotates_S16x8x224_d1) slices_S16x8x224_o0_0_0_S16x1x224) shapeCasts_S16x1x224_S1x16x224 := rfl
  rw [e]
  generalize turnOf (w32 l) = n at h
  pointwise []
  congr 2
  exact Fin.ext (show (8 - n.toNat % 8) % 8 = l.val % 8 by rw [Nat.zero_add] at h; exact h)

/-- A block turned: its rows are its lanes. -/
theorem pay2_apply (v : Vec F S1x16x224x128 .f32) (y : S16x128x224.Idx) :
    k0_pay2 (F := F) v y = v (ix4 0 (y 0) (y 2) (y 1)) := by
  pointwise [k0_pay2]

theorem pay3_apply (v : Vec F S16x224x128 .f32) (y : S16x128x224.Idx) :
    k0_pay3 (F := F) v y = v (ix3 (y 0) (y 2) (y 1)) := by
  pointwise [k0_pay3]
end Row

end Cert.KernelIdeal.Collect

end
-- ==== Proof.KernelIdeal.Steps.lean ====
/-
  The pieces of the gather call's body: a word read from a table, a block turned, a row stored.
-/
module

public import proofs.«01_k».proof.Proof.KernelIdeal.Words
public import proofs.«01_k».proof.Proof.Plan

@[expose] public section

set_option maxRecDepth 16384

noncomputable section

namespace Cert.KernelIdeal.Collect

open Cert.KernelIdeal Cert.KernelIdeal.Gen Cert.KernelIdeal.Decoder
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A table's word at a place, as a number. -/
def word (x : S500.Idx → BitVec 32) (i : ℕ) : ℕ := if h : i < 500 then (x (ix1 (⟨i, h⟩ : Fin 500))).toNat else 0

theorem word_eq (x : S500.Idx → BitVec 32) (i : ℕ) (h : i < 500) : x (ix1 (⟨i, h⟩ : Fin 500)) = w32 (word x i) := by
  unfold word; rw [dif_pos h]; simp [w32]

variable (W : Dev nD → Valuation τ sig (Elt F)) (c : Dev nD)

abbrev tileT : S500.Idx → BitVec 32 := W c main_v5
abbrev laneT : S500.Idx → BitVec 32 := W c main_v6
abbrev destT : S500.Idx → BitVec 32 := W c main_v3
abbrev posT : S500.Idx → BitVec 32 := W c main_v15
abbrev distinctT : S500.Idx → BitVec 32 := W c main_v24

/-- The five tables, held. -/
def tables : sProp 𝕄 :=
  iprop((((c : Thread nD τ).loc main_v5) ↦{fullShare} W c main_v5) ∗ (((c : Thread nD τ).loc main_v6) ↦{fullShare} W c main_v6)
    ∗ (((c : Thread nD τ).loc main_v3) ↦{fullShare} W c main_v3) ∗ (((c : Thread nD τ).loc main_v15) ↦{fullShare} W c main_v15)
    ∗ (((c : Thread nD τ).loc main_v24) ↦{fullShare} W c main_v24))

/-- A condition the body assumes. -/
theorem assume_runs {P : Prop} {d : Decidable P} (h : P) (Q : PLift P → sProp 𝕄) :
    Q ⟨h⟩ ⊢ wp frame (wpE (defs₀ (F := F)) Variants.none (c : Thread nD τ) none) Set.univ (Prog.lift (TpuEff.assume P d)) Q := by
  iintro H
  iapply (wp_assume Variants.none (c : Thread nD τ) none Set.univ h)
  iapply Sem.le_wp_ret
  iexact H

/-- A word read from a table held. -/
theorem word_runs (m : Memref sig .tc .smem S500 .i32) (f : Buf (Elt F) (m.view.loc (c : Thread nD τ))) {off : Fin 1 → ℕ} (i : ℕ) (hi : i < 500)
    (ho : off = ![i]) (ib : ∀ a, off a + S1.size a ≤ S500.size a) (h1 h2) (v : Elt F .i32)
    (hv : m.view.read (Elt F) f (ix1 (⟨i, hi⟩ : Fin 500)) = v) (Q : Elt F .i32 → sProp 𝕄) :
    iprop((m.view.loc (c : Thread nD τ) ↦{fullShare} f) ∗ ((m.view.loc (c : Thread nD τ) ↦{fullShare} f) -∗ Q v))
      ⊢ wp frame (wpE (defs₀ (F := F)) Variants.none (c : Thread nD τ) none) Set.univ (smemLoad m (Rect.unit (s := S500) off S1.size ib) h1 h2) Q := by
  subst ho hv
  unfold smemLoad
  iintro ⟨H, Hk⟩
  iapply (wp_smemLoadElt Variants.none (c : Thread nD τ) none Set.univ (f := f) (q := fullShare) (S := Finset.univ) (Finset.subset_univ _)) $$ [H]
  · iexact H
  iintro H
  iapply Sem.le_wp_ret
  ihave Hk := Hk $$ H
  have e : ∀ x, (m.access (Rect.unit (s := S500) ![i] S1.size ib)).read (Elt F) f x = m.view.read (Elt F) f (ix1 (⟨i, hi⟩ : Fin 500)) := fun x => by
    show m.view.read (Elt F) f ((Rect.unit (s := S500) ![i] S1.size ib).emb x) = _
    congr 1
    funext a
    refine Fin.ext ?_
    fin_cases a
    have hx : (x 0).val = 0 := by have h : (x 0).val < 1 := (x 0).isLt; omega
    show i + 1 * (x 0).val = i
    omega
  rw [e]
  iexact Hk

theorem tile_runs {off : Fin 1 → ℕ} (i : ℕ) (hi : i < 500) (ho : off = ![i]) (ib : ∀ a, off a + S1.size a ≤ S500.size a) (h1 h2) (Q : Elt F .i32 → sProp 𝕄) :
    iprop(tables W c ∗ (tables W c -∗ Q (w32 (word (tileT W c) i))))
      ⊢ wp frame (wpE (defs₀ (F := F)) Variants.none (c : Thread nD τ) none) Set.univ (smemLoad (Memref.whole main_v5) (Rect.unit (s := S500) off S1.size ib) h1 h2) Q := by
  unfold tables
  rw [← word_eq (tileT W c) i hi]
  iintro ⟨⟨H1, H2, H3, H4, H5⟩, Hk⟩
  iapply (word_runs c (Memref.whole main_v5) (W c main_v5) i hi ho ib h1 h2 (tileT W c (ix1 (⟨i, hi⟩ : Fin 500))) rfl Q)
  isplitl [H1]; · iexact H1
  iintro H1
  iapply Hk
  isplitl [H1]; · iexact H1
  isplitl [H2]; · iexact H2
  isplitl [H3]; · iexact H3
  isplitl [H4]; · iexact H4
  iexact H5

theorem lane_runs {off : Fin 1 → ℕ} (i : ℕ) (hi : i < 500) (ho : off = ![i]) (ib : ∀ a, off a + S1.size a ≤ S500.size a) (h1 h2) (Q : Elt F .i32 → sProp 𝕄) :
    iprop(tables W c ∗ (tables W c -∗ Q (w32 (word (laneT W c) i))))
      ⊢ wp frame (wpE (defs₀ (F := F)) Variants.none (c : Thread nD τ) none) Set.univ (smemLoad (Memref.whole main_v6) (Rect.unit (s := S500) off S1.size ib) h1 h2) Q := by
  unfold tables
  rw [← word_eq (laneT W c) i hi]
  iintro ⟨⟨H1, H2, H3, H4, H5⟩, Hk⟩
  iapply (word_runs c (Memref.whole main_v6) (W c main_v6) i hi ho ib h1 h2 (laneT W c (ix1 (⟨i, hi⟩ : Fin 500))) rfl Q)
  isplitl [H2]; · iexact H2
  iintro H2
  iapply Hk
  isplitl [H1]; · iexact H1
  isplitl [H2]; · iexact H2
  isplitl [H3]; · iexact H3
  isplitl [H4]; · iexact H4
  iexact H5

theorem dest_runs {off : Fin 1 → ℕ} (i : ℕ) (hi : i < 500) (ho : off = ![i]) (ib : ∀ a, off a + S1.size a ≤ S500.size a) (h1 h2) (Q : Elt F .i32 → sProp 𝕄) :
    iprop(tables W c ∗ (tables W c -∗ Q (w32 (word (destT W c) i))))
      ⊢ wp frame (wpE (defs₀ (F := F)) Variants.none (c : Thread nD τ) none) Set.univ (smemLoad (Memref.whole main_v3) (Rect.unit (s := S500) off S1.size ib) h1 h2) Q := by
  unfold tables
  rw [← word_eq (destT W c) i hi]
  iintro ⟨⟨H1, H2, H3, H4, H5⟩, Hk⟩
  iapply (word_runs c (Memref.whole main_v3) (W c main_v3) i hi ho ib h1 h2 (destT W c (ix1 (⟨i, hi⟩ : Fin 500))) rfl Q)
  isplitl [H3]; · iexact H3
  iintro H3
  iapply Hk
  isplitl [H1]; · iexact H1
  isplitl [H2]; · iexact H2
  isplitl [H3]; · iexact H3
  isplitl [H4]; · iexact H4
  iexact H5

theorem pos_runs {off : Fin 1 → ℕ} (i : ℕ) (hi : i < 500) (ho : off = ![i]) (ib : ∀ a, off a + S1.size a ≤ S500.size a) (h1 h2) (Q : Elt F .i32 → sProp 𝕄) :
    iprop(tables W c ∗ (tables W c -∗ Q (w32 (word (posT W c) i))))
      ⊢ wp frame (wpE (defs₀ (F := F)) Variants.none (c : Thread nD τ) none) Set.univ (smemLoad (Memref.whole main_v15) (Rect.unit (s := S500) off S1.size ib) h1 h2) Q := by
  unfold tables
  rw [← word_eq (posT W c) i hi]
  iintro ⟨⟨H1, H2, H3, H4, H5⟩, Hk⟩
  iapply (word_runs c (Memref.whole main_v15) (W c main_v15) i hi ho ib h1 h2 (posT W c (ix1 (⟨i, hi⟩ : Fin 500))) rfl Q)
  isplitl [H4]; · iexact H4
  iintro H4
  iapply Hk
  isplitl [H1]; · iexact H1
  isplitl [H2]; · iexact H2
  isplitl [H3]; · iexact H3
  isplitl [H4]; · iexact H4
  iexact H5

theorem distinct_runs {off : Fin 1 → ℕ} (i : ℕ) (hi : i < 500) (ho : off = ![i]) (ib : ∀ a, off a + S1.size a ≤ S500.size a) (h1 h2) (Q : Elt F .i32 → sProp 𝕄) :
    iprop(tables W c ∗ (tables W c -∗ Q (w32 (word (distinctT W c) i))))
      ⊢ wp frame (wpE (defs₀ (F := F)) Variants.none (c : Thread nD τ) none) Set.univ (smemLoad (Memref.whole main_v24) (Rect.unit (s := S500) off S1.size ib) h1 h2) Q := by
  unfold tables
  rw [← word_eq (distinctT W c) i hi]
  iintro ⟨⟨H1, H2, H3, H4, H5⟩, Hk⟩
  iapply (word_runs c (Memref.whole main_v24) (W c main_v24) i hi ho ib h1 h2 (distinctT W c (ix1 (⟨i, hi⟩ : Fin 500))) rfl Q)
  isplitl [H5]; · iexact H5
  iintro H5
  iapply Hk
  isplitl [H1]; · iexact H1
  isplitl [H2]; · iexact H2
  isplitl [H3]; · iexact H3
  isplitl [H4]; · iexact H4
  iexact H5

/-! ## The block at hand -/

/-- The table's contents, as a function of axis, class and gene. -/
abbrev tableX : S16x224x50000.Idx → Elt F .f32 := W c main_v1

/-- The turned block `g` is tile `t`'s, as far as the table goes. -/
def Has (t : ℕ) (g : S16x128x224.Idx → Elt F .f32) : Prop :=
  ∀ (h : Fin 16) (l : Fin 128) (cc : Fin 224) (hl : t * 128 + l.val < 50000), g (ix3 h l cc) = tableX W c (ix3 h cc (⟨t * 128 + l.val, hl⟩ : Fin 50000))

abbrev turnAt (g : S16x128x224.Idx → Elt F .f32) : sProp 𝕄 := ((c : Thread nD τ).loc cc0_scratch1) ↦{fullShare} g

theorem write_whole (g : S16x128x224.Idx → Elt F .f32) (w : S16x128x224.Idx → Elt F .f32) (ib) :
    (turnM.access (Rect.unit (s := S16x128x224) ![0, 0, 0] S16x128x224.size ib)).write (Elt F) g w Finset.univ = w := by
  have h := View.read_write_univ (Val := Elt F) (v := turnM.access (Rect.unit (s := S16x128x224) ![0, 0, 0] S16x128x224.size ib)) g w
  exact (Memref.read_access_unit_zero (Elt F) cc0_scratch1 (off := ![0, 0, 0]) (by funext a; fin_cases a <;> rfl) ib _).symm.trans h

/-- A load of the block at hand. -/
theorem turn_load (g : S16x128x224.Idx → Elt F .f32) (r : LoadRect S16x128x224) (hl) (Q : (r.shape.Idx → Elt F .f32) → sProp 𝕄) :
    iprop(turnAt c g ∗ (turnAt c g -∗ Q (turnM.view.readAt (Elt F) r g)))
      ⊢ wp frame (wpE (defs₀ (F := F)) Variants.none (c : Thread nD τ) none) Set.univ (Prog.lift (TpuEff.load turnM r hl)) Q := by
  iintro ⟨H, Hk⟩
  iapply (wp_load Variants.none (c : Thread nD τ) none Set.univ (f := g) (q := fullShare) (S := Finset.univ) (Finset.subset_univ _)) $$ [H]
  · iexact H
  iintro H
  iapply Sem.le_wp_ret
  iapply Hk; iexact H

/-- A store of the whole block at hand. -/
theorem turn_store (g w : S16x128x224.Idx → Elt F .f32) (ib) (hx hm) (Q : PUnit → sProp 𝕄) :
    iprop(turnAt c g ∗ (turnAt c w -∗ Q ⟨⟩))
      ⊢ wp frame (wpE (defs₀ (F := F)) Variants.none (c : Thread nD τ) none) Set.univ
          (Prog.lift (TpuEff.store turnM (Rect.unit (s := S16x128x224) ![0, 0, 0] S16x128x224.size ib) w Finset.univ hx hm)) Q := by
  iintro ⟨H, Hk⟩
  iapply (wp_store Variants.none (c : Thread nD τ) none Set.univ (f := g) (S := Finset.univ) (Finset.subset_univ _)) $$ [H]
  · iexact H
  rw [write_whole g w ib]
  iintro H
  iapply Sem.le_wp_ret
  iapply Hk; iexact H

/-- A load of a slot's block. -/
theorem slot_load (k : Fin 4) (f) {off : Fin 4 → ℕ} (ho : off = ![k.val, 0, 0, 0]) (ib : ∀ a, off a + S1x16x224x128.size a ≤ S4x16x224x128.size a) (hl)
    (Q : (S1x16x224x128.Idx → Elt F .f32) → sProp 𝕄) :
    iprop(slotAt c k f ∗ (∀ v, ⌜shapeCast S16x224x128 v shapeCasts_S1x16x224x128_S16x224x128 = (slot k).view.read (Elt F) f⌝ -∗ slotAt c k f -∗ Q v))
      ⊢ wp frame (wpE (defs₀ (F := F)) Variants.none (c : Thread nD τ) none) Set.univ
          (Prog.lift (TpuEff.load slabM (Rect.unit (s := S4x16x224x128) off S1x16x224x128.size ib).toLoadRect hl)) Q := by
  subst ho
  iintro ⟨H, Hk⟩
  iapply (wp_load_rect Variants.none (c : Thread nD τ) none Set.univ (f := f) (q := fullShare) (S := (slot k).view.set)
    (by rw [Memref.set_view_squeeze])) $$ [H]
  · iexact H
  iintro H
  iapply Sem.le_wp_ret
  iapply Hk
  · ipureintro; rfl
  iexact H

/-- The wait for a block, and the block turned into the block at hand. -/
theorem part1_runs (k : Fin 4) (t : ℕ) (ht : t < 390) (p : Fin 500) (hk : k.val = p.val % 4) (i : grid0.Coords)
    (m1 hm1 m2 hm2 m3 hm3 m4 hm4 m5 hm5 m7 hm7 m8 hm8) (v6 : Elt F .i32) (h5) (h9) (h7) (Q : PUnit → sProp 𝕄) :
    iprop(Slot c (W c main_v1) k t ∗ settled c ∗ (∃ g, turnAt c g)
        ∗ ((Free c (W c main_v1) k ∗ settled c ∗ (∃ g, ⌜Has W c t g⌝ ∗ turnAt c g)) -∗ Q ⟨⟩))
      ⊢ wp frame (wpE (defs₀ (F := F)) Variants.none (c : Thread nD τ) none) Set.univ
          (k0_part1 i m1 hm1 m2 hm2 m3 hm3 m4 hm4 m5 hm5 tableM (Memref.isWhole_whole _) m7 hm7 m8 hm8 slabM (Memref.isWhole_whole _) turnM (Memref.isWhole_whole _) cc0_scratch2 (w32 p) v6 h5 (w32 t) h9 h7) Q := by
  have ks : (![k.val] : Fin 1 → ℕ) = ![p.val % 4] := by rw [hk]
  rw [k0_part1_eq_skeleton]; unfold k0_part1_skel
  dsimp only
  rw [wp_bind]
  iintro ⟨HS, HO, ⟨%g, Hg⟩, Hk⟩
  iapply (wait_runs c (W c main_v1) k t ht (by rw [hk]; exact off14_eq p) (by rw [hk]; exact off15_eq p) _ _ _ _ _ _)
  isplitl [HS]; · iexact HS
  isplitl [HO]; · iexact HO
  iintro ⟨Hi, ⟨%f, %hf, Hs⟩, HO⟩
  rw [wp_bind]
  iapply (slot_load c k f (by rw [hk]; exact off17_eq p) _ _ _)
  isplitl [Hs]; · iexact Hs
  iintro %v %hv Hs
  rw [wp_bind]
  iapply (turn_load c g _ _ _)
  isplitl [Hg]; · iexact Hg
  iintro Hg
  rw [wp_bind]
  iapply (turn_store c g _ _ _ _ _)
  isplitl [Hg]; · iexact Hg
  iintro Hg
  iapply Sem.le_wp_ret
  iapply Hk
  isplitl [Hi Hs]
  · isplitl [Hi]; · iexact Hi
    iexists f; iexact Hs
  isplitl [HO]; · iexact HO
  iexists _
  isplitr
  swap; · iexact Hg
  ipureintro
  intro h l cc hl
  rw [pay2_apply]
  have e1 : shapeCast S16x224x128 v shapeCasts_S1x16x224x128_S16x224x128 (ix3 h cc l) = v (ix4 0 h cc l) := by pointwise []
  have e2 := congrFun (hv.trans hf) (ix3 h cc l)
  refine e1.symm.trans (e2.trans ?_)
  show W c main_v1 ((Rect.unit (s := S16x224x50000) ![0, 0, t * 128] S16x224x128.size (block_inb t ht)).emb (ix3 h cc l)) = W c main_v1 _
  congr 1
  funext a
  refine Fin.ext ?_
  fin_cases a
  · show 0 + 1 * h.val = h.val; omega
  · show 0 + 1 * cc.val = cc.val; omega
  · show t * 128 + 1 * l.val = t * 128 + l.val; omega

end Cert.KernelIdeal.Collect

end
-- ==== Proof.KernelIdeal.Part.lean ====
/-
  The gather call's body up to the row: the transfers of a point, and the block at hand when its row is picked.
-/
module

public import proofs.«01_k».proof.Proof.KernelIdeal.Steps

@[expose] public section

set_option maxRecDepth 16384

noncomputable section

namespace Cert.KernelIdeal.Collect

open Cert.KernelIdeal Cert.KernelIdeal.Gen Cert.KernelIdeal.Decoder Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Jumps
variable (c : Dev nD) (X : Buf (Elt F) ((c : Thread nD τ).loc main_v1)) {α : Type}

/-- Starting a transfer, the rest of the body after it. -/
theorem start_then (k : Fin 4) (t : ℕ) {p : Prop} [Decidable p] (hp : p ↔ t < 390) {offS : Fin 1 → ℕ} {offB : Fin 4 → ℕ} {offH : Fin 3 → ℕ}
    (hS : offS = ![k.val]) (hB : offB = ![k.val, 0, 0, 0]) (hH : t < 390 → offH = ![0, 0, t * 128])
    (iS : p → ∀ a, offS a + S1.size a ≤ S4.size a) (iB : p → ∀ a, offB a + S1x16x224x128.size a ≤ S4x16x224x128.size a)
    (iH : p → ∀ a, offH a + S16x224x128.size a ≤ S16x224x50000.size a)
    (h1 : ∀ h : p, _) (h2 : ∀ h : p, _) (h3 : ∀ h : p, _) (jp : Unit → Prog (TpuEff nD τ sig (Elt F) Λ₀ .tc) α) (Q : α → sProp 𝕄) :
    iprop(Free c X k ∗ (Slot c X k t -∗ wp frame (wpE (defs₀ (F := F)) Variants.none (c : Thread nD τ) none) Set.univ (jp ⟨⟩) Q))
      ⊢ wp frame (wpE (defs₀ (F := F)) Variants.none (c : Thread nD τ) none) Set.univ
          (if h : p then (do
            Prog.lift (TpuEff.enqueueDma (tableM.slice (Rect.unit (s := S16x224x50000) offH S16x224x128.size (iH h)) (fun _ => rfl))
              (.here ((slabM.slice (Rect.unit (s := S4x16x224x128) offB S1x16x224x128.size (iB h)) (fun _ => rfl)).squeeze S16x224x128 squeezes_S1x16x224x128_S16x224x128))
              (.dma ((cc0_scratch2.slice (Rect.unit (s := S4) offS S1.size (iS h))).squeeze S_ squeezes_S1_S_).sem) (h1 h) (h2 h) (h3 h))
            jp ⟨⟩) else jp ⟨⟩) Q := by
  by_cases h : p
  · rw [dif_pos h, wp_bind]
    exact start_runs c X k t (hp.mp h) hS hB (hH (hp.mp h)) _ _ _ _ _ _ (fun _ => wp frame (wpE (defs₀ (F := F)) Variants.none (c : Thread nD τ) none) Set.univ (jp ⟨⟩) Q)
  · rw [dif_neg h, Slot_free c X k t (fun h' => h (hp.mpr h'))]
    iintro ⟨HF, Hk⟩
    iapply Hk; iexact HF

/-- Waiting for a transfer, the rest of the body after it. -/
theorem wait_then (k : Fin 4) (t : ℕ) {p : Prop} [Decidable p] (hp : p ↔ t < 390) {offS : Fin 1 → ℕ} {offB : Fin 4 → ℕ} {offH : Fin 3 → ℕ}
    (hS : offS = ![k.val]) (hB : offB = ![k.val, 0, 0, 0])
    (iS : p → ∀ a, offS a + S1.size a ≤ S4.size a) (iB : p → ∀ a, offB a + S1x16x224x128.size a ≤ S4x16x224x128.size a)
    (iH : p → ∀ a, offH a + S16x224x128.size a ≤ S16x224x50000.size a)
    (h1 : ∀ h : p, _) (h2 : ∀ h : p, _) (jp : Unit → Prog (TpuEff nD τ sig (Elt F) Λ₀ .tc) α) (Q : α → sProp 𝕄) :
    iprop(Slot c X k t ∗ settled c ∗ ((Free c X k ∗ settled c) -∗ wp frame (wpE (defs₀ (F := F)) Variants.none (c : Thread nD τ) none) Set.univ (jp ⟨⟩) Q))
      ⊢ wp frame (wpE (defs₀ (F := F)) Variants.none (c : Thread nD τ) none) Set.univ
          (if h : p then (do
            Prog.lift (TpuEff.waitDma2 ((cc0_scratch2.slice (Rect.unit (s := S4) offS S1.size (iS h))).squeeze S_ squeezes_S1_S_).sem
              (tableM.slice (Rect.unit (s := S16x224x50000) offH S16x224x128.size (iH h)) (fun _ => rfl))
              ((slabM.slice (Rect.unit (s := S4x16x224x128) offB S1x16x224x128.size (iB h)) (fun _ => rfl)).squeeze S16x224x128 squeezes_S1x16x224x128_S16x224x128) (h1 h) (h2 h))
            jp ⟨⟩) else jp ⟨⟩) Q := by
  by_cases h : p
  · rw [dif_pos h, wp_bind]
    refine BIBase.Entails.trans ?_ (wait_runs c X k t (hp.mp h) hS hB _ _ _ _ _ (fun _ => wp frame (wpE (defs₀ (F := F)) Variants.none (c : Thread nD τ) none) Set.univ (jp ⟨⟩) Q))
    iintro ⟨HF, HO, Hk⟩
    isplitl [HF]; · iexact HF
    isplitl [HO]; · iexact HO
    iintro ⟨Hi, ⟨%f, -, Hs⟩, HO⟩
    iapply Hk
    isplitl [Hi Hs]
    · isplitl [Hi]; · iexact Hi
      iexists f; iexact Hs
    iexact HO
  · rw [dif_neg h, Slot_free c X k t (fun h' => h (hp.mpr h'))]
    iintro ⟨HF, HO, Hk⟩
    iapply Hk
    isplitl [HF]; · iexact HF
    iexact HO
end Jumps

variable (W : Dev nD → Valuation τ sig (Elt F)) (c : Dev nD)

/-- The tables' words as numbers. -/
abbrev Tn : ℕ → ℕ := word (tileT W c)
abbrev Ln : ℕ → ℕ := word (laneT W c)
abbrev Dn : ℕ → ℕ := word (destT W c)
abbrev Qn : ℕ → ℕ := word (posT W c)
abbrev Un : ℕ → ℕ := word (distinctT W c)
/-- What the call needs of them. -/
abbrev Ok : Prop := Cert.Plan.Facts (Tn W c) (Ln W c) (Dn W c) (Qn W c) (Un W c)
/-- The tile asked for by number. -/
abbrev asked : ℕ → ℕ := ask (Qn W c) (Un W c)

/-- The slots before point `i`. -/
def before (i : ℕ) : Fin 4 → ℕ := if i = 0 ∨ i = 500 then fun _ => 390 else ring (asked W c) (Qn W c (i - 1))

theorem inb500 (n : ℕ) (h : n < 500) : ∀ a, (![n] : Fin 1 → ℕ) a + S1.size a ≤ S500.size a := by
  intro a; fin_cases a; show n + 1 ≤ 500; omega

/-- The last window's block holds the table's last lanes. -/
def Tail (Y : S16x224x128.Idx → Elt F .f32) : Prop :=
  ∀ (h : Fin 16) (cc : Fin 224) (l : Fin 128) (hl : 390 * 128 + l.val < 50000), Y (ix3 h cc l) = tableX W c (ix3 h cc (⟨390 * 128 + l.val, hl⟩ : Fin 50000))

/-- What is held between two statements of the body: the tables, the slots at `r`, nothing owed, the block at hand. -/
abbrev Held (r : Fin 4 → ℕ) (P : (S16x128x224.Idx → Elt F .f32) → Prop) (m7 : Memref sig .tc .vmem S16x224x128 .f32) (Y : S16x224x128.Idx → Elt F .f32) : sProp 𝕄 :=
  iprop(tables W c ∗ Slots c (W c main_v1) r ∗ settled c ∗ (∃ g, ⌜P g⌝ ∗ turnAt c g) ∗ owns (c : Thread nD τ) m7 fullShare Y)

/-- One slot that is free put at another tile. -/
theorem Slots_free (r : Fin 4 → ℕ) (k : Fin 4) (h : r k = 390) :
    Slots c (W c main_v1) r ⊢ iprop(Free c (W c main_v1) k ∗ ∀ t, Slot c (W c main_v1) k t -∗ Slots c (W c main_v1) (Function.update r k t)) := by
  have e := Slots_take c (W c main_v1) r k
  rwa [h, Slot_free c (W c main_v1) k 390 (by decide)] at e

/-- A block of the last window's buffer read whole. -/
theorem tail_load (m7 : Memref sig .tc .vmem S16x224x128 .f32) (Y : S16x224x128.Idx → Elt F .f32) (ib) (hl) (Q : (S16x224x128.Idx → Elt F .f32) → sProp 𝕄) :
    iprop(owns (c : Thread nD τ) m7 fullShare Y ∗ (owns (c : Thread nD τ) m7 fullShare Y -∗ Q Y))
      ⊢ wp frame (wpE (defs₀ (F := F)) Variants.none (c : Thread nD τ) none) Set.univ
          (Prog.lift (TpuEff.load m7 (Rect.unit (s := S16x224x128) ![0, 0, 0] S16x224x128.size ib).toLoadRect hl)) Q := by
  unfold owns
  iintro ⟨⟨%f, %hf, H⟩, Hk⟩
  subst hf
  iapply (wp_load Variants.none (c : Thread nD τ) none Set.univ (f := f) (q := fullShare) (S := m7.view.set) (View.setOn_subset_set _ _)) $$ [H]
  · iexact H
  iintro H
  iapply Sem.le_wp_ret
  have e : m7.view.readAt (Elt F) (Rect.unit (s := S16x224x128) ![0, 0, 0] S16x224x128.size ib).toLoadRect f = m7.view.read (Elt F) f := by
    funext y
    show m7.view.read (Elt F) f ((Rect.unit (s := S16x224x128) ![0, 0, 0] S16x224x128.size ib).emb y) = _
    congr 1
    funext a
    refine Fin.ext ?_
    fin_cases a
    · show 0 + 1 * (y 0).val = (y 0).val; omega
    · show 0 + 1 * (y 1).val = (y 1).val; omega
    · show 0 + 1 * (y 2).val = (y 2).val; omega
  rw [e]
  iapply Hk
  iexists f; isplitr; · ipureintro; rfl
  iexact H

theorem w32_inj {a b : ℕ} (ha : a < 500) (hb : b < 500) (h : w32 a = w32 b) : a = b := by
  have := congrArg BitVec.toNat h
  simp only [w32, BitVec.toNat_ofNat] at this
  omega

/-- A tile that is not the last one starts at a whole block, and that block lies in the table. -/
theorem tile_ok {p : Prop} (tt : Fin 391) : (∀ _ : p, ∀ _ : k0_cond2 (w32 tt) = 1#1, 128 ∣ (k0_mult1 (w32 tt)).toNat)
    ∧ (∀ _ : p, ∀ _ : k0_cond2 (w32 tt) = 1#1, ∀ a, k0_off4 (w32 tt) a + S16x224x128.size a ≤ S16x224x50000.size a) :=
  ⟨fun _ _ => mult_dvd tt, fun _ h => by rw [off4_eq tt]; exact block_inb _ ((cond2_eq tt).mp h)⟩

/-- The side conditions of a transfer into the slot of number `p + 3`, and of the wait on the slot of number `p`. -/
theorem give_ok {q : Prop} (p : Fin 500) (tt : Fin 391) : (∀ _ : q, ∀ _ : k0_cond6 (w32 tt) = 1#1, 128 ∣ (k0_mult4 (w32 tt)).toNat)
    ∧ (∀ _ : q, ∀ _ : k0_cond6 (w32 tt) = 1#1, ∀ a, k0_off11 (w32 p) a + S1.size a ≤ S4.size a)
    ∧ (∀ _ : q, ∀ _ : k0_cond6 (w32 tt) = 1#1, ∀ a, k0_off12 (w32 p) a + S1x16x224x128.size a ≤ S4x16x224x128.size a)
    ∧ (∀ _ : q, ∀ _ : k0_cond6 (w32 tt) = 1#1, ∀ a, k0_off13 (w32 tt) a + S16x224x128.size a ≤ S16x224x50000.size a) :=
  ⟨fun _ _ => mult_dvd tt, fun _ _ => by rw [off11_eq p]; exact cell_inb (slotOf (p + 3)), fun _ _ => by rw [off12_eq p]; exact slot_inb (slotOf (p + 3)),
    (tile_ok tt).2⟩
theorem take_ok {q : Prop} (p : Fin 500) (tt : Fin 391) : (∀ _ : q, ∀ _ : k0_cond7 (w32 tt) = 1#1, 128 ∣ (k0_mult5 (w32 tt)).toNat)
    ∧ (∀ _ : q, ∀ _ : k0_cond7 (w32 tt) = 1#1, ∀ a, k0_off14 (w32 p) a + S1.size a ≤ S4.size a)
    ∧ (∀ _ : q, ∀ _ : k0_cond7 (w32 tt) = 1#1, ∀ a, k0_off15 (w32 p) a + S1x16x224x128.size a ≤ S4x16x224x128.size a)
    ∧ (∀ _ : q, ∀ _ : k0_cond7 (w32 tt) = 1#1, ∀ a, k0_off16 (w32 tt) a + S16x224x128.size a ≤ S16x224x50000.size a)
    ∧ (∀ _ : q, ∀ _ : k0_cond7 (w32 tt) = 1#1, ∀ a, k0_off17 (w32 p) a + S1x16x224x128.size a ≤ S4x16x224x128.size a) :=
  ⟨fun _ _ => mult_dvd tt, fun _ _ => by rw [off14_eq p]; exact cell_inb (slotOf p), fun _ _ => by rw [off15_eq p]; exact slot_inb (slotOf p),
    (tile_ok tt).2, fun _ _ => by rw [off17_eq p]; exact slot_inb (slotOf p)⟩

/-- The side conditions of the last three waits. -/
theorem wait_ok1 {q : Prop} (p : Fin 500) (tt : Fin 391) : (∀ _ : q, ∀ _ : k0_cond10 (w32 tt) = 1#1, 128 ∣ (k0_mult6 (w32 tt)).toNat)
    ∧ (∀ _ : q, ∀ _ : k0_cond10 (w32 tt) = 1#1, ∀ a, k0_off19 (w32 p) a + S1.size a ≤ S4.size a)
    ∧ (∀ _ : q, ∀ _ : k0_cond10 (w32 tt) = 1#1, ∀ a, k0_off20 (w32 p) a + S1x16x224x128.size a ≤ S4x16x224x128.size a)
    ∧ (∀ _ : q, ∀ _ : k0_cond10 (w32 tt) = 1#1, ∀ a, k0_off21 (w32 tt) a + S16x224x128.size a ≤ S16x224x50000.size a) :=
  ⟨fun _ _ => mult_dvd tt, fun _ _ => by rw [off19_eq p]; exact cell_inb (slotOf (p + 1)), fun _ _ => by rw [off20_eq p]; exact slot_inb (slotOf (p + 1)),
    (tile_ok tt).2⟩
theorem wait_ok2 {q : Prop} (p : Fin 500) (tt : Fin 391) : (∀ _ : q, ∀ _ : k0_cond11 (w32 tt) = 1#1, 128 ∣ (k0_mult7 (w32 tt)).toNat)
    ∧ (∀ _ : q, ∀ _ : k0_cond11 (w32 tt) = 1#1, ∀ a, k0_off23 (w32 p) a + S1.size a ≤ S4.size a)
    ∧ (∀ _ : q, ∀ _ : k0_cond11 (w32 tt) = 1#1, ∀ a, k0_off24 (w32 p) a + S1x16x224x128.size a ≤ S4x16x224x128.size a)
    ∧ (∀ _ : q, ∀ _ : k0_cond11 (w32 tt) = 1#1, ∀ a, k0_off25 (w32 tt) a + S16x224x128.size a ≤ S16x224x50000.size a) :=
  ⟨fun _ _ => mult_dvd tt, fun _ _ => by rw [off23_eq p]; exact cell_inb (slotOf (p + 2)), fun _ _ => by rw [off24_eq p]; exact slot_inb (slotOf (p + 2)),
    (tile_ok tt).2⟩
theorem wait_ok3 {q : Prop} (p : Fin 500) (tt : Fin 391) : (∀ _ : q, ∀ _ : k0_cond12 (w32 tt) = 1#1, 128 ∣ (k0_mult8 (w32 tt)).toNat)
    ∧ (∀ _ : q, ∀ _ : k0_cond12 (w32 tt) = 1#1, ∀ a, k0_off27 (w32 p) a + S1.size a ≤ S4.size a)
    ∧ (∀ _ : q, ∀ _ : k0_cond12 (w32 tt) = 1#1, ∀ a, k0_off28 (w32 p) a + S1x16x224x128.size a ≤ S4x16x224x128.size a)
    ∧ (∀ _ : q, ∀ _ : k0_cond12 (w32 tt) = 1#1, ∀ a, k0_off29 (w32 tt) a + S16x224x128.size a ≤ S16x224x50000.size a) :=
  ⟨fun _ _ => mult_dvd tt, fun _ _ => by rw [off27_eq p]; exact cell_inb (slotOf (p + 3)), fun _ _ => by rw [off28_eq p]; exact slot_inb (slotOf (p + 3)),
    (tile_ok tt).2⟩

/-- At a point where a new tile begins: its fourth successor's slot is free, its own holds it, and taking it makes the ring of its number. -/
theorem step_ring (H : Ok W c) (i : ℕ) (hi : i < 500) (h : i = 0 ∨ Qn W c (i - 1) ≠ Qn W c i) :
    let r := if i = 0 then Function.update (Function.update (Function.update (before W c i) 0 (asked W c 0)) 1 (asked W c 1)) 2 (asked W c 2) else before W c i
    r (slotOf (Qn W c i + 3)) = 390 ∧ Function.update r (slotOf (Qn W c i + 3)) (asked W c (Qn W c i + 3)) (slotOf (Qn W c i)) = asked W c (Qn W c i)
      ∧ Function.update (Function.update r (slotOf (Qn W c i + 3)) (asked W c (Qn W c i + 3))) (slotOf (Qn W c i)) 390 = ring (asked W c) (Qn W c i) := by
  intro r
  by_cases h0 : i = 0
  · subst h0
    have hr : r = Function.update (Function.update (Function.update (fun _ => 390) 0 (asked W c 0)) 1 (asked W c 1)) 2 (asked W c 2) := by
      show (if (0 : ℕ) = 0 then _ else _) = _
      rw [if_pos rfl, show before W c 0 = fun _ => 390 from if_pos (Or.inl rfl)]
    have hQ : Qn W c 0 = 0 := H.pos_zero
    rw [hQ, hr]
    exact ⟨rfl, rfl, ring_start (asked W c)⟩
  · have hQ : Qn W c i = Qn W c (i - 1) + 1 := by
      have e := H.pos_succ (i - 1) (by omega)
      rw [Nat.sub_add_cancel (by omega)] at e
      rcases e with ⟨-, e⟩ | ⟨-, e⟩
      · rcases h with h | h
        · exact absurd h h0
        · exact absurd e.symm h
      · exact e
    have hr : r = ring (asked W c) (Qn W c (i - 1)) := by
      show (if i = 0 then _ else _) = _
      rw [if_neg h0]; unfold before; rw [if_neg (by omega)]
    rw [hQ, hr]
    exact ⟨step_free _ _, step_asked _ _, ring_step _ _⟩

/-- The block of the last window turned is the last tile's. -/
theorem tail_has (Y : S16x224x128.Idx → Elt F .f32) (h : Tail W c Y) : Has W c 390 (k0_pay3 Y) := by
  intro hh l cc hl
  rw [pay3_apply]
  exact h hh cc l hl

/-- The word read where a distinct tile is asked for. -/
theorem asked_runs (H : Ok W c) (q : ℕ) {off : Fin 1 → ℕ} (ho : off = ![min q (Qn W c 499)]) (ib : ∀ a, off a + S1.size a ≤ S500.size a) (h1 h2) (Q : Elt F .i32 → sProp 𝕄) :
    iprop(tables W c ∗ (tables W c -∗ Q (w32 (asked W c q))))
      ⊢ wp frame (wpE (defs₀ (F := F)) Variants.none (c : Thread nD τ) none) Set.univ (smemLoad (Memref.whole main_v24) (Rect.unit (s := S500) off S1.size ib) h1 h2) Q :=
  distinct_runs W c (min q (Qn W c 499)) (lt_of_le_of_lt (min_le_right _ _) (H.pos_lt 499 (by omega))) ho ib h1 h2 Q

set_option maxHeartbeats 4000000 in
theorem part2_runs (H : Ok W c) (t : Fin grid0.N) (m7 hm7 m8 hm8) (Y : S16x224x128.Idx → Elt F .f32) (hY : Tail W c Y) (Q : _ → sProp 𝕄) :
    iprop(Held W c (before W c t.val) (fun g => 0 < t.val → Has W c (Tn W c (t.val - 1)) g) m7 Y
        ∗ (Held W c (before W c (t.val + 1)) (Has W c (Tn W c t.val)) m7 Y
            -∗ Q ⟨BitVec.ofNat 32 (grid0.coords t 0).val, w32 (Ln W c t.val), groupOf (w32 (Ln W c t.val)), 0#32⟩))
      ⊢ wp frame (wpE (defs₀ (F := F)) Variants.none (c : Thread nD τ) none) Set.univ
          (k0_part2 (F := F) (grid0.coords t) (Memref.whole main_v5) (Memref.isWhole_whole _) (Memref.whole main_v6) (Memref.isWhole_whole _) (Memref.whole main_v3) (Memref.isWhole_whole _) (Memref.whole main_v15) (Memref.isWhole_whole _) (Memref.whole main_v24) (Memref.isWhole_whole _) tableM (Memref.isWhole_whole _) m7 hm7 m8 hm8 slabM (Memref.isWhole_whole _) turnM (Memref.isWhole_whole _) cc0_scratch2) Q := by
  have hi : t.val < 500 := t.isLt
  have hp := H.pos_lt t.val hi
  have hP := H.pos_lt 499 (by omega)
  have hask : ∀ q, asked W c q < 391 := fun q => Nat.lt_succ_of_le (H.ask_le q)
  have hmin : ∀ q, min q (Qn W c 499) < 500 := fun q => lt_of_le_of_lt (min_le_right _ _) hP
  rw [k0_part2_eq_skeleton]; unfold k0_part2_skel
  dsimp -zeta only
  rw [wp_bind]
  iintro ⟨⟨Ht, HS, HO, Hg, Hm⟩, Hk⟩
  iapply (pos_runs W c t.val hi (off1_eq t) _ _ _ _)
  isplitl [Ht]; · iexact Ht
  iintro Ht
  rw [wp_bind]
  iapply (pos_runs W c (t.val - 1) (by omega) (off2_eq t) _ _ _ _)
  isplitl [Ht]; · iexact Ht
  iintro Ht
  extract_lets -underBinder jpA
  have hA : iprop(Held W c (if t.val = 0 then Function.update (Function.update (Function.update (before W c t.val) 0 (asked W c 0)) 1 (asked W c 1)) 2 (asked W c 2) else before W c t.val)
      (fun g => 0 < t.val → Has W c (Tn W c (t.val - 1)) g) m7 Y
        ∗ (Held W c (before W c (t.val + 1)) (Has W c (Tn W c t.val)) m7 Y
            -∗ Q ⟨BitVec.ofNat 32 (grid0.coords t 0).val, w32 (Ln W c t.val), groupOf (w32 (Ln W c t.val)), 0#32⟩))
      ⊢ wp frame (wpE (defs₀ (F := F)) Variants.none (c : Thread nD τ) none) Set.univ (jpA ⟨⟩) Q := by
    iintro ⟨⟨Ht, HS, HO, Hg, Hm⟩, Hk⟩
    dsimp -zeta only [jpA]
    extract_lets -underBinder jpB
    have hB : iprop(Held W c (ring (asked W c) (Qn W c t.val)) (Has W c (Tn W c t.val)) m7 Y
        ∗ (Held W c (before W c (t.val + 1)) (Has W c (Tn W c t.val)) m7 Y
            -∗ Q ⟨BitVec.ofNat 32 (grid0.coords t 0).val, w32 (Ln W c t.val), groupOf (w32 (Ln W c t.val)), 0#32⟩))
      ⊢ wp frame (wpE (defs₀ (F := F)) Variants.none (c : Thread nD τ) none) Set.univ (jpB ⟨⟩) Q := by
      iintro ⟨⟨Ht, HS, HO, Hg, Hm⟩, Hk⟩
      dsimp -zeta only [jpB]
      extract_lets -underBinder jpE
      have hE : iprop(Held W c (before W c (t.val + 1)) (Has W c (Tn W c t.val)) m7 Y
          ∗ (Held W c (before W c (t.val + 1)) (Has W c (Tn W c t.val)) m7 Y
            -∗ Q ⟨BitVec.ofNat 32 (grid0.coords t 0).val, w32 (Ln W c t.val), groupOf (w32 (Ln W c t.val)), 0#32⟩))
        ⊢ wp frame (wpE (defs₀ (F := F)) Variants.none (c : Thread nD τ) none) Set.univ (jpE ⟨⟩) Q := by
        iintro ⟨⟨Ht, HS, HO, Hg, Hm⟩, Hk⟩
        dsimp -zeta only [jpE]
        rw [wp_bind]
        iapply (lane_runs W c t.val hi (off30_eq t) _ _ _ _)
        isplitl [Ht]; · iexact Ht
        iintro Ht
        iapply Sem.le_wp_ret
        iapply Hk
        isplitl [Ht]; · iexact Ht
        isplitl [HS]; · iexact HS
        isplitl [HO]; · iexact HO
        isplitl [Hg]; · iexact Hg
        iexact Hm
      clear_value jpE
      by_cases h9 : t.val = 499
      · rw [dif_pos ((cond9_eq t).mpr h9), wp_bind]
        have hb : before W c (t.val + 1) = fun _ => 390 := if_pos (Or.inr (by omega))
        iapply (pos_runs W c 499 (by omega) rfl _ _ _ _)
        isplitl [Ht]; · iexact Ht
        iintro Ht
        rw [wp_bind]
        iapply (assume_runs c (fun _ => by rw [off18_eq ⟨Qn W c t.val, hp⟩ ⟨Qn W c 499, hP⟩]; exact inb500 _ (hmin _)) _)
        rw [wp_bind]
        iapply (asked_runs W c H (Qn W c t.val + 1) (off18_eq ⟨Qn W c t.val, hp⟩ ⟨Qn W c 499, hP⟩) _ _ _ _)
        isplitl [Ht]; · iexact Ht
        iintro Ht
        rw [wp_bind]
        iapply (assume_runs c (wait_ok1 ⟨Qn W c t.val, hp⟩ ⟨asked W c (Qn W c t.val + 1), hask _⟩) _)
        extract_lets -underBinder hwC1 jpC1
        ihave HS := (Slots_take c (W c main_v1) _ (slotOf (Qn W c t.val + 1))) $$ HS
        rw [ring_next _ _ 1 (by omega) (by omega)]
        icases HS with ⟨HF, HS⟩
        iapply (wait_then c (W c main_v1) (slotOf (Qn W c t.val + 1)) (asked W c (Qn W c t.val + 1)) (cond2_eq ⟨asked W c (Qn W c t.val + 1), hask _⟩)
          (off19_eq ⟨Qn W c t.val, hp⟩) (off20_eq ⟨Qn W c t.val, hp⟩) _ _ _ _ _ jpC1 _)
        isplitl [HF]; · iexact HF
        isplitl [HO]; · iexact HO
        iintro ⟨HF, HO⟩
        ispecialize HS $$ %390
        rw [Slot_free c (W c main_v1) _ 390 (by decide)]
        ispecialize HS $$ HF
        dsimp -zeta only [jpC1]
        rw [wp_bind]
        iapply (pos_runs W c 499 (by omega) rfl _ _ _ _)
        isplitl [Ht]; · iexact Ht
        iintro Ht
        rw [wp_bind]
        iapply (assume_runs c (fun _ => by rw [off22_eq ⟨Qn W c t.val, hp⟩ ⟨Qn W c 499, hP⟩]; exact inb500 _ (hmin _)) _)
        rw [wp_bind]
        iapply (asked_runs W c H (Qn W c t.val + 2) (off22_eq ⟨Qn W c t.val, hp⟩ ⟨Qn W c 499, hP⟩) _ _ _ _)
        isplitl [Ht]; · iexact Ht
        iintro Ht
        rw [wp_bind]
        iapply (assume_runs c (wait_ok2 ⟨Qn W c t.val, hp⟩ ⟨asked W c (Qn W c t.val + 2), hask _⟩) _)
        extract_lets -underBinder hwC2 jpC2
        ihave HS := (Slots_take c (W c main_v1) _ (slotOf (Qn W c t.val + 2))) $$ HS
        rw [end_second]
        icases HS with ⟨HF, HS⟩
        iapply (wait_then c (W c main_v1) (slotOf (Qn W c t.val + 2)) (asked W c (Qn W c t.val + 2)) (cond2_eq ⟨asked W c (Qn W c t.val + 2), hask _⟩)
          (off23_eq ⟨Qn W c t.val, hp⟩) (off24_eq ⟨Qn W c t.val, hp⟩) _ _ _ _ _ jpC2 _)
        isplitl [HF]; · iexact HF
        isplitl [HO]; · iexact HO
        iintro ⟨HF, HO⟩
        ispecialize HS $$ %390
        rw [Slot_free c (W c main_v1) _ 390 (by decide)]
        ispecialize HS $$ HF
        dsimp -zeta only [jpC2]
        rw [wp_bind]
        iapply (pos_runs W c 499 (by omega) rfl _ _ _ _)
        isplitl [Ht]; · iexact Ht
        iintro Ht
        rw [wp_bind]
        iapply (assume_runs c (fun _ => by rw [off26_eq ⟨Qn W c t.val, hp⟩ ⟨Qn W c 499, hP⟩]; exact inb500 _ (hmin _)) _)
        rw [wp_bind]
        iapply (asked_runs W c H (Qn W c t.val + 3) (off26_eq ⟨Qn W c t.val, hp⟩ ⟨Qn W c 499, hP⟩) _ _ _ _)
        isplitl [Ht]; · iexact Ht
        iintro Ht
        rw [wp_bind]
        iapply (assume_runs c (wait_ok3 ⟨Qn W c t.val, hp⟩ ⟨asked W c (Qn W c t.val + 3), hask _⟩) _)
        extract_lets -underBinder hwC3
        ihave HS := (Slots_take c (W c main_v1) _ (slotOf (Qn W c t.val + 3))) $$ HS
        rw [end_third]
        icases HS with ⟨HF, HS⟩
        iapply (wait_then c (W c main_v1) (slotOf (Qn W c t.val + 3)) (asked W c (Qn W c t.val + 3)) (cond2_eq ⟨asked W c (Qn W c t.val + 3), hask _⟩)
          (off27_eq ⟨Qn W c t.val, hp⟩) (off28_eq ⟨Qn W c t.val, hp⟩) _ _ _ _ _ jpE _)
        isplitl [HF]; · iexact HF
        isplitl [HO]; · iexact HO
        iintro ⟨HF, HO⟩
        ispecialize HS $$ %390
        rw [Slot_free c (W c main_v1) _ 390 (by decide)]
        ispecialize HS $$ HF
        rw [ring_end, ← hb]
        iapply hE
        isplitr [Hk]
        · isplitl [Ht]; · iexact Ht
          isplitl [HS]; · iexact HS
          isplitl [HO]; · iexact HO
          isplitl [Hg]; · iexact Hg
          iexact Hm
        iexact Hk
      · rw [dif_neg (fun h => h9 ((cond9_eq t).mp h))]
        have hb : ring (asked W c) (Qn W c t.val) = before W c (t.val + 1) := by
          unfold before; rw [if_neg (by omega), Nat.add_sub_cancel]
        rw [hb]
        iapply hE
        isplitr [Hk]
        · isplitl [Ht]; · iexact Ht
          isplitl [HS]; · iexact HS
          isplitl [HO]; · iexact HO
          isplitl [Hg]; · iexact Hg
          iexact Hm
        iexact Hk
    clear_value jpB
    by_cases h5 : t.val = 0 ∨ w32 (Qn W c (t.val - 1)) ≠ w32 (Qn W c t.val)
    · rw [dif_pos ((cond5_eq t _ _).mpr h5), wp_bind]
      obtain ⟨hfree, htake, hend⟩ := step_ring W c H t.val hi (h5.imp id fun h e => h (by rw [e]))
      have htile : asked W c (Qn W c t.val) = Tn W c t.val := H.ask_pos t.val hi
      iapply (tile_runs W c t.val hi (off9_eq t) _ _ _ _)
      isplitl [Ht]; · iexact Ht
      iintro Ht
      rw [wp_bind]
      iapply (assume_runs c (take_ok ⟨Qn W c t.val, hp⟩ ⟨Tn W c t.val, Nat.lt_succ_of_le (H.tile_le _ hi)⟩) _)
      extract_lets -underBinder hw9
      rw [wp_bind]
      iapply (pos_runs W c 499 (by omega) rfl _ _ _ _)
      isplitl [Ht]; · iexact Ht
      iintro Ht
      rw [wp_bind]
      iapply (assume_runs c (fun _ => by rw [off10_eq ⟨Qn W c t.val, hp⟩ ⟨Qn W c 499, hP⟩]; exact inb500 _ (hmin _)) _)
      rw [wp_bind]
      iapply (asked_runs W c H (Qn W c t.val + 3) (off10_eq ⟨Qn W c t.val, hp⟩ ⟨Qn W c 499, hP⟩) _ _ _ _)
      isplitl [Ht]; · iexact Ht
      iintro Ht
      rw [wp_bind]
      iapply (assume_runs c (give_ok ⟨Qn W c t.val, hp⟩ ⟨asked W c (Qn W c t.val + 3), hask _⟩) _)
      extract_lets -underBinder hw8 jpS
      ihave HS := (Slots_free W c _ (slotOf (Qn W c t.val + 3)) hfree) $$ HS
      icases HS with ⟨HF, HS⟩
      iapply (start_then c (W c main_v1) (slotOf (Qn W c t.val + 3)) (asked W c (Qn W c t.val + 3)) (cond2_eq ⟨asked W c (Qn W c t.val + 3), hask _⟩)
        (off11_eq ⟨Qn W c t.val, hp⟩) (off12_eq ⟨Qn W c t.val, hp⟩) (fun _ => off4_eq ⟨asked W c (Qn W c t.val + 3), hask _⟩) _ _ _ _ _ _ jpS _)
      isplitl [HF]; · iexact HF
      iintro HF
      ispecialize HS $$ HF
      dsimp -zeta only [jpS]
      ihave HS := (Slots_take c (W c main_v1) _ (slotOf (Qn W c t.val))) $$ HS
      rw [htake, htile]
      icases HS with ⟨HF, HS⟩
      extract_lets -underBinder jpT
      by_cases h7 : Tn W c t.val < 390
      · rw [dif_pos (show k0_cond7 (w32 (word (tileT W c) t.val)) = 1#1 from (cond2_eq ⟨Tn W c t.val, Nat.lt_succ_of_le (H.tile_le _ hi)⟩).mpr h7), wp_bind]
        icases Hg with ⟨%g, -, Hg⟩
        iapply (part1_runs W c (slotOf (Qn W c t.val)) (Tn W c t.val) h7 ⟨Qn W c t.val, hp⟩ rfl _ _ _ _ _ _ _ _ _ _ _ _ _ _ _ _ _ _ _ _)
        isplitl [HF]; · iexact HF
        isplitl [HO]; · iexact HO
        isplitl [Hg]; · iexists g; iexact Hg
        iintro ⟨HF, HO, Hg⟩
        ispecialize HS $$ %390
        rw [Slot_free c (W c main_v1) _ 390 (by decide)]
        ispecialize HS $$ HF
        rw [hend]
        dsimp only [jpT]
        rw [if_neg (fun h => (last_eq ⟨Tn W c t.val, Nat.lt_succ_of_le (H.tile_le _ hi)⟩).mp h h7)]
        iapply hB
        isplitr [Hk]
        · isplitl [Ht]; · iexact Ht
          isplitl [HS]; · iexact HS
          isplitl [HO]; · iexact HO
          isplitl [Hg]; · iexact Hg
          iexact Hm
        iexact Hk
      · rw [dif_neg (show ¬ k0_cond7 (w32 (word (tileT W c) t.val)) = 1#1 from fun h => h7 ((cond2_eq ⟨Tn W c t.val, Nat.lt_succ_of_le (H.tile_le _ hi)⟩).mp h))]
        have h390 : Tn W c t.val = 390 := le_antisymm (H.tile_le _ hi) (Nat.le_of_not_lt h7)
        ihave HF := (show Slot c (W c main_v1) (slotOf (Qn W c t.val)) (Tn W c t.val) ⊢ Slot c (W c main_v1) (slotOf (Qn W c t.val)) 390 from by rw [h390]) $$ HF
        ispecialize HS $$ HF
        rw [hend]
        dsimp only [jpT]
        rw [if_pos ((last_eq ⟨Tn W c t.val, Nat.lt_succ_of_le (H.tile_le _ hi)⟩).mpr h7), wp_bind]
        icases Hg with ⟨%g, -, Hg⟩
        iapply (tail_load c m7 Y _ _ _)
        isplitl [Hm]; · iexact Hm
        iintro Hm
        rw [wp_bind]
        iapply (turn_load c g _ _ _)
        isplitl [Hg]; · iexact Hg
        iintro Hg
        rw [wp_bind]
        iapply (turn_store c g _ _ _ _ _)
        isplitl [Hg]; · iexact Hg
        iintro Hg
        iapply hB
        isplitr [Hk]
        · isplitl [Ht]; · iexact Ht
          isplitl [HS]; · iexact HS
          isplitl [HO]; · iexact HO
          isplitl [Hg]
          · iexists _
            isplitr
            swap; · iexact Hg
            ipureintro
            rw [h390]
            exact tail_has W c Y hY
          iexact Hm
        iexact Hk
    · rw [dif_neg (fun h => h5 ((cond5_eq t _ _).mp h))]
      obtain ⟨h0, hQ⟩ := not_or.mp h5
      have hQ' := w32_inj (H.pos_lt (t.val - 1) (by omega)) hp (not_not.mp hQ)
      have hT : Tn W c t.val = Tn W c (t.val - 1) := by
        have h := H.pos_succ (t.val - 1) (by omega)
        rw [Nat.sub_add_cancel (by omega)] at h
        rcases h with ⟨h, -⟩ | ⟨-, h⟩
        · exact h
        · omega
      rw [if_neg h0]
      have hb : before W c t.val = ring (asked W c) (Qn W c t.val) := by
        unfold before; rw [if_neg (by omega), hQ']
      rw [hb]
      icases Hg with ⟨%g, %hg, Hg⟩
      iapply hB
      isplitr [Hk]
      · isplitl [Ht]; · iexact Ht
        isplitl [HS]; · iexact HS
        isplitl [HO]; · iexact HO
        isplitl [Hg]
        · iexists g
          isplitr
          · ipureintro; rw [hT]; exact hg (by omega)
          iexact Hg
        iexact Hm
      iexact Hk
  clear_value jpA
  by_cases h1 : t.val = 0
  · rw [dif_pos ((cond1_eq t).mpr h1), wp_bind]
    rw [if_pos h1] at hA
    have hb : before W c t.val = fun _ => 390 := if_pos (Or.inl h1)
    iapply (pos_runs W c 499 (by omega) rfl _ _ _ _)
    isplitl [Ht]; · iexact Ht
    iintro Ht
    rw [wp_bind]
    iapply (assume_runs c (fun _ => by rw [off3_eq ⟨Qn W c 499, hP⟩]; exact inb500 _ (hmin 0)) _)
    rw [wp_bind]
    iapply (asked_runs W c H 0 (off3_eq ⟨Qn W c 499, hP⟩) _ _ _ _)
    isplitl [Ht]; · iexact Ht
    iintro Ht
    rw [wp_bind]
    iapply (assume_runs c (tile_ok ⟨asked W c 0, hask 0⟩) _)
    extract_lets -underBinder hw0 jp0
    ihave HS := (Slots_free W c _ 0 (congrFun hb 0)) $$ HS
    icases HS with ⟨HF, HS⟩
    iapply (start_then c (W c main_v1) 0 (asked W c 0) (cond2_eq ⟨asked W c 0, hask 0⟩) rfl rfl (fun _ => off4_eq ⟨asked W c 0, hask 0⟩) _ _ _ _ _ _ jp0 _)
    isplitl [HF]; · iexact HF
    iintro HF
    ispecialize HS $$ HF
    dsimp -zeta only [jp0]
    rw [wp_bind]
    iapply (pos_runs W c 499 (by omega) rfl _ _ _ _)
    isplitl [Ht]; · iexact Ht
    iintro Ht
    rw [wp_bind]
    iapply (assume_runs c (fun _ => by rw [off5_eq ⟨Qn W c 499, hP⟩]; exact inb500 _ (hmin 1)) _)
    rw [wp_bind]
    iapply (asked_runs W c H 1 (off5_eq ⟨Qn W c 499, hP⟩) _ _ _ _)
    isplitl [Ht]; · iexact Ht
    iintro Ht
    rw [wp_bind]
    iapply (assume_runs c (tile_ok ⟨asked W c 1, hask 1⟩) _)
    extract_lets -underBinder hw1 jp1
    ihave HS := (Slots_free W c _ 1 (by rw [hb]; rfl)) $$ HS
    icases HS with ⟨HF, HS⟩
    iapply (start_then c (W c main_v1) 1 (asked W c 1) (cond2_eq ⟨asked W c 1, hask 1⟩) rfl rfl (fun _ => off4_eq ⟨asked W c 1, hask 1⟩) _ _ _ _ _ _ jp1 _)
    isplitl [HF]; · iexact HF
    iintro HF
    ispecialize HS $$ HF
    dsimp -zeta only [jp1]
    rw [wp_bind]
    iapply (pos_runs W c 499 (by omega) rfl _ _ _ _)
    isplitl [Ht]; · iexact Ht
    iintro Ht
    rw [wp_bind]
    iapply (assume_runs c (fun _ => by rw [off7_eq ⟨Qn W c 499, hP⟩]; exact inb500 _ (hmin 2)) _)
    rw [wp_bind]
    iapply (asked_runs W c H 2 (off7_eq ⟨Qn W c 499, hP⟩) _ _ _ _)
    isplitl [Ht]; · iexact Ht
    iintro Ht
    rw [wp_bind]
    iapply (assume_runs c (tile_ok ⟨asked W c 2, hask 2⟩) _)
    extract_lets -underBinder hw2
    ihave HS := (Slots_free W c _ 2 (by rw [hb]; rfl)) $$ HS
    icases HS with ⟨HF, HS⟩
    iapply (start_then c (W c main_v1) 2 (asked W c 2) (cond2_eq ⟨asked W c 2, hask 2⟩) rfl rfl (fun _ => off4_eq ⟨asked W c 2, hask 2⟩) _ _ _ _ _ _ jpA _)
    isplitl [HF]; · iexact HF
    iintro HF
    ispecialize HS $$ HF
    iapply hA
    isplitr [Hk]
    · isplitl [Ht]; · iexact Ht
      isplitl [HS]; · iexact HS
      isplitl [HO]; · iexact HO
      isplitl [Hg]; · iexact Hg
      iexact Hm
    iexact Hk
  · rw [dif_neg (fun h => h1 ((cond1_eq t).mp h))]
    rw [if_neg h1] at hA
    iapply hA
    isplitr [Hk]
    · isplitl [Ht]; · iexact Ht
      isplitl [HS]; · iexact HS
      isplitl [HO]; · iexact HO
      isplitl [Hg]; · iexact Hg
      iexact Hm
    iexact Hk

end Cert.KernelIdeal.Collect

end
-- ==== Proof.KernelIdeal.Host.lean ====
/-
  The tables the host prepares, from genes that lie in the table: the genes' ascending order, each gene's tile and lane,
  the tile's number among the distinct ones, and the distinct tiles.
-/
module

public import proofs.«01_k».proof.Proof.KernelIdeal.Part
public import proofs.«01_k».proof.Proof.Gen.KernelIdeal.Regions
public import proofs.«01_k».proof.Proof.Tables

@[expose] public section

set_option maxRecDepth 16384

noncomputable section

namespace Cert.KernelIdeal.Host

open Cert.KernelIdeal Cert.KernelIdeal.Gen Cert.KernelIdeal.Collect
open Idealize.ShloMosaic hiding ix0 ix1 ix2 ix3
open Idealize.ShloMosaic.TcCoe Idealize.ShloMosaic.Tactic
open Idealize.ShloMosaic.ValueIdx Idealize.ShloMosaic.WordCmp
open Cert.Tables

variable {F : FTy → Type} [FloatOps F]

/-! ## The operations at an entry -/

section Ops

/-- One value at every place. -/
abbrev all500 (k : BitVec 32) : IVec S500 32 := broadcastInDim S500 ![] bcast_S_S500 (constantI S_ 32 k)

/-- The genes' ascending order. -/
def perm (g : IVec S500 32) : Fin 500 → Fin 500 :=
  sortedFrom fun k k' => IntOp.cmpi .slt (g (ix1 k)) (g (ix1 k')) == 1#1

theorem order_word (g : IVec S500 32) (i : Fin 500) :
    (Host.sort2 S500 0 comparator_i32_i32_d0 g (iotaInDim S500 32 0)).2 (ix1 i) = BitVec.ofNat 32 (perm g i).val :=
  carried (n := 500) comparator_i32_i32_d0 g (iotaInDim S500 32 0) i

theorem perm_surj (g : IVec S500 32) : Function.Surjective (perm g) := sortedFrom_surjective _

theorem ascending (g : IVec S500 32) (hg : ∀ k : Fin 500, (g (ix1 k)).toNat < 50000) (i j : Fin 500) (hij : i ≤ j) :
    (g (ix1 (perm g i))).toNat ≤ (g (ix1 (perm g j))).toNat := by
  have hc : ∀ k k' : Fin 500, (IntOp.cmpi .slt (g (ix1 k)) (g (ix1 k')) == 1#1) = decide ((g (ix1 k)).toNat < (g (ix1 k')).toNat) := fun k k' => by
    rw [cmpi_slt_of_lt (lt_trans (hg k) (by decide)) (lt_trans (hg k') (by decide))]
    by_cases h : (g (ix1 k)).toNat < (g (ix1 k')).toNat <;> simp [h]
  rcases lt_or_eq_of_le hij with h | rfl
  · have hs := sortedFrom_noInversion (fun k k' : Fin 500 => IntOp.cmpi .slt (g (ix1 k)) (g (ix1 k')) == 1#1)
      (fun k k' : Fin 500 => IntOp.cmpi .slt (g (ix1 k)) (g (ix1 k')) == 1#1)
      (fun a b => by rw [hc, hc]; simp only [decide_eq_true_eq, decide_eq_false_iff_not]; omega)
      (fun a b h => h)
      (fun a b d => by rw [hc, hc, hc]; simp only [decide_eq_false_iff_not]; omega) i j h
    rw [hc] at hs
    have := of_decide_eq_false hs
    unfold perm
    omega
  · exact le_rfl

/-- Places counted from the front, as a column. -/
abbrev column (v : IVec S500 32) : IVec S500x1 32 :=
  broadcastInDim S500x1 ![0] bcast_S500_S500x1_0 (select (cmpi .slt v (all500 0#32)) (addi v (all500 500#32)) v)

theorem column_at (v : IVec S500 32) (i : Fin 500) (n : ℕ) (hn : n < 500) (hv : v (ix1 i) = BitVec.ofNat 32 n) :
    column v (ix2 i 0) = BitVec.ofNat 32 n := by
  have e : column v (ix2 i 0) = Scalar.select (IntOp.cmpi .slt (v (ix1 i)) 0#32) (IntOp.addi (v (ix1 i)) 500#32) (v (ix1 i)) := by
    refine (show column v (ix2 i 0) = select (cmpi .slt v (all500 0#32)) (addi v (all500 500#32)) v (ix1 i) from ?_).trans rfl
    refine congrArg (select (cmpi .slt v (all500 0#32)) (addi v (all500 500#32)) v) (funext fun a => ?_)
    match a with
    | ⟨0, _⟩ => rfl
  rw [e, hv]
  exact front_word n (by omega) _

/-- The words at given places. -/
abbrev takenAt (g v : IVec S500 32) : IVec S500 32 :=
  select
    (Host.reduce IntOp.andi
      (andi (cmpi .sge (column v) (broadcastInDim S500x1 ![] bcast_S_S500x1 (constantI S_ 32 0#32)))
        (cmpi .sle (column v) (broadcastInDim S500x1 ![0, 1] bcast_S1x1_S500x1_0_1 (broadcastInDim S1x1 ![1] bcast_S1_S1x1_1 (constantI S1 32 499#32)))))
      (constantI S_ 1 1#1) reducesTo_S500x1_S500_d1 h_S_)
    (Host.gather gather_S500_S500x1_S500_n_0_n_n_0_1_1 g (column v)) (all500 2147483648#32)

theorem takenAt_at (g v : IVec S500 32) (p : Fin 500 → Fin 500) (hv : ∀ i, v (ix1 i) = BitVec.ofNat 32 (p i).val) (i : Fin 500) :
    takenAt g v (ix1 i) = g (ix1 (p i)) := by
  have hcol : ∀ i : Fin 500, column v (ix2 i 0) = BitVec.ofNat 32 (p i).val := fun i => column_at v i _ (p i).isLt (hv i)
  have hm : Host.reduce IntOp.andi
      (andi (cmpi .sge (column v) (broadcastInDim S500x1 ![] bcast_S_S500x1 (constantI S_ 32 0#32)))
        (cmpi .sle (column v) (broadcastInDim S500x1 ![0, 1] bcast_S1x1_S500x1_0_1 (broadcastInDim S1x1 ![1] bcast_S1_S1x1_1 (constantI S1 32 499#32)))))
      (constantI S_ 1 1#1) reducesTo_S500x1_S500_d1 h_S_ (ix1 i) = 1#1 := by
    refine Host.reduce_andi_one _ _ _ _ _ rfl fun y => ?_
    show IntOp.andi (IntOp.cmpi .sge (column v y) 0#32) (IntOp.cmpi .sle (column v y) 499#32) = 1#1
    obtain ⟨a, b, rfl⟩ : ∃ (a : Fin 500) (b : Fin 1), y = ix2 a b := ⟨y 0, y 1, by funext d; match d with | ⟨0, _⟩ => rfl | ⟨1, _⟩ => rfl⟩
    obtain rfl : b = 0 := Subsingleton.elim _ _
    have hp := (p a).isLt
    rw [hcol a, IntOp.andi_eq_one, cmpi_sge_ofNat (by omega) (by omega), cmpi_sle_ofNat (by omega) (by omega)]
    exact ⟨by rw [ofBool_decide_eq_one_iff]; omega, by rw [ofBool_decide_eq_one_iff]; omega⟩
  refine (if_pos (show Host.reduce IntOp.andi
      (andi (cmpi .sge (column v) (broadcastInDim S500x1 ![] bcast_S_S500x1 (constantI S_ 32 0#32)))
        (cmpi .sle (column v) (broadcastInDim S500x1 ![0, 1] bcast_S1x1_S500x1_0_1 (broadcastInDim S1x1 ![1] bcast_S1_S1x1_1 (constantI S1 32 499#32)))))
      (constantI S_ 1 1#1) reducesTo_S500x1_S500_d1 h_S_ (ix1 i) = 1 from hm)).trans ?_
  exact Routing.gather_take1 gather_S500_S500x1_S500_n_0_n_n_0_1_1 rfl rfl rfl rfl g (column v) i (p i) (hcol i) (by decide)

/-- The heads of the runs of equal tiles. -/
abbrev heads (t : IVec S500 32) : IVec S500 32 :=
  concatenate S500 0
    [⟨S1, broadcastInDim S1 ![] bcast_S_S1 (constantI S_ 32 1#32)⟩,
      ⟨S499, extui 32 (cmpi .ne (extractStridedSlice S499 ![1] t slices_S500_S499_1) (extractStridedSlice S499 ![0] t slices_S500_S499_0)) natLt_1_32⟩]
    concatenates_S1_S499_S500_d0

theorem heads_at (t : IVec S500 32) (T : ℕ → ℕ) (ht : ∀ i : Fin 500, t (ix1 i) = BitVec.ofNat 32 (T i.val)) (hT : ∀ i < 500, T i < 2 ^ 31)
    (i : Fin 500) : heads t (ix1 i) = BitVec.ofNat 32 (fresh T i.val) := by
  have hi := i.isLt
  by_cases h0 : i.val = 0
  · refine (concatenate_pair_apply_left (t := S500) (s₁ := S1) (s₂ := S499) 0 _ _ _ (ix1 i) rfl (ix1 (0 : Fin 1)) fun b => ?_).trans ?_
    · match b with
      | ⟨0, _⟩ => exact h0.symm
    · show 1#32 = _
      unfold fresh
      rw [if_pos h0]
  · refine (concatenate_pair_apply_right (t := S500) (s₁ := S1) (s₂ := S499) 0 _ _ _ (ix1 i) rfl rfl (ix1 (⟨i.val - 1, by omega⟩ : Fin 499))
      (fun b hb => ?_) ?_).trans ?_
    · match b with
      | ⟨0, _⟩ => exact absurd rfl hb
    · show i.val - 1 + 1 = i.val
      omega
    · have e1 : extractStridedSlice S499 ![1] t slices_S500_S499_1 (ix1 (⟨i.val - 1, by omega⟩ : Fin 499)) = t (ix1 i) :=
        congrArg t (funext fun a => Fin.ext (by
          match a with
          | ⟨0, _⟩ => show 1 + (i.val - 1) = i.val; omega))
      have e0 : extractStridedSlice S499 ![0] t slices_S500_S499_0 (ix1 (⟨i.val - 1, by omega⟩ : Fin 499)) = t (ix1 (⟨i.val - 1, by omega⟩ : Fin 500)) :=
        congrArg t (funext fun a => Fin.ext (by
          match a with
          | ⟨0, _⟩ => show 0 + (i.val - 1) = i.val - 1; omega))
      show (IntOp.cmpi .ne (extractStridedSlice S499 ![1] t slices_S500_S499_1 (ix1 (⟨i.val - 1, by omega⟩ : Fin 499)))
        (extractStridedSlice S499 ![0] t slices_S500_S499_0 (ix1 (⟨i.val - 1, by omega⟩ : Fin 499)))).setWidth 32 = _
      have b1 := hT i.val hi
      have b0 := hT (i.val - 1) (by omega)
      rw [e1, e0, ht, ht, cmpi_ne_ofNat (by omega) (show T (i.val - 1) < 2 ^ 32 by omega)]
      unfold fresh
      rw [if_neg h0]
      by_cases hc : T i.val = T (i.val - 1)
      · rw [if_neg (by simpa using hc), decide_eq_false (by simpa using hc)]; rfl
      · rw [if_pos hc, decide_eq_true hc]; rfl

/-- The running number of the heads. -/
abbrev runs (n : IVec S500 32) : IVec S500 32 :=
  Host.reduceWindow IntOp.addi ![500] ![1] ![499] ![0] n (broadcastInDim S_ ![] bcast_S_S_ (constantI S_ 32 0#32))
    reduceWindows_S500_S500_w500s1p499_0 h_S_

theorem runs_at (n : IVec S500 32) (T : ℕ → ℕ) (hn : ∀ i : Fin 500, n (ix1 i) = BitVec.ofNat 32 (fresh T i.val)) (i : Fin 500) :
    runs n (ix1 i) = BitVec.ofNat 32 (count T i.val) :=
  Routing.cumsum1 (N := 500) (Nm1 := 499) rfl n (fresh T) hn _ rfl _ _ i

/-- A place's number among the distinct tiles. -/
abbrev numbers (r : IVec S500 32) : IVec S500 32 := subi r (all500 1#32)

theorem numbers_at (r : IVec S500 32) (T : ℕ → ℕ) (hr : ∀ i : Fin 500, r (ix1 i) = BitVec.ofNat 32 (count T i.val)) (i : Fin 500) :
    numbers r (ix1 i) = BitVec.ofNat 32 (number T i.val) := by
  show r (ix1 i) - 1#32 = _
  have h1 := count_pos T i.val
  have h2 := count_le T i.val
  have hi := i.isLt
  rw [hr]
  apply BitVec.eq_of_toNat_eq
  unfold number
  rw [BitVec.toNat_sub, toNat_small _ (by omega), toNat_small _ (by omega), toNat_small _ (by omega)]
  omega

/-- The tiles put at their numbers, and their running maximum. -/
abbrev placed (q t : IVec S500 32) : IVec S500 32 :=
  Host.scatter scatter_S500_S500x1_S500_n_0_0_1 (fun _ b => b) (all500 0#32) (column q) t

abbrev highest (x : IVec S500 32) : IVec S500 32 :=
  Host.reduceWindow IntOp.maxsi ![500] ![1] ![499] ![0] x (broadcastInDim S_ ![] bcast_S_S_ (constantI S_ 32 2147483648#32))
    reduceWindows_S500_S500_w500s1p499_0 h_S_

theorem highest_at (q t : IVec S500 32) (T : ℕ → ℕ) (hT : ∀ i j, i ≤ j → j < 500 → T i ≤ T j) (hb : ∀ i < 500, T i < 2 ^ 31)
    (hq : ∀ i : Fin 500, q (ix1 i) = BitVec.ofNat 32 (number T i.val)) (ht : ∀ i : Fin 500, t (ix1 i) = BitVec.ofNat 32 (T i.val))
    (i : Fin 500) (h : number T i.val < 500) : highest (placed q t) (ix1 ⟨number T i.val, h⟩) = BitVec.ofNat 32 (T i.val) :=
  distinct_of T hT hb scatter_S500_S500x1_S500_n_0_0_1 rfl rfl rfl (all500 0#32) (fun _ => rfl) (column q)
    (fun k => column_at q k _ (lt_of_le_of_lt (number_le T k.val) k.isLt) (hq k)) t ht _ rfl _ _ i h

/-- Tiles and lanes. -/
abbrev tiles (x : IVec S500 32) (k : IVec S_ 32) : IVec S500 32 :=
  select (andi (cmpi .ne (signi x) (broadcastInDim S500 ![] bcast_S_S500 (signi k)))
      (cmpi .ne (Host.remsi x (broadcastInDim S500 ![] bcast_S_S500 k)) (all500 0#32)))
    (subi (Host.divsi x (broadcastInDim S500 ![] bcast_S_S500 k)) (all500 1#32))
    (Host.divsi x (broadcastInDim S500 ![] bcast_S_S500 k))

theorem tiles_at (x : IVec S500 32) (i : Fin 500) (hx : (x (ix1 i)).toNat < 50000) :
    tiles x (constantI S_ 32 128#32) (ix1 i) = BitVec.ofNat 32 ((x (ix1 i)).toNat / 128) :=
  tile_word (x (ix1 i)) hx

abbrev width (k : IVec S_ 32) : IVec S_ 32 := select (cmpi .eq k (constantI S_ 32 0#32)) (constantI S_ 32 1#32) k

abbrev lanes (x : IVec S500 32) (k : IVec S_ 32) : IVec S500 32 :=
  select (andi (cmpi .ne (cmpi .slt (Host.remsi x (broadcastInDim S500 ![] bcast_S_S500 (width k))) (all500 0#32))
        (broadcastInDim S500 ![] bcast_S_S500 (cmpi .slt (width k) (constantI S_ 32 0#32))))
      (cmpi .ne (Host.remsi x (broadcastInDim S500 ![] bcast_S_S500 (width k))) (all500 0#32)))
    (addi (Host.remsi x (broadcastInDim S500 ![] bcast_S_S500 (width k))) (broadcastInDim S500 ![] bcast_S_S500 (width k)))
    (Host.remsi x (broadcastInDim S500 ![] bcast_S_S500 (width k)))

theorem lanes_at (x : IVec S500 32) (i : Fin 500) (hx : (x (ix1 i)).toNat < 50000) :
    lanes x (constantI S_ 32 128#32) (ix1 i) = BitVec.ofNat 32 ((x (ix1 i)).toNat % 128) :=
  lane_word (x (ix1 i)) hx _ rfl

end Ops

/-! ## The tables -/

variable (m : (ℓ : Loc nD τ sig) → Buf (Elt F) ℓ) (c : Dev nD)

/-- The genes. -/
abbrev genes : IVec S500 32 := m (c, main_arg1)

theorem start_genes : V1 m c main_arg1 = genes m c := V1_of m c main_arg1 (by decide)

section Reads

variable (W : Valuation τ sig (Elt F))

theorem read_order : StableHlo.after hostOps0_1 W main_v3 = (Host.sort2 S500 0 comparator_i32_i32_d0 (W main_arg1) (iotaInDim S500 32 0)).2 := by
  after_results <;> simp only [StableHlo.TRef.ofBuf, StableHlo.TRef.toBuf, cast_cast, cast_eq] <;> rfl

theorem read_taken : StableHlo.after hostOps0_2 W main_v4 = takenAt (W main_arg1) (W main_v3) := by
  after_results <;> simp only [StableHlo.TRef.ofBuf, StableHlo.TRef.toBuf, cast_cast, cast_eq] <;> rfl

theorem read_width : StableHlo.after hostOps0_3 W main_c = constantI S_ 32 128#32 := by
  after_results <;> simp only [StableHlo.TRef.ofBuf, StableHlo.TRef.toBuf, cast_cast, cast_eq] <;> rfl

theorem read_tiles : StableHlo.after hostOps0_4 W main_v5 = tiles (W main_v4) (W main_c) := by
  after_results <;> simp only [StableHlo.TRef.ofBuf, StableHlo.TRef.toBuf, cast_cast, cast_eq] <;> rfl

theorem read_width' : StableHlo.after hostOps0_5 W main_c_0 = constantI S_ 32 128#32 := by
  after_results <;> simp only [StableHlo.TRef.ofBuf, StableHlo.TRef.toBuf, cast_cast, cast_eq] <;> rfl

theorem read_lanes : StableHlo.after hostOps0_6 W main_v6 = lanes (W main_v4) (W main_c_0) := by
  after_results <;> simp only [StableHlo.TRef.ofBuf, StableHlo.TRef.toBuf, cast_cast, cast_eq] <;> rfl

theorem read_heads : StableHlo.after hostOps0_7 W main_v12 = heads (W main_v5) := by
  after_results <;> simp only [StableHlo.TRef.ofBuf, StableHlo.TRef.toBuf, cast_cast, cast_eq] <;> rfl

theorem read_runs : StableHlo.after hostOps0_8 W main_v13 = runs (W main_v12) := by
  after_results <;> simp only [StableHlo.TRef.ofBuf, StableHlo.TRef.toBuf, cast_cast, cast_eq] <;> rfl

theorem read_numbers : StableHlo.after hostOps0_9 W main_v15 = numbers (W main_v13) := by
  after_results <;> simp only [StableHlo.TRef.ofBuf, StableHlo.TRef.toBuf, cast_cast, cast_eq] <;> rfl

theorem read_placed : StableHlo.after hostOps0_9 W main_v23 = placed (numbers (W main_v13)) (W main_v5) := by
  after_results <;> simp only [StableHlo.TRef.ofBuf, StableHlo.TRef.toBuf, cast_cast, cast_eq] <;> rfl

theorem read_highest : StableHlo.after hostOps0_10 W main_v24 = highest (W main_v23) := by
  after_results <;> simp only [StableHlo.TRef.ofBuf, StableHlo.TRef.toBuf, cast_cast, cast_eq] <;> rfl

end Reads

/-- The gene at a place of the order, as a number. -/
def geneNo (i : ℕ) : ℕ := if h : i < 500 then (genes m c (ix1 (perm (genes m c) ⟨i, h⟩))).toNat else 0

/-- The place a gene of the order came from. -/
def placeNo (i : ℕ) : ℕ := if h : i < 500 then (perm (genes m c) ⟨i, h⟩).val else 0

theorem geneNo_at (i : Fin 500) : geneNo m c i.val = (genes m c (ix1 (perm (genes m c) i))).toNat := dif_pos i.isLt

theorem placeNo_at (i : Fin 500) : placeNo m c i.val = (perm (genes m c) i).val := dif_pos i.isLt

abbrev tileNo (i : ℕ) : ℕ := geneNo m c i / 128

variable (hg : ∀ k : Fin 500, (genes m c (ix1 k)).toNat < 50000)

theorem order_at (i : Fin 500) : V2 m c main_v3 (ix1 i) = BitVec.ofNat 32 (perm (genes m c) i).val :=
  (congrFun (read_order (V1 m c)) (ix1 i)).trans ((congrArg (fun g => (Host.sort2 S500 0 comparator_i32_i32_d0 g (iotaInDim S500 32 0)).2 (ix1 i))
    (start_genes m c)).trans (order_word (genes m c) i))

theorem taken_at (i : Fin 500) : V3 m c main_v4 (ix1 i) = genes m c (ix1 (perm (genes m c) i)) :=
  (congrFun (read_taken (V2 m c)) (ix1 i)).trans ((takenAt_at _ _ (perm (genes m c)) (order_at m c) i).trans
    (congrFun ((V2_of m c main_arg1 (by decide)).trans (start_genes m c)) _))

theorem taken_at4 (i : Fin 500) : V4 m c main_v4 (ix1 i) = genes m c (ix1 (perm (genes m c) i)) :=
  (congrFun (V4_of m c main_v4 (by decide)) _).trans (taken_at m c i)

theorem taken_at6 (i : Fin 500) : V6 m c main_v4 (ix1 i) = genes m c (ix1 (perm (genes m c) i)) :=
  (congrFun ((V6_of m c main_v4 (by decide)).trans (V5_of m c main_v4 (by decide))) _).trans (taken_at4 m c i)

include hg

theorem gene_lt (i : ℕ) (hi : i < 500) : geneNo m c i < 50000 := by rw [geneNo_at m c ⟨i, hi⟩]; exact hg _

theorem gene_mono (i j : ℕ) (hij : i ≤ j) (hj : j < 500) : geneNo m c i ≤ geneNo m c j := by
  rw [geneNo_at m c ⟨i, by omega⟩, geneNo_at m c ⟨j, hj⟩]
  exact ascending (genes m c) hg _ _ hij

theorem tile_mono (i j : ℕ) (hij : i ≤ j) (hj : j < 500) : tileNo m c i ≤ tileNo m c j :=
  Nat.div_le_div_right (gene_mono m c hg i j hij hj)

theorem tile_small (i : ℕ) (hi : i < 500) : tileNo m c i < 2 ^ 31 := by
  have := gene_lt m c hg i hi
  show geneNo m c i / 128 < _
  omega

theorem tile_at5 (i : Fin 500) : V5 m c main_v5 (ix1 i) = BitVec.ofNat 32 (tileNo m c i.val) := by
  have e : V5 m c main_v5 = tiles (V4 m c main_v4) (constantI S_ 32 128#32) :=
    (read_tiles (V4 m c)).trans (congrArg (tiles (V4 m c main_v4)) (read_width (V3 m c)))
  have h4 := taken_at4 m c i
  refine (congrFun e (ix1 i)).trans ((tiles_at _ i (by rw [h4]; exact hg _)).trans ?_)
  rw [h4, ← geneNo_at m c i]

theorem lane_at7 (i : Fin 500) : V7 m c main_v6 (ix1 i) = BitVec.ofNat 32 (geneNo m c i.val % 128) := by
  have e : V7 m c main_v6 = lanes (V6 m c main_v4) (constantI S_ 32 128#32) :=
    (read_lanes (V6 m c)).trans (congrArg (lanes (V6 m c main_v4)) (read_width' (V5 m c)))
  have h6 := taken_at6 m c i
  refine (congrFun e (ix1 i)).trans ((lanes_at _ i (by rw [h6]; exact hg _)).trans ?_)
  rw [h6, ← geneNo_at m c i]

theorem tile_at7 (i : Fin 500) : V7 m c main_v5 (ix1 i) = BitVec.ofNat 32 (tileNo m c i.val) :=
  (congrFun ((V7_of m c main_v5 (by decide)).trans (V6_of m c main_v5 (by decide))) _).trans (tile_at5 m c hg i)

theorem tile_at9 (i : Fin 500) : V9 m c main_v5 (ix1 i) = BitVec.ofNat 32 (tileNo m c i.val) :=
  (congrFun ((V9_of m c main_v5 (by decide)).trans (V8_of m c main_v5 (by decide))) _).trans (tile_at7 m c hg i)

theorem heads_at8 (i : Fin 500) : V8 m c main_v12 (ix1 i) = BitVec.ofNat 32 (fresh (tileNo m c) i.val) :=
  (congrFun (read_heads (V7 m c)) (ix1 i)).trans (heads_at _ _ (tile_at7 m c hg) (tile_small m c hg) i)

theorem runs_at9 (i : Fin 500) : V9 m c main_v13 (ix1 i) = BitVec.ofNat 32 (count (tileNo m c) i.val) :=
  (congrFun (read_runs (V8 m c)) (ix1 i)).trans (runs_at _ _ (heads_at8 m c hg) i)

theorem numbers_at10 (i : Fin 500) : V10 m c main_v15 (ix1 i) = BitVec.ofNat 32 (number (tileNo m c) i.val) :=
  (congrFun (read_numbers (V9 m c)) (ix1 i)).trans (numbers_at _ _ (runs_at9 m c hg) i)

theorem distinct_at (i : Fin 500) (h : number (tileNo m c) i.val < 500) :
    V11 m c main_v24 (ix1 ⟨number (tileNo m c) i.val, h⟩) = BitVec.ofNat 32 (tileNo m c i.val) := by
  have e : V11 m c main_v24 = highest (placed (numbers (V9 m c main_v13)) (V9 m c main_v5)) :=
    (read_highest (V10 m c)).trans (congrArg highest (read_placed (V9 m c)))
  exact (congrFun e _).trans (highest_at _ _ (tileNo m c) (tile_mono m c hg) (tile_small m c hg)
    (fun k => numbers_at _ _ (runs_at9 m c hg) k) (tile_at9 m c hg) i h)

omit hg in
theorem order_at11 (i : Fin 500) : V11 m c main_v3 (ix1 i) = BitVec.ofNat 32 (perm (genes m c) i).val :=
  (congrFun ((V11_of m c main_v3 (by decide)).trans ((V10_of m c main_v3 (by decide)).trans ((V9_of m c main_v3 (by decide)).trans
    ((V8_of m c main_v3 (by decide)).trans ((V7_of m c main_v3 (by decide)).trans ((V6_of m c main_v3 (by decide)).trans
    ((V5_of m c main_v3 (by decide)).trans ((V4_of m c main_v3 (by decide)).trans (V3_of m c main_v3 (by decide))))))))))  _).trans (order_at m c i)

theorem tile_at11 (i : Fin 500) : V11 m c main_v5 (ix1 i) = BitVec.ofNat 32 (tileNo m c i.val) :=
  (congrFun ((V11_of m c main_v5 (by decide)).trans (V10_of m c main_v5 (by decide))) _).trans (tile_at9 m c hg i)

theorem lane_at11 (i : Fin 500) : V11 m c main_v6 (ix1 i) = BitVec.ofNat 32 (geneNo m c i.val % 128) :=
  (congrFun ((V11_of m c main_v6 (by decide)).trans ((V10_of m c main_v6 (by decide)).trans ((V9_of m c main_v6 (by decide)).trans
    (V8_of m c main_v6 (by decide))))) _).trans (lane_at7 m c hg i)

theorem number_at11 (i : Fin 500) : V11 m c main_v15 (ix1 i) = BitVec.ofNat 32 (number (tileNo m c) i.val) :=
  (congrFun (V11_of m c main_v15 (by decide)) _).trans (numbers_at10 m c hg i)

omit hg in
theorem word_of (x : S500.Idx → BitVec 32) (i n : ℕ) (hi : i < 500) (hn : n < 2 ^ 32) (h : x (ix1 (⟨i, hi⟩ : Fin 500)) = BitVec.ofNat 32 n) :
    word x i = n := by
  unfold word
  rw [dif_pos hi]
  exact (congrArg BitVec.toNat h).trans (toNat_small n hn)

theorem place_no (i : ℕ) (hi : i < 500) : Dn (V11 m) c i = placeNo m c i := by
  have h := (perm (genes m c) ⟨i, hi⟩).isLt
  rw [placeNo_at m c ⟨i, hi⟩]
  exact word_of _ i _ hi (by omega) (order_at11 m c ⟨i, hi⟩)

theorem tile_no (i : ℕ) (hi : i < 500) : Tn (V11 m) c i = tileNo m c i :=
  word_of _ i (tileNo m c i) hi (by have := tile_small m c hg i hi; omega) (tile_at11 m c hg ⟨i, hi⟩)

theorem lane_no (i : ℕ) (hi : i < 500) : Ln (V11 m) c i = geneNo m c i % 128 :=
  word_of _ i (geneNo m c i % 128) hi (by omega) (lane_at11 m c hg ⟨i, hi⟩)

theorem number_no (i : ℕ) (hi : i < 500) : Qn (V11 m) c i = number (tileNo m c) i :=
  word_of _ i (number (tileNo m c) i) hi (by have := number_le (tileNo m c) i; omega) (number_at11 m c hg ⟨i, hi⟩)

/-- The tables are as the gather call needs them. -/
theorem tables : Ok (V11 m) c := by
  refine facts_congr (facts_of (geneNo m c) (placeNo m c) (gene_lt m c hg) (gene_mono m c hg) (fun i hi => ?_) (fun d hd => ?_)
    (Un (V11 m) c) fun i hi => ?_) (tile_no m c hg) (lane_no m c hg) (place_no m c hg) (number_no m c hg) fun i _ => rfl
  · rw [placeNo_at m c ⟨i, hi⟩]; exact (perm (genes m c) ⟨i, hi⟩).isLt
  · obtain ⟨i, e⟩ := perm_surj (genes m c) ⟨d, hd⟩
    exact ⟨i.val, i.isLt, (placeNo_at m c i).trans (congrArg Fin.val e)⟩
  · have hn : number (tileNo m c) i < 500 := lt_of_le_of_lt (number_le _ i) hi
    exact word_of _ _ (tileNo m c i) hn (by have := tile_small m c hg i hi; omega) (distinct_at m c hg ⟨i, hi⟩ hn)

/-- The tile and lane at a place are those of the gene that the place's row of the result asks for. -/
theorem gene_of_place (i : ℕ) (hi : i < 500) (d : Fin 500) (hd : Dn (V11 m) c i = d.val) :
    Tn (V11 m) c i * 128 + Ln (V11 m) c i = (genes m c (ix1 d)).toNat := by
  have e : perm (genes m c) ⟨i, hi⟩ = d := Fin.ext (by rw [← placeNo_at m c ⟨i, hi⟩, ← hd, place_no m c hg i hi])
  rw [tile_no m c hg i hi, lane_no m c hg i hi, ← e, ← geneNo_at m c ⟨i, hi⟩]
  show geneNo m c i / 128 * 128 + geneNo m c i % 128 = geneNo m c i
  omega

end Cert.KernelIdeal.Host

end
-- ==== Proof.KernelIdeal.Body.lean ====
/-
  The gather call's body at a point: the block at hand's row goes to the row of the result's buffer that the point's
  place names.
-/
module

public import proofs.«01_k».proof.Proof.KernelIdeal.Part
public import Idealize.ShloMosaic.Lib.WritesUnit

@[expose] public section

set_option maxRecDepth 16384

noncomputable section

namespace Cert.KernelIdeal.Collect

open Cert.KernelIdeal Cert.KernelIdeal.Gen Cert.KernelIdeal.Decoder Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → Valuation τ sig (Elt F)) (c : Dev nD)

/-- Eight rows of the block at hand read. -/
theorem rows_load (g : S16x128x224.Idx → Elt F .f32) (k : Fin 16) {off : Fin 3 → ℕ} (ho : off = ![0, 8 * k.val, 0])
    (ib : ∀ a, off a + S16x8x224.size a ≤ S16x128x224.size a) (hl) (Q : (S16x8x224.Idx → Elt F .f32) → sProp 𝕄) :
    iprop(turnAt c g ∗ (∀ v, ⌜∀ (h : Fin 16) (r : Fin 8) (cc : Fin 224), v (ix3 h r cc) = g (ix3 h (⟨8 * k.val + r.val, by omega⟩ : Fin 128) cc)⌝ -∗ turnAt c g -∗ Q v))
      ⊢ wp frame (wpE (defs₀ (F := F)) Variants.none (c : Thread nD τ) none) Set.univ
          (Prog.lift (TpuEff.load turnM (Rect.unit (s := S16x128x224) off S16x8x224.size ib).toLoadRect hl)) Q := by
  subst ho
  iintro ⟨H, Hk⟩
  iapply (turn_load c g _ _ _)
  isplitl [H]; · iexact H
  iintro H
  iapply Hk
  · ipureintro
    intro h r cc
    show g ((Rect.unit (s := S16x128x224) ![0, 8 * k.val, 0] S16x8x224.size ib).emb (ix3 h r cc)) = _
    congr 1
    funext a
    refine Fin.ext ?_
    fin_cases a
    · show 0 + 1 * h.val = h.val; omega
    · show 8 * k.val + 1 * r.val = 8 * k.val + r.val; omega
    · show 0 + 1 * cc.val = cc.val; omega
  iexact H

/-- The result's buffer once row `d` holds `w`. -/
def putRow (Y : S500x16x224.Idx → Elt F .f32) (d : ℕ) (w : S1x16x224.Idx → Elt F .f32) : S500x16x224.Idx → Elt F .f32 := fun y =>
  if (y 0).val = d then w (ix3 0 (y 1) (y 2)) else Y y

/-- A row of the result's buffer loaded, and stored. -/
theorem row_runs (m8 : Memref sig .tc .vmem S500x16x224 .f32) (Y : S500x16x224.Idx → Elt F .f32) (d : Fin 500) (w : S1x16x224.Idx → Elt F .f32)
    {off : Fin 3 → ℕ} (ho : off = ![d.val, 0, 0]) (ib ib' : ∀ a, off a + S1x16x224.size a ≤ S500x16x224.size a) (hl hx hm) (Q : PUnit → sProp 𝕄) :
    iprop(owns (c : Thread nD τ) m8 fullShare Y ∗ (owns (c : Thread nD τ) m8 fullShare (putRow Y d.val w) -∗ Q ⟨⟩))
      ⊢ wp frame (wpE (defs₀ (F := F)) Variants.none (c : Thread nD τ) none) Set.univ
          (do
            let _ ← Prog.lift (TpuEff.load m8 (Rect.unit (s := S500x16x224) off S1x16x224.size ib).toLoadRect hl)
            Prog.lift (TpuEff.store m8 (Rect.unit (s := S500x16x224) off S1x16x224.size ib') w Finset.univ hx hm)) Q := by
  subst ho
  unfold owns
  rw [wp_bind]
  iintro ⟨⟨%f, %hf, H⟩, Hk⟩
  subst hf
  iapply (wp_load Variants.none (c : Thread nD τ) none Set.univ (f := f) (q := fullShare) (S := m8.view.set) (View.setOn_subset_set _ _)) $$ [H]
  · iexact H
  iintro H
  iapply Sem.le_wp_ret
  iapply (wp_store Variants.none (c : Thread nD τ) none Set.univ (f := f) (S := m8.view.set) (View.setOn_slice_subset_set _ _ _)) $$ [H]
  · iexact H
  iintro H
  iapply Sem.le_wp_ret
  iapply Hk
  iexists _
  isplitr
  swap; · iexact H
  ipureintro
  funext y
  unfold putRow
  have ev : (m8.access (Rect.unit (s := S500x16x224) ![d.val, 0, 0] S1x16x224.size ib')).write (Elt F) f w Finset.univ
      = m8.view.writes (Elt F) f [⟨Rect.unit (s := S500x16x224) ![d.val, 0, 0] S1x16x224.size ib', w⟩] := rfl
  rw [ev]
  by_cases h : (y 0).val = d.val
  · rw [if_pos h]
    exact View.read_writes_cons_unit_of_mem m8.view f ib' w [] y (ix3 0 (y 1) (y 2)) rfl (fun a => by
      fin_cases a
      · show (y 0).val = d.val + 0; omega
      · show (y 1).val = 0 + (y 1).val; omega
      · show (y 2).val = 0 + (y 2).val; omega)
  · rw [if_neg h]
    exact (View.read_writes_cons_unit_of_not_mem m8.view f ib' w [] y rfl (a := 0) (by
      show (y 0).val < d.val ∨ d.val + 1 ≤ (y 0).val; omega)).trans rfl

/-- The row of tile `t`'s block that a lane names. -/
def RowIs (t l : ℕ) (v : S16x8x224.Idx → Elt F .f32) : Prop :=
  ∀ (h : Fin 16) (cc : Fin 224) (hl : t * 128 + l < 50000), v (ix3 h (⟨l % 8, Nat.mod_lt _ (by decide)⟩ : Fin 8) cc) = tableX W c (ix3 h cc (⟨t * 128 + l, hl⟩ : Fin 50000))

theorem row_is (H : Ok W c) (t : ℕ) (ht : t < 500) (g : S16x128x224.Idx → Elt F .f32) (hg : Has W c (Tn W c t) g) (k : Fin 16) (hk : Ln W c t / 8 = k.val)
    (v : S16x8x224.Idx → Elt F .f32) (hv : ∀ (h : Fin 16) (r : Fin 8) (cc : Fin 224), v (ix3 h r cc) = g (ix3 h (⟨8 * k.val + r.val, by omega⟩ : Fin 128) cc)) :
    RowIs W c (Tn W c t) (Ln W c t) v := by
  intro h cc hl
  rw [hv]
  have e : (⟨8 * k.val + Ln W c t % 8, by omega⟩ : Fin 128) = ⟨Ln W c t, H.lane_lt t ht⟩ := Fin.ext (by show 8 * k.val + Ln W c t % 8 = Ln W c t; omega)
  show g (ix3 h (⟨8 * k.val + Ln W c t % 8, _⟩ : Fin 128) cc) = _
  rw [e]
  exact hg h ⟨Ln W c t, H.lane_lt t ht⟩ cc hl

set_option maxHeartbeats 4000000 in
theorem body_runs (H : Ok W c) (t : Fin grid0.N) (m7 hm7 m8 hm8) (Y : S16x224x128.Idx → Elt F .f32) (hY : Tail W c Y) (Z : S500x16x224.Idx → Elt F .f32) (K : PUnit → sProp 𝕄) :
    iprop(Held W c (before W c t.val) (fun g => 0 < t.val → Has W c (Tn W c (t.val - 1)) g) m7 Y ∗ owns (c : Thread nD τ) m8 fullShare Z
        ∗ (∀ w, ⌜∀ (h : Fin 16) (cc : Fin 224), w (ix3 0 h cc) = tableX W c (ix3 h cc (⟨Tn W c t.val * 128 + Ln W c t.val, H.gene_lt t.val (show t.val < 500 from t.isLt)⟩ : Fin 50000))⌝
            -∗ (Held W c (before W c (t.val + 1)) (Has W c (Tn W c t.val)) m7 Y ∗ owns (c : Thread nD τ) m8 fullShare (putRow Z (Dn W c t.val) w)) -∗ K ⟨⟩))
      ⊢ wp frame (wpE (defs₀ (F := F)) Variants.none (c : Thread nD τ) none) Set.univ
          (cc0__gather_body (F := F) (grid0.coords t) (Memref.whole main_v5) (Memref.isWhole_whole _) (Memref.whole main_v6) (Memref.isWhole_whole _) (Memref.whole main_v3) (Memref.isWhole_whole _) (Memref.whole main_v15) (Memref.isWhole_whole _) (Memref.whole main_v24) (Memref.isWhole_whole _) tableM (Memref.isWhole_whole _) m7 hm7 m8 hm8 slabM (Memref.isWhole_whole _) turnM (Memref.isWhole_whole _) cc0_scratch2) K := by
  have hi : t.val < 500 := t.isLt
  rw [cc0__gather_body_eq_skeleton]; unfold cc0__gather_body_skel
  rw [wp_bind]
  iintro ⟨Hh, Hz, Hk⟩
  iapply (part2_runs W c H t m7 hm7 m8 hm8 Y hY _)
  isplitl [Hh]; · iexact Hh
  iintro Hh
  dsimp -zeta only
  obtain ⟨q, hq, hlt⟩ : ∃ q, Ln W c t.val / 8 = q ∧ q < 16 := ⟨_, rfl, by have := H.lane_lt t.val hi; omega⟩
  rw [show groupOf (w32 (Ln W c t.val)) = w32 q from (groupOf_eq ⟨Ln W c t.val, H.lane_lt t.val hi⟩).trans (congrArg w32 hq)]
  extract_lets -underBinder v38 jp
  have hk : ∀ v, RowIs W c (Tn W c t.val) (Ln W c t.val) v →
      (iprop(Held W c (before W c (t.val + 1)) (Has W c (Tn W c t.val)) m7 Y ∗ owns (c : Thread nD τ) m8 fullShare Z
        ∗ (∀ w, ⌜∀ (h : Fin 16) (cc : Fin 224), w (ix3 0 h cc) = tableX W c (ix3 h cc (⟨Tn W c t.val * 128 + Ln W c t.val, H.gene_lt t.val (show t.val < 500 from t.isLt)⟩ : Fin 50000))⌝
            -∗ (Held W c (before W c (t.val + 1)) (Has W c (Tn W c t.val)) m7 Y ∗ owns (c : Thread nD τ) m8 fullShare (putRow Z (Dn W c t.val) w)) -∗ K ⟨⟩))
        ⊢ wp frame (wpE (defs₀ (F := F)) Variants.none (c : Thread nD τ) none) Set.univ (jp v) K) := by
    intro v hv
    iintro ⟨⟨Ht, HS, HO, Hg, Hm⟩, Hz, Hk⟩
    dsimp -zeta only [jp]
    rw [wp_bind]
    iapply (dest_runs W c t.val hi (off31_eq t) _ _ _ _)
    isplitl [Ht]; · iexact Ht
    iintro Ht
    rw [wp_bind]
    iapply (assume_runs c (show k0_chk16 (w32 (Dn W c t.val)) from fun a => by
      rw [off32_eq ⟨Dn W c t.val, H.dest_lt t.val hi⟩]
      fin_cases a
      · show Dn W c t.val + 1 ≤ 500; have := H.dest_lt t.val hi; omega
      · exact (by decide : (0 + 16 : ℕ) ≤ 16)
      · exact (by decide : (0 + 224 : ℕ) ≤ 224)) _)
    extract_lets -underBinder hw16
    rw [← bind_assoc, wp_bind]
    iapply (row_runs c m8 Z ⟨Dn W c t.val, H.dest_lt t.val hi⟩ _ (off32_eq ⟨Dn W c t.val, H.dest_lt t.val hi⟩) _ _ _ _ _ _)
    isplitl [Hz]; · iexact Hz
    iintro Hz
    iapply Sem.le_wp_ret
    iapply Hk
    rotate_left
    · isplitr [Hz]
      · isplitl [Ht]; · iexact Ht
        isplitl [HS]; · iexact HS
        isplitl [HO]; · iexact HO
        isplitl [Hg]; · iexact Hg
        iexact Hm
      iexact Hz
    ipureintro
    intro h cc
    rw [pay1_apply ⟨Ln W c t.val, H.lane_lt t.val hi⟩]
    exact hv h cc _
  clear_value jp
  icases Hh with ⟨Ht, HS, HO, ⟨%g, %hg, Hg⟩, Hm⟩
  have hrow := row_is W c H t.val hi g hg
  dsimp +zetaDelta only
  rcases (show q = 0 ∨ q = 1 ∨ q = 2 ∨ q = 3 ∨ q = 4 ∨ q = 5 ∨ q = 6 ∨ q = 7 ∨ q = 8 ∨ q = 9 ∨ q = 10 ∨ q = 11 ∨ q = 12 ∨ q = 13 ∨ q = 14 ∨ q = 15 by omega) with rfl | rfl | rfl | rfl | rfl | rfl | rfl | rfl | rfl | rfl | rfl | rfl | rfl | rfl | rfl | rfl
  · rw [if_neg (show ¬ Scalar.cmpi .ne (w32 0) 0#32 = 1#1 by decide)]
    rw [wp_bind]
    iapply (rows_load c g 0 rfl _ _ _)
    isplitl [Hg]; · iexact Hg
    iintro %v %hv Hg
    simp only [pure_bind]
    iapply (hk v (hrow 0 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 1) 0#32 = 1#1 by decide)]
    rw [if_neg (show ¬ Scalar.cmpi .ne (Scalar.subi (w32 1) 1#32) 0#32 = 1#1 by decide)]
    rw [wp_bind]
    iapply (rows_load c g 1 rfl _ _ _)
    isplitl [Hg]; · iexact Hg
    iintro %v %hv Hg
    simp only [pure_bind]
    iapply (hk v (hrow 1 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 2) 0#32 = 1#1 by decide)]
    rw [if_pos (show Scalar.cmpi .ne (Scalar.subi (w32 2) 1#32) 0#32 = 1#1 by decide)]
    rw [if_neg (show ¬ Scalar.cmpi .ne (Scalar.subi (Scalar.subi (w32 2) 1#32) 1#32) 0#32 = 1#1 by decide)]
    rw [wp_bind]
    iapply (rows_load c g 2 rfl _ _ _)
    isplitl [Hg]; · iexact Hg
    iintro %v %hv Hg
    simp only [pure_bind]
    iapply (hk v (hrow 2 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 3) 0#32 = 1#1 by decide)]
    rw [if_pos (show Scalar.cmpi .ne (Scalar.subi (w32 3) 1#32) 0#32 = 1#1 by decide)]
    rw [if_pos (show Scalar.cmpi .ne (Scalar.subi (Scalar.subi (w32 3) 1#32) 1#32) 0#32 = 1#1 by decide)]
    rw [if_neg (show ¬ Scalar.cmpi .ne (Scalar.subi (Scalar.subi (Scalar.subi (w32 3) 1#32) 1#32) 1#32) 0#32 = 1#1 by decide)]
    rw [wp_bind]
    iapply (rows_load c g 3 rfl _ _ _)
    isplitl [Hg]; · iexact Hg
    iintro %v %hv Hg
    simp only [pure_bind]
    iapply (hk v (hrow 3 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 4) 0#32 = 1#1 by decide)]
    rw [if_pos (show Scalar.cmpi .ne (Scalar.subi (w32 4) 1#32) 0#32 = 1#1 by decide)]
    rw [if_pos (show Scalar.cmpi .ne (Scalar.subi (Scalar.subi (w32 4) 1#32) 1#32) 0#32 = 1#1 by decide)]
    rw [if_pos (show Scalar.cmpi .ne (Scalar.subi (Scalar.subi (Scalar.subi (w32 4) 1#32) 1#32) 1#32) 0#32 = 1#1 by decide)]
    rw [if_neg (show ¬ Scalar.cmpi .ne (Scalar.subi (Scalar.subi (Scalar.subi (Scalar.subi (w32 4) 1#32) 1#32) 1#32) 1#32) 0#32 = 1#1 by decide)]
    rw [wp_bind]
    iapply (rows_load c g 4 rfl _ _ _)
    isplitl [Hg]; · iexact Hg
    iintro %v %hv Hg
    simp only [pure_bind]
    iapply (hk v (hrow 4 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 5) 0#32 = 1#1 by decide)]
    rw [if_pos (show Scalar.cmpi .ne (Scalar.subi (w32 5) 1#32) 0#32 = 1#1 by decide)]
    rw [if_pos (show Scalar.cmpi .ne (Scalar.subi (Scalar.subi (w32 5) 1#32) 1#32) 0#32 = 1#1 by decide)]
    rw [if_pos (show Scalar.cmpi .ne (Scalar.subi (Scalar.subi (Scalar.subi (w32 5) 1#32) 1#32) 1#32) 0#32 = 1#1 by decide)]
    rw [if_pos (show Scalar.cmpi .ne (Scalar.subi (Scalar.subi (Scalar.subi (Scalar.subi (w32 5) 1#32) 1#32) 1#32) 1#32) 0#32 = 1#1 by decide)]
    rw [if_neg (show ¬ Scalar.cmpi .ne (Scalar.subi (Scalar.subi (Scalar.subi (Scalar.subi (Scalar.subi (w32 5) 1#32) 1#32) 1#32) 1#32) 1#32) 0#32 = 1#1 by decide)]
    rw [wp_bind]
    iapply (rows_load c g 5 rfl _ _ _)
    isplitl [Hg]; · iexact Hg
    iintro %v %hv Hg
    simp only [pure_bind]
    iapply (hk v (hrow 5 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 6) 0#32 = 1#1 by decide)]
    rw [if_pos (show Scalar.cmpi .ne (Scalar.subi (w32 6) 1#32) 0#32 = 1#1 by decide)]
    rw [if_pos (show Scalar.cmpi .ne (Scalar.subi (Scalar.subi (w32 6) 1#32) 1#32) 0#32 = 1#1 by decide)]
    rw [if_pos (show Scalar.cmpi .ne (Scalar.subi (Scalar.subi (Scalar.subi (w32 6) 1#32) 1#32) 1#32) 0#32 = 1#1 by decide)]
    rw [if_pos (show Scalar.cmpi .ne (Scalar.subi (Scalar.subi (Scalar.subi (Scalar.subi (w32 6) 1#32) 1#32) 1#32) 1#32) 0#32 = 1#1 by decide)]
    rw [if_pos (show Scalar.cmpi .ne (Scalar.subi (Scalar.subi (Scalar.subi (Scalar.subi (Scalar.subi (w32 6) 1#32) 1#32) 1#32) 1#32) 1#32) 0#32 = 1#1 by decide)]
    rw [if_neg (show ¬ Scalar.cmpi .ne (Scalar.subi (Scalar.subi (Scalar.subi (Scalar.subi (Scalar.subi (Scalar.subi (w32 6) 1#32) 1#32) 1#32) 1#32) 1#32) 1#32) 0#32 = 1#1 by decide)]
    rw [wp_bind]
    iapply (rows_load c g 6 rfl _ _ _)
    isplitl [Hg]; · iexact Hg
    iintro %v %hv Hg
    simp only [pure_bind]
    iapply (hk v (hrow 6 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 7) 0#32 = 1#1 by decide)]
    rw [if_pos (show Scalar.cmpi .ne (Scalar.subi (w32 7) 1#32) 0#32 = 1#1 by decide)]
    rw [if_pos (show Scalar.cmpi .ne (Scalar.subi (Scalar.subi (w32 7) 1#32) 1#32) 0#32 = 1#1 by decide)]
    rw [if_pos (show Scalar.cmpi .ne (Scalar.subi (Scalar.subi (Scalar.subi (w32 7) 1#32) 1#32) 1#32) 0#32 = 1#1 by decide)]
    rw [if_pos (show Scalar.cmpi .ne (Scalar.subi (Scalar.subi (Scalar.subi (Scalar.subi (w32 7) 1#32) 1#32) 1#32) 1#32) 0#32 = 1#1 by decide)]
    rw [if_pos (show Scalar.cmpi .ne (Scalar.subi (Scalar.subi (Scalar.subi (Scalar.subi (Scalar.subi (w32 7) 1#32) 1#32) 1#32) 1#32) 1#32) 0#32 = 1#1 by decide)]
    rw [if_pos (show Scalar.cmpi .ne (Scalar.subi (Scalar.subi (Scalar.subi (Scalar.subi (Scalar.subi (Scalar.subi (w32 7) 1#32) 1#32) 1#32) 1#32) 1#32) 1#32) 0#32 = 1#1 by decide)]
    rw [if_neg (show ¬ Scalar.cmpi .ne (Scalar.subi (Scalar.subi (Scalar.subi (Scalar.subi (Scalar.subi (Scalar.subi (Scalar.subi (w32 7) 1#32) 1#32) 1#32) 1#32) 1#32) 1#32) 1#32) 0#32 = 1#1 by decide)]
    rw [wp_bind]
    iapply (rows_load c g 7 rfl _ _ _)
    isplitl [Hg]; · iexact Hg
    iintro %v %hv Hg
    simp only [pure_bind]
    iapply (hk v (hrow 7 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 8) 0#32 = 1#1 by decide)]
    rw [if_pos (show Scalar.cmpi .ne (Scalar.subi (w32 8) 1#32) 0#32 = 1#1 by decide)]
    rw [if_pos (show Scalar.cmpi .ne (Scalar.subi (Scalar.subi (w32 8) 1#32) 1#32) 0#32 = 1#1 by decide)]
    rw [if_pos (show Scalar.cmpi .ne (Scalar.subi (Scalar.subi (Scalar.subi (w32 8) 1#32) 1#32) 1#32) 0#32 = 1#1 by decide)]
    rw [if_pos (show Scalar.cmpi .ne (Scalar.subi (Scalar.subi (Scalar.subi (Scalar.subi (w32 8) 1#32) 1#32) 1#32) 1#32) 0#32 = 1#1 by decide)]
    rw [if_pos (show Scalar.cmpi .ne (Scalar.subi (Scalar.subi (Scalar.subi (Scalar.subi (Scalar.subi (w32 8) 1#32) 1#32) 1#32) 1#32) 1#32) 0#32 = 1#1 by decide)]
    rw [if_pos (show Scalar.cmpi .ne (Scalar.subi (Scalar.subi (Scalar.subi (Scalar.subi (Scalar.subi (Scalar.subi (w32 8) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (w32 8) 1#32) 1#32) 1#32) 1#32) 1#32) 1#32) 1#32) 0#32 = 1#1 by decide)]
    rw [if_neg (show ¬ Scalar.cmpi .ne (Scalar.subi (Scalar.subi (Scalar.subi (Scalar.subi (Scalar.subi (Scalar.subi (Scalar.subi (Scalar.subi (w32 8) 1#32) 1#32) 1#32) 1#32) 1#32) 1#32) 1#32) 1#32) 0#32 = 1#1 by decide)]
    rw [wp_bind]
    iapply (rows_load c g 8 rfl _ _ _)
    isplitl [Hg]; · iexact Hg
    iintro %v %hv Hg
    simp only [pure_bind]
    iapply (hk v (hrow 8 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 9) 0#32 = 1#1 by decide)]
    rw [if_pos (show Scalar.cmpi .ne (Scalar.subi (w32 9) 1#32) 0#32 = 1#1 by decide)]
    rw [if_pos (show Scalar.cmpi .ne (Scalar.subi (Scalar.subi (w32 9) 1#32) 1#32) 0#32 = 1#1 by decide)]
    rw [if_pos (show Scalar.cmpi .ne (Scalar.subi (Scalar.subi (Scalar.subi (w32 9) 1#32) 1#32) 1#32) 0#32 = 1#1 by decide)]
    rw [if_pos (show Scalar.cmpi .ne (Scalar.subi (Scalar.subi (Scalar.subi (Scalar.subi (w32 9) 1#32) 1#32) 1#32) 1#32) 0#32 = 1#1 by decide)]
    rw [if_pos (show Scalar.cmpi .ne (Scalar.subi (Scalar.subi (Scalar.subi (Scalar.subi (Scalar.subi (w32 9) 1#32) 1#32) 1#32) 1#32) 1#32) 0#32 = 1#1 by decide)]
    rw [if_pos (show Scalar.cmpi .ne (Scalar.subi (Scalar.subi (Scalar.subi (Scalar.subi (Scalar.subi (Scalar.subi (w32 9) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (w32 9) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (w32 9) 1#32) 1#32) 1#32) 1#32) 1#32) 1#32) 1#32) 1#32) 0#32 = 1#1 by decide)]
    rw [if_neg (show ¬ Scalar.cmpi .ne (Scalar.subi (Scalar.subi (Scalar.subi (Scalar.subi (Scalar.subi (Scalar.subi (Scalar.subi (Scalar.subi (Scalar.subi (w32 9) 1#32) 1#32) 1#32) 1#32) 1#32) 1#32) 1#32) 1#32) 1#32) 0#32 = 1#1 by decide)]
    rw [wp_bind]
    iapply (rows_load c g 9 rfl _ _ _)
    isplitl [Hg]; · iexact Hg
    iintro %v %hv Hg
    simp only [pure_bind]
    iapply (hk v (hrow 9 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 10) 0#32 = 1#1 by decide)]
    rw [if_pos (show Scalar.cmpi .ne (Scalar.subi (w32 10) 1#32) 0#32 = 1#1 by decide)]
    rw [if_pos (show Scalar.cmpi .ne (Scalar.subi (Scalar.subi (w32 10) 1#32) 1#32) 0#32 = 1#1 by decide)]
    rw [if_pos (show Scalar.cmpi .ne (Scalar.subi (Scalar.subi (Scalar.subi (w32 10) 1#32) 1#32) 1#32) 0#32 = 1#1 by decide)]
    rw [if_pos (show Scalar.cmpi .ne (Scalar.subi (Scalar.subi (Scalar.subi (Scalar.subi (w32 10) 1#32) 1#32) 1#32) 1#32) 0#32 = 1#1 by decide)]
    rw [if_pos (show Scalar.cmpi .ne (Scalar.subi (Scalar.subi (Scalar.subi (Scalar.subi (Scalar.subi (w32 10) 1#32) 1#32) 1#32) 1#32) 1#32) 0#32 = 1#1 by decide)]
    rw [if_pos (show Scalar.cmpi .ne (Scalar.subi (Scalar.subi (Scalar.subi (Scalar.subi (Scalar.subi (Scalar.subi (w32 10) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (w32 10) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (w32 10) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (w32 10) 1#32) 1#32) 1#32) 1#32) 1#32) 1#32) 1#32) 1#32) 1#32) 0#32 = 1#1 by decide)]
    rw [if_neg (show ¬ Scalar.cmpi .ne (Scalar.subi (Scalar.subi (Scalar.subi (Scalar.subi (Scalar.subi (Scalar.subi (Scalar.subi (Scalar.subi (Scalar.subi (Scalar.subi (w32 10) 1#32) 1#32) 1#32) 1#32) 1#32) 1#32) 1#32) 1#32) 1#32) 1#32) 0#32 = 1#1 by decide)]
    rw [wp_bind]
    iapply (rows_load c g 10 rfl _ _ _)
    isplitl [Hg]; · iexact Hg
    iintro %v %hv Hg
    simp only [pure_bind]
    iapply (hk v (hrow 10 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 11) 0#32 = 1#1 by decide)]
    rw [if_pos (show Scalar.cmpi .ne (Scalar.subi (w32 11) 1#32) 0#32 = 1#1 by decide)]
    rw [if_pos (show Scalar.cmpi .ne (Scalar.subi (Scalar.subi (w32 11) 1#32) 1#32) 0#32 = 1#1 by decide)]
    rw [if_pos (show Scalar.cmpi .ne (Scalar.subi (Scalar.subi (Scalar.subi (w32 11) 1#32) 1#32) 1#32) 0#32 = 1#1 by decide)]
    rw [if_pos (show Scalar.cmpi .ne (Scalar.subi (Scalar.subi (Scalar.subi (Scalar.subi (w32 11) 1#32) 1#32) 1#32) 1#32) 0#32 = 1#1 by decide)]
    rw [if_pos (show Scalar.cmpi .ne (Scalar.subi (Scalar.subi (Scalar.subi (Scalar.subi (Scalar.subi (w32 11) 1#32) 1#32) 1#32) 1#32) 1#32) 0#32 = 1#1 by decide)]
    rw [if_pos (show Scalar.cmpi .ne (Scalar.subi (Scalar.subi (Scalar.subi (Scalar.subi (Scalar.subi (Scalar.subi (w32 11) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (w32 11) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (w32 11) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (w32 11) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (w32 11) 1#32) 1#32) 1#32) 1#32) 1#32) 1#32) 1#32) 1#32) 1#32) 1#32) 0#32 = 1#1 by decide)]
    rw [if_neg (show ¬ Scalar.cmpi .ne (Scalar.subi (Scalar.subi (Scalar.subi (Scalar.subi (Scalar.subi (Scalar.subi (Scalar.subi (Scalar.subi (Scalar.subi (Scalar.subi (Scalar.subi (w32 11) 1#32) 1#32) 1#32) 1#32) 1#32) 1#32) 1#32) 1#32) 1#32) 1#32) 1#32) 0#32 = 1#1 by decide)]
    rw [wp_bind]
    iapply (rows_load c g 11 rfl _ _ _)
    isplitl [Hg]; · iexact Hg
    iintro %v %hv Hg
    simp only [pure_bind]
    iapply (hk v (hrow 11 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 12) 0#32 = 1#1 by decide)]
    rw [if_pos (show Scalar.cmpi .ne (Scalar.subi (w32 12) 1#32) 0#32 = 1#1 by decide)]
    rw [if_pos (show Scalar.cmpi .ne (Scalar.subi (Scalar.subi (w32 12) 1#32) 1#32) 0#32 = 1#1 by decide)]
    rw [if_pos (show Scalar.cmpi .ne (Scalar.subi (Scalar.subi (Scalar.subi (w32 12) 1#32) 1#32) 1#32) 0#32 = 1#1 by decide)]
    rw [if_pos (show Scalar.cmpi .ne (Scalar.subi (Scalar.subi (Scalar.subi (Scalar.subi (w32 12) 1#32) 1#32) 1#32) 1#32) 0#32 = 1#1 by decide)]
    rw [if_pos (show Scalar.cmpi .ne (Scalar.subi (Scalar.subi (Scalar.subi (Scalar.subi (Scalar.subi (w32 12) 1#32) 1#32) 1#32) 1#32) 1#32) 0#32 = 1#1 by decide)]
    rw [if_pos (show Scalar.cmpi .ne (Scalar.subi (Scalar.subi (Scalar.subi (Scalar.subi (Scalar.subi (Scalar.subi (w32 12) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (w32 12) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (w32 12) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (w32 12) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (w32 12) 1#32) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (Scalar.subi (w32 12) 1#32) 1#32) 1#32) 1#32) 1#32) 1#32) 1#32) 1#32) 1#32) 1#32) 1#32) 0#32 = 1#1 by decide)]
    rw [if_neg (show ¬ Scalar.cmpi .ne (Scalar.subi (Scalar.subi (Scalar.subi (Scalar.subi (Scalar.subi (Scalar.subi (Scalar.subi (Scalar.subi (Scalar.subi (Scalar.subi (Scalar.subi (Scalar.subi (w32 12) 1#32) 1#32) 1#32) 1#32) 1#32) 1#32) 1#32) 1#32) 1#32) 1#32) 1#32) 1#32) 0#32 = 1#1 by decide)]
    rw [wp_bind]
    iapply (rows_load c g 12 rfl _ _ _)
    isplitl [Hg]; · iexact Hg
    iintro %v %hv Hg
    simp only [pure_bind]
    iapply (hk v (hrow 12 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 13) 0#32 = 1#1 by decide)]
    rw [if_pos (show Scalar.cmpi .ne (Scalar.subi (w32 13) 1#32) 0#32 = 1#1 by decide)]
    rw [if_pos (show Scalar.cmpi .ne (Scalar.subi (Scalar.subi (w32 13) 1#32) 1#32) 0#32 = 1#1 by decide)]
    rw [if_pos (show Scalar.cmpi .ne (Scalar.subi (Scalar.subi (Scalar.subi (w32 13) 1#32) 1#32) 1#32) 0#32 = 1#1 by decide)]
    rw [if_pos (show Scalar.cmpi .ne (Scalar.subi (Scalar.subi (Scalar.subi (Scalar.subi (w32 13) 1#32) 1#32) 1#32) 1#32) 0#32 = 1#1 by decide)]
    rw [if_pos (show Scalar.cmpi .ne (Scalar.subi (Scalar.subi (Scalar.subi (Scalar.subi (Scalar.subi (w32 13) 1#32) 1#32) 1#32) 1#32) 1#32) 0#32 = 1#1 by decide)]
    rw [if_pos (show Scalar.cmpi .ne (Scalar.subi (Scalar.subi (Scalar.subi (Scalar.subi (Scalar.subi (Scalar.subi (w32 13) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (w32 13) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (w32 13) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (w32 13) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (w32 13) 1#32) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (Scalar.subi (w32 13) 1#32) 1#32) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (Scalar.subi (Scalar.subi (w32 13) 1#32) 1#32) 1#32) 1#32) 1#32) 1#32) 1#32) 1#32) 1#32) 1#32) 1#32) 1#32) 0#32 = 1#1 by decide)]
    rw [if_neg (show ¬ Scalar.cmpi .ne (Scalar.subi (Scalar.subi (Scalar.subi (Scalar.subi (Scalar.subi (Scalar.subi (Scalar.subi (Scalar.subi (Scalar.subi (Scalar.subi (Scalar.subi (Scalar.subi (Scalar.subi (w32 13) 1#32) 1#32) 1#32) 1#32) 1#32) 1#32) 1#32) 1#32) 1#32) 1#32) 1#32) 1#32) 1#32) 0#32 = 1#1 by decide)]
    rw [wp_bind]
    iapply (rows_load c g 13 rfl _ _ _)
    isplitl [Hg]; · iexact Hg
    iintro %v %hv Hg
    simp only [pure_bind]
    iapply (hk v (hrow 13 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 14) 0#32 = 1#1 by decide)]
    rw [if_pos (show Scalar.cmpi .ne (Scalar.subi (w32 14) 1#32) 0#32 = 1#1 by decide)]
    rw [if_pos (show Scalar.cmpi .ne (Scalar.subi (Scalar.subi (w32 14) 1#32) 1#32) 0#32 = 1#1 by decide)]
    rw [if_pos (show Scalar.cmpi .ne (Scalar.subi (Scalar.subi (Scalar.subi (w32 14) 1#32) 1#32) 1#32) 0#32 = 1#1 by decide)]
    rw [if_pos (show Scalar.cmpi .ne (Scalar.subi (Scalar.subi (Scalar.subi (Scalar.subi (w32 14) 1#32) 1#32) 1#32) 1#32) 0#32 = 1#1 by decide)]
    rw [if_pos (show Scalar.cmpi .ne (Scalar.subi (Scalar.subi (Scalar.subi (Scalar.subi (Scalar.subi (w32 14) 1#32) 1#32) 1#32) 1#32) 1#32) 0#32 = 1#1 by decide)]
    rw [if_pos (show Scalar.cmpi .ne (Scalar.subi (Scalar.subi (Scalar.subi (Scalar.subi (Scalar.subi (Scalar.subi (w32 14) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (w32 14) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (w32 14) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (w32 14) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (w32 14) 1#32) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (Scalar.subi (w32 14) 1#32) 1#32) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (Scalar.subi (Scalar.subi (w32 14) 1#32) 1#32) 1#32) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (Scalar.subi (Scalar.subi (Scalar.subi (w32 14) 1#32) 1#32) 1#32) 1#32) 1#32) 1#32) 1#32) 1#32) 1#32) 1#32) 1#32) 1#32) 1#32) 0#32 = 1#1 by decide)]
    rw [if_neg (show ¬ Scalar.cmpi .ne (Scalar.subi (Scalar.subi (Scalar.subi (Scalar.subi (Scalar.subi (Scalar.subi (Scalar.subi (Scalar.subi (Scalar.subi (Scalar.subi (Scalar.subi (Scalar.subi (Scalar.subi (Scalar.subi (w32 14) 1#32) 1#32) 1#32) 1#32) 1#32) 1#32) 1#32) 1#32) 1#32) 1#32) 1#32) 1#32) 1#32) 1#32) 0#32 = 1#1 by decide)]
    rw [wp_bind]
    iapply (rows_load c g 14 rfl _ _ _)
    isplitl [Hg]; · iexact Hg
    iintro %v %hv Hg
    simp only [pure_bind]
    iapply (hk v (hrow 14 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk
  · rw [if_pos (show Scalar.cmpi .ne (w32 15) 0#32 = 1#1 by decide)]
    rw [if_pos (show Scalar.cmpi .ne (Scalar.subi (w32 15) 1#32) 0#32 = 1#1 by decide)]
    rw [if_pos (show Scalar.cmpi .ne (Scalar.subi (Scalar.subi (w32 15) 1#32) 1#32) 0#32 = 1#1 by decide)]
    rw [if_pos (show Scalar.cmpi .ne (Scalar.subi (Scalar.subi (Scalar.subi (w32 15) 1#32) 1#32) 1#32) 0#32 = 1#1 by decide)]
    rw [if_pos (show Scalar.cmpi .ne (Scalar.subi (Scalar.subi (Scalar.subi (Scalar.subi (w32 15) 1#32) 1#32) 1#32) 1#32) 0#32 = 1#1 by decide)]
    rw [if_pos (show Scalar.cmpi .ne (Scalar.subi (Scalar.subi (Scalar.subi (Scalar.subi (Scalar.subi (w32 15) 1#32) 1#32) 1#32) 1#32) 1#32) 0#32 = 1#1 by decide)]
    rw [if_pos (show Scalar.cmpi .ne (Scalar.subi (Scalar.subi (Scalar.subi (Scalar.subi (Scalar.subi (Scalar.subi (w32 15) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (w32 15) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (w32 15) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (w32 15) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (w32 15) 1#32) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (Scalar.subi (w32 15) 1#32) 1#32) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (Scalar.subi (Scalar.subi (w32 15) 1#32) 1#32) 1#32) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (Scalar.subi (Scalar.subi (Scalar.subi (w32 15) 1#32) 1#32) 1#32) 1#32) 1#32) 1#32) 1#32) 1#32) 1#32) 1#32) 1#32) 1#32) 1#32) 0#32 = 1#1 by decide)]
    rw [if_pos (show Scalar.cmpi .ne (Scalar.subi (Scalar.subi (Scalar.subi (Scalar.subi (Scalar.subi (Scalar.subi (Scalar.subi (Scalar.subi (Scalar.subi (Scalar.subi (Scalar.subi (Scalar.subi (Scalar.subi (Scalar.subi (w32 15) 1#32) 1#32) 1#32) 1#32) 1#32) 1#32) 1#32) 1#32) 1#32) 1#32) 1#32) 1#32) 1#32) 1#32) 0#32 = 1#1 by decide)]
    rw [wp_bind]
    iapply (rows_load c g 15 rfl _ _ _)
    isplitl [Hg]; · iexact Hg
    iintro %v %hv Hg
    simp only [pure_bind]
    iapply (hk v (hrow 15 hq v hv))
    isplitr [Hz Hk]
    · isplitl [Ht]; · iexact Ht
      isplitl [HS]; · iexact HS
      isplitl [HO]; · iexact HO
      isplitl [Hg]
      · iexists g
        isplitr; · ipureintro; exact hg
        iexact Hg
      iexact Hm
    isplitl [Hz]; · iexact Hz
    iexact Hk

end Cert.KernelIdeal.Collect

end
-- ==== Proof.KernelIdeal.Collect.lean ====
/-
  The gather call at every point: the weights' last block is fetched once and stays, the gathered rows fill the result's
  one block row by row, and the slots, the tables and the block at hand go on from point to point.
-/
module

public import proofs.«01_k».proof.Proof.KernelIdeal.Body

@[expose] public section

set_option maxRecDepth 16384

noncomputable section

namespace Cert.KernelIdeal.Collect

open Cert.KernelIdeal Cert.KernelIdeal.Gen Cert.KernelIdeal.Decoder Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ UU ℕ

variable (a : (pcfg0 (F := F)).Adm) (W : Dev nD → Valuation τ sig (Elt F))

/-- The staging buffers of the other two calls, each at some contents. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- What of the table's second half no slot has. -/
abbrev spare (c : Dev nD) : sProp 𝕄 :=
  ((c : Thread nD τ).loc main_v1) ↦{Transfers.shareDrop (fullShare : PosShare TreeShare).right 4} W c main_v1

/-- What goes on from point to point, before point `i`. -/
def going (c : Dev nD) (i : ℕ) : sProp 𝕄 :=
  iprop(tables W c ∗ Slots c (W c main_v1) (before W c i) ∗ (∃ g, ⌜0 < i → Has W c (Tn W c (i - 1)) g⌝ ∗ turnAt c g)
    ∗ spare W c ∗ others c)

/-- The proof data: the arrays at `W`, half of the table's share for the pipeline's own fetch. -/
def dat (c : Dev nD) : Dat τ (Elt F) Unit ℕ UU ℕ (cfg0 a) c where
  A w := W c (Pipeline.arrRef spec0 w)
  after w t := fun _ => Classical.arbitrary _
  Φ i := going W c i.val
  q w := match w with | ⟨0, _⟩ => (fullShare : PosShare TreeShare).left | ⟨1, _⟩ => fullShare
  owed _ := 0

/-- Both windows are held to a predicate: -/
abbrev fgt : Fin (cfg0 a).W → Bool := fun _ => true

/-- the first holds the weights' last block, -/
def Rl (c : Dev nD) : (w : Fin (cfg0 a).W) → (t : Fin (cfg0 a).N) → (((cfg0 a).win w).block.Idx → Elt F ((cfg0 a).win w).elt) → Prop := fun w t =>
  match w with
  | ⟨0, _⟩ => fun X => Tail W c X
  | ⟨1, _⟩ => fun X => ∀ j ≤ t.val, ∀ y : S500x16x224.Idx, (y 0).val = Dn W c j → ∀ x : S16x224x50000.Idx,
      (x 0).val = (y 1).val → (x 1).val = (y 2).val → (x 2).val = Tn W c j * 128 + Ln W c j →
        (X : S500x16x224.Idx → Elt F .f32) y = tableX W c x

/-- The data, both windows held to `Rl`. -/
abbrev rdat (c : Dev nD) : RDat τ (Elt F) Unit ℕ UU ℕ (cfg0 a) c := (dat a W c).toRRel (fgt a) (Rl a W c)

theorem dat_A (c : Dev nD) (w : Fin (cfg0 a).W) : (dat a W c).A w = W c (Pipeline.arrRef spec0 w) := by dsimp only [dat]

theorem index_at : ∀ i : grid0.Coords, cc0_transform_1 i = ![0, 0, 390] := fun _ => rfl

theorem sizes_at (i : grid0.Coords) : (win0 a 0).xsize i 0 = 16 ∧ (win0 a 0).xsize i 1 = 224 ∧ (win0 a 0).xsize i 2 = 80 := by
  refine ⟨?_, ?_, ?_⟩
  · show (Pipeline.Clip.of 0 16 16).extent 16 = 16; decide +kernel
  · show (Pipeline.Clip.of 0 224 224).extent 224 = 224; decide +kernel
  · unfold Window.xsize
    dsimp only
    exact (by decide +kernel : (Pipeline.Clip.of (![0, 0, 390] 2) 128 50000).extent 128 = 80)

theorem fetch_0 (t : Fin (cfg0 a).N) : (win0 a 0).fetch t = true ↔ t.val = 0 := by
  have h := Pipeline.Window.fetch_const (win0 a 0) rfl (fun _ _ => rfl) (n := 500) (by decide) t
  rw [Nat.mod_eq_of_lt (show t.val < 500 from t.isLt)] at h; exact h

/-- What the fetch leaves in the first window's buffer. -/
theorem fetched_tail (c : Dev nD) (t : Fin (cfg0 a).N) (d) : Tail W c ((rdat a W c).fetched 0 t d) := by
  intro h cc l hl
  have hb : ∀ x : Fin 3, ((ix3 h cc l : S16x224x128.Idx) x).val < (win0 a 0).xsize (grid0.coords t) x := by
    intro x; fin_cases x
    · exact lt_of_lt_of_eq h.isLt (sizes_at a _).1.symm
    · exact lt_of_lt_of_eq cc.isLt (sizes_at a _).2.1.symm
    · exact lt_of_lt_of_eq (show l.val < 80 by omega) (sizes_at a _).2.2.symm
  rw [show (ix3 h cc l : S16x224x128.Idx) = (win0 a 0).xinj (grid0.coords t) (fun x => ⟨_, hb x⟩) from rfl]
  unfold RDat.fetched
  refine (Window.fill_xinj _ _ _ _ _).trans ?_
  unfold RDat.blockOf
  refine (View.read_apply _ _).trans ?_
  refine congrArg (W c main_v1 : S16x224x50000.Idx → Elt F .f32) (funext fun x => Fin.ext ?_)
  fin_cases x
  · show (win0 a 0).index t 0 * 16 + 1 * h.val = h.val
    rw [show (win0 a 0).index t 0 = 0 from rfl]; omega
  · show (win0 a 0).index t 1 * 224 + 1 * cc.val = cc.val
    rw [show (win0 a 0).index t 1 = 0 from rfl]; omega
  · show (win0 a 0).index t 2 * 128 + 1 * l.val = 390 * 128 + l.val
    rw [show (win0 a 0).index t 2 = 390 from rfl]; omega

/-- At every point the first window's buffer holds the weights' last block. -/
theorem finds_0 (c : Dev nD) (t : Fin (cfg0 a).N) (X) (h : (rdat a W c).Finds 0 t X) : Tail W c X := by
  by_cases h0 : t.val = 0
  · obtain ⟨d, rfl⟩ := ((rdat a W c).finds_of_fetch ((fetch_0 a t).mpr h0) X).mp h
    exact fetched_tail a W c t d
  · have hf : (win0 a 0).fetch t = false := Bool.eq_false_iff.mpr fun h => h0 ((fetch_0 a t).mp h)
    rcases ((rdat a W c).finds_of_pos hf h0 X).mp h with h | h
    · rw [Pipeline.Window.flush_in (win0 a 0) rfl] at h; exact absurd h Bool.false_ne_true
    · exact (dat a W c).toRRel_leaves (fgt := fgt a) (Rl := Rl a W c) (w := 0) rfl h

theorem flush_1 (t : Fin (cfg0 a).N) : (win0 a 1).flush t = true ↔ t.val = 499 := by
  have h := Pipeline.Window.flush_const (win0 a 1) rfl (fun _ _ => rfl) (n := 500) (m := 499) (by decide) rfl t
  rw [Nat.mod_eq_of_lt (show t.val < 500 from t.isLt)] at h; exact h

/-- Before point `t` the result's buffer holds the rows of the points before. -/
theorem finds_1 (c : Dev nD) (t : Fin (cfg0 a).N) (X) (h : (rdat a W c).Finds 1 t X) (h0 : t.val ≠ 0) :
    Rl a W c 1 ⟨t.val - 1, Nat.lt_of_le_of_lt (Nat.sub_le _ _) t.isLt⟩ X := by
  rcases ((rdat a W c).finds_of_pos (Pipeline.Window.fetch_out (win0 a 1) rfl t) h0 X).mp h with h | h
  · have e := (flush_1 a _).mp h
    have := show t.val < 500 from t.isLt
    simp only at e; omega
  · exact (dat a W c).toRRel_leaves (fgt := fgt a) (Rl := Rl a W c) (w := 1) rfl h

/-- No two points write the same row. -/
theorem dest_inj (c : Dev nD) (H : Ok W c) {i j : ℕ} (hi : i < 500) (hj : j < 500) (h : Dn W c i = Dn W c j) : i = j := by
  have hs : Function.Surjective (fun i : Fin 500 => (⟨Dn W c i.val, H.dest_lt i.val i.isLt⟩ : Fin 500)) := fun d => by
    obtain ⟨i, hi, e⟩ := H.dest_surj d.val d.isLt
    exact ⟨⟨i, hi⟩, Fin.ext e⟩
  have hinj := Finite.injective_iff_surjective.mpr hs
  exact congrArg Fin.val (hinj (a₁ := ⟨i, hi⟩) (a₂ := ⟨j, hj⟩) (Fin.ext h))

/-- One more row. -/
theorem row_more (c : Dev nD) (H : Ok W c) (t : Fin (cfg0 a).N) (Z : S500x16x224.Idx → Elt F .f32) (w : _)
    (hZ : t.val ≠ 0 → Rl a W c 1 ⟨t.val - 1, Nat.lt_of_le_of_lt (Nat.sub_le _ _) t.isLt⟩ Z)
    (hw : ∀ (h : Fin 16) (cc : Fin 224), w (ix3 0 h cc) = tableX W c (ix3 h cc ⟨Tn W c t.val * 128 + Ln W c t.val, H.gene_lt t.val (show t.val < 500 from t.isLt)⟩)) :
    Rl a W c 1 t (putRow Z (Dn W c t.val) w) := by
  have ht : t.val < 500 := t.isLt
  intro j hj y hy x h0 h1 h2
  show putRow Z (Dn W c t.val) w y = _
  unfold putRow
  by_cases e : (y 0).val = Dn W c t.val
  · rw [if_pos e]
    obtain rfl : j = t.val := dest_inj W c H (by omega) ht (hy.symm.trans e)
    refine (hw (y 1) (y 2)).trans (congrArg (tableX W c) (funext fun b => Fin.ext ?_))
    fin_cases b
    · exact h0.symm
    · exact h1.symm
    · exact h2.symm
  · rw [if_neg e]
    have hne : j ≠ t.val := fun h => e (h ▸ hy)
    exact hZ (by omega) j (show j ≤ t.val - 1 by omega) y hy x h0 h1 h2

/-- Nothing owed, read as what a point asks and leaves. -/
theorem owed_in (c : Dev nD) (i) : settled c ⊢ ((dat a W c).owesAt () i : sProp 𝕄) := by
  unfold settled Pipeline.Dat.owesAt Pipeline.owesWithin
  iintro ⟨%D, HO⟩; iexists D; isplitr; · ipureintro; exact fun _ _ => Or.inl trivial
  iexact HO
theorem owed_out (c : Dev nD) (i) : ((dat a W c).owesAt () i : sProp 𝕄) ⊢ settled c := by
  unfold settled Pipeline.Dat.owesAt Pipeline.owesWithin
  iintro ⟨%D, -, HO⟩; iexists D; iexact HO

/-- The body table's row at a point is the body there. -/
theorem row (t : Fin (cfg0 a).N) : defs₀ (F := F) .tc (cfg0 a).body ((cfg0 a).bodyArgs t ((cfg0 a).slots t))
    = cc0__gather_body (F := F) (grid0.coords t) (Memref.whole main_v5) (Memref.isWhole_whole _) (Memref.whole main_v6) (Memref.isWhole_whole _)
        (Memref.whole main_v3) (Memref.isWhole_whole _) (Memref.whole main_v15) (Memref.isWhole_whole _) (Memref.whole main_v24) (Memref.isWhole_whole _)
        tableM (Memref.isWhole_whole _)
        (spec0_0.stage ((cfg0 a).slots t 0)) (hstage0_0 (((cfg0 a).slots t 0).cast nbuf0_0))
        (spec0_1.stage ((cfg0 a).slots t 1)) (hstage0_1 (((cfg0 a).slots t 1).cast nbuf0_1))
        slabM (Memref.isWhole_whole _) turnM (Memref.isWhole_whole _) cc0_scratch2 := by
  unfold defs₀; rw [Defs.onTc_tc]

/-- The body obligation at every point. -/
theorem obligation (c : Dev nD) (H : Ok W c) : Pipeline.BodyObligationRel (dat a W c) (defs₀ (F := F)) Variants.none () Set.univ (fgt a) (Rl a W c) := fun t => by
  rw [bigSep_W0, bigSep_W0, row]
  simp only [fgt]
  rw [show (dat a W c).Φ t.castSucc = going W c t.val from rfl, show (dat a W c).Φ t.succ = going W c (t.val + 1) from rfl]
  have hin := owed_in a W c t.succ
  have hout := owed_out a W c t.castSucc
  unfold going
  iintro ⟨⟨Ht, HS, Hg, Hsp, Hot⟩, HO, ⟨%Y, %hY, H0⟩, ⟨%Z, %hZ, H1⟩⟩
  ihave HO := hout $$ HO
  iapply (body_runs W c H t _ _ _ _ Y (finds_0 a W c t Y hY) Z _)
  isplitl [Ht HS Hg HO H0]
  · isplitl [Ht]; · iexact Ht
    isplitl [HS]; · iexact HS
    isplitl [HO]; · iexact HO
    isplitl [Hg]; · iexact Hg
    iexact H0
  isplitl [H1]; · iexact H1
  iintro %w %hw ⟨⟨Ht, HS, HO, ⟨%g, %hg, Hg⟩, H0⟩, H1⟩
  ihave HO := hin $$ HO
  isplitl [Ht HS Hg Hsp Hot]
  · isplitl [Ht]; · iexact Ht
    isplitl [HS]; · iexact HS
    isplitl [Hg]
    · iexists g; isplitr
      · ipureintro; intro _; exact hg
      iexact Hg
    isplitl [Hsp]; · iexact Hsp
    iexact Hot
  isplitl [HO]; · iexact HO
  isplitl [H0]
  · iexists Y; isplitr
    · ipureintro; exact finds_0 a W c t Y hY
    iexact H0
  iexists _; isplitr
  swap; · iexact H1
  ipureintro
  exact row_more a W c H t Z w (finds_1 a W c t Z hZ) hw

end Cert.KernelIdeal.Collect

end
-- ==== Proof.KernelIdeal.Call.lean ====
/-
  The gather call as a whole: the slots, their semaphores and their shares of the weights' table are made up when it
  begins and given back when it ends, and the result's array ends with row `d` the weights of the gene that is sent there.
-/
module

public import proofs.«01_k».proof.Proof.KernelIdeal.Collect

@[expose] public section

set_option maxRecDepth 16384

noncomputable section

namespace Cert.KernelIdeal.Collect

open Cert.KernelIdeal Cert.KernelIdeal.Gen Cert.KernelIdeal.Decoder Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ UU ℕ

/-- Slot `k`'s part of the slots' buffer. -/
abbrev part (k : Fin 4) : Finset S4x16x224x128.Idx := (Rect.unit (s := S4x16x224x128) ![k.val, 0, 0, 0] S1x16x224x128.size (slot_inb k)).set
theorem slot_set (k : Fin 4) : (slot k).view.set = part k := by
  simp only [slot, Memref.view_squeeze, View.set_reshape]; exact View.set_slice_whole _ _
theorem parts_disjoint (k k' : Fin 4) (h : k ≠ k') : Disjoint (part k) (part k') :=
  Ring.lead_disjoint (s := S4x16x224x128) (0 : Fin 4) 1 (fun k : Fin 4 => (![k.val, 0, 0, 0] : Fin 4 → ℕ)) S1x16x224x128.size slot_inb (fun k => by simp) rfl k k' h
theorem parts_cover : Finset.univ.biUnion part = Finset.univ :=
  Ring.lead_cover (s := S4x16x224x128) (0 : Fin 4) 1 (fun k : Fin 4 => (![k.val, 0, 0, 0] : Fin 4 → ℕ)) S1x16x224x128.size slot_inb (fun k => by simp)
    (fun k a ha => by fin_cases a <;> first | exact absurd rfl ha | rfl) rfl (fun a ha => by fin_cases a <;> first | exact absurd rfl ha | rfl) rfl

theorem slotAt_eq (c : Dev nD) (k : Fin 4) (f : Buf (Elt F) ((c : Thread nD τ).loc cc0_scratch0)) :
    (slotAt c k f : sProp 𝕄) = (((c : Thread nD τ).loc cc0_scratch0) ↦[part k]{fullShare} f) := by
  rw [← slot_set]

theorem buf_split (c : Dev nD) (f : Buf (Elt F) ((c : Thread nD τ).loc cc0_scratch0)) :
    (((c : Thread nD τ).loc cc0_scratch0) ↦{fullShare} f : sProp 𝕄) ⊢ bigSep Finset.univ fun k => iprop(∃ f, slotAt c k f) := by
  rw [Ring.pointsTo_blocks (ℓ := (c : Thread nD τ).loc cc0_scratch0) part parts_disjoint parts_cover]
  refine bigSep_mono fun k _ => ?_
  rw [← slotAt_eq]
  show (slotAt c k f : sProp 𝕄) ⊢ iprop(∃ f, slotAt c k f)
  iintro H; iexists f; iexact H

theorem buf_join (c : Dev nD) :
    (bigSep Finset.univ fun k => iprop(∃ f, slotAt c k f))
      ⊢ (iprop(∃ f : Buf (Elt F) ((c : Thread nD τ).loc cc0_scratch0), ((c : Thread nD τ).loc cc0_scratch0) ↦{fullShare} f) : sProp 𝕄) := by
  refine BIBase.Entails.trans (bigSep_mono fun k _ => ?_)
    (Ring.pointsTo_blocks_join_exists (ℓ := (c : Thread nD τ).loc cc0_scratch0) part parts_disjoint parts_cover (q := fullShare) (Classical.arbitrary _))
  show (iprop(∃ f, slotAt c k f) : sProp 𝕄) ⊢ iprop(∃ f : Buf (Elt F) ((c : Thread nD τ).loc cc0_scratch0), ((c : Thread nD τ).loc cc0_scratch0) ↦[part k]{fullShare} f)
  iintro ⟨%f, H⟩
  iexists f
  iapply (show (slotAt c k f : sProp 𝕄) ⊢ _ from Entails.of_eq (slotAt_eq c k f)); iexact H

/-- The call's semaphores, one a slot. -/
abbrev osem (k : Fin 4) : SemLoc sig := .dma (cell k)

variable (W : Dev nD → Valuation τ sig (Elt F))

/-- The half of the weights' table that the slots and the spare have. -/
abbrev half (c : Dev nD) : sProp 𝕄 := ((c : Thread nD τ).loc main_v1) ↦{(fullShare : PosShare TreeShare).right} W c main_v1

theorem all_free (c : Dev nD) : (Slots c (W c main_v1) (fun _ => 390) : sProp 𝕄)
    = iprop(((bigSep Finset.univ fun k => semVal ((c : Thread nD τ), osem k) 0)
        ∗ bigSep Finset.univ fun k => (((c : Thread nD τ).loc main_v1) ↦{slotShare k} W c main_v1))
      ∗ bigSep Finset.univ fun k => iprop(∃ f, slotAt c k f)) := by
  have e : (fun k => Slot c (W c main_v1) k 390 : Fin 4 → sProp 𝕄) = fun k => iprop((semVal ((c : Thread nD τ), osem k) 0
      ∗ (((c : Thread nD τ).loc main_v1) ↦{slotShare k} W c main_v1)) ∗ ∃ f, slotAt c k f) :=
    funext fun k => Slot_free c (W c main_v1) k 390 (by omega)
  show bigSep Finset.univ (fun k => Slot c (W c main_v1) k 390) = _
  rw [e]
  exact (bigSep_sep Finset.univ (fun k : Fin 4 => iprop(semVal ((c : Thread nD τ), osem k) 0 ∗ (((c : Thread nD τ).loc main_v1) ↦{slotShare k} W c main_v1)))
    (fun k => iprop(∃ f, slotAt c k f))).trans (congrArg (fun P : sProp 𝕄 => iprop(P ∗ bigSep Finset.univ fun k => iprop(∃ f, slotAt c k f)))
      (bigSep_sep Finset.univ (fun k : Fin 4 => semVal ((c : Thread nD τ), osem k) 0) (fun k => (((c : Thread nD τ).loc main_v1) ↦{slotShare k} W c main_v1))))

theorem slots_begin (c : Dev nD) :
    iprop((∃ f : Buf (Elt F) ((c : Thread nD τ).loc cc0_scratch0), ((c : Thread nD τ).loc cc0_scratch0) ↦{fullShare} f)
        ∗ half W c ∗ Pipeline.ownSems0 osem c)
      ⊢ (iprop(Slots c (W c main_v1) (fun _ => 390) ∗ spare W c) : sProp 𝕄) := by
  rw [all_free]
  have hsplit := Transfers.pointsTo_toks_split (Ix := Unit) (Name := ℕ) (U := UU) (Lvl := ℕ) (ℓ := (c : Thread nD τ).loc main_v1) (S := Finset.univ)
    (f := W c main_v1) (fullShare : PosShare TreeShare).right 4
  unfold Pipeline.ownSems0
  iintro ⟨⟨%f, HB⟩, HX, HS⟩
  ihave HX := hsplit $$ HX
  icases HX with ⟨Hsp, HX⟩
  isplitr [Hsp]
  · isplitl [HS HX]
    · isplitl [HS]; · iexact HS
      iexact HX
    iapply (buf_split c f); iexact HB
  iexact Hsp

theorem slots_end (c : Dev nD) :
    (iprop(Slots c (W c main_v1) (fun _ => 390) ∗ spare W c) : sProp 𝕄)
      ⊢ iprop((∃ f : Buf (Elt F) ((c : Thread nD τ).loc cc0_scratch0), ((c : Thread nD τ).loc cc0_scratch0) ↦{fullShare} f)
        ∗ half W c ∗ Pipeline.ownSems0 osem c) := by
  rw [all_free]
  have hjoin := Transfers.pointsTo_toks_join (Ix := Unit) (Name := ℕ) (U := UU) (Lvl := ℕ) (ℓ := (c : Thread nD τ).loc main_v1) (S := Finset.univ)
    (f := W c main_v1) (fullShare : PosShare TreeShare).right 4
  unfold Pipeline.ownSems0
  iintro ⟨⟨⟨HS, HX⟩, HB⟩, Hsp⟩
  isplitl [HB]; · iapply (buf_join c); iexact HB
  isplitr [HS]
  · iapply hjoin; isplitl [Hsp]; · iexact Hsp
    iexact HX
  iexact HS

/-- Row `d` of the gathered weights is the gene's that is sent there. -/
def gathered (c : Dev nD) : S500x16x224.Idx → Elt F .f32 := fun y =>
  open Classical in
  if h : ∃ x : S16x224x50000.Idx, ∃ i < 500, (y 0).val = Dn W c i ∧ (x 0).val = (y 1).val ∧ (x 1).val = (y 2).val ∧ (x 2).val = Tn W c i * 128 + Ln W c i
  then tableX W c h.choose else Scalar.ofBits .f32 0#32

theorem gathered_at (c : Dev nD) (H : Ok W c) (y : S500x16x224.Idx) (x : S16x224x50000.Idx) (i : ℕ) (hi : i < 500) (hd : (y 0).val = Dn W c i)
    (h0 : (x 0).val = (y 1).val) (h1 : (x 1).val = (y 2).val) (h2 : (x 2).val = Tn W c i * 128 + Ln W c i) :
    gathered W c y = tableX W c x := by
  have h : ∃ x : S16x224x50000.Idx, ∃ i < 500, (y 0).val = Dn W c i ∧ (x 0).val = (y 1).val ∧ (x 1).val = (y 2).val ∧ (x 2).val = Tn W c i * 128 + Ln W c i :=
    ⟨x, i, hi, hd, h0, h1, h2⟩
  unfold gathered
  rw [dif_pos h]
  obtain ⟨j, hj, ed, e0, e1, e2⟩ := h.choose_spec
  obtain rfl : j = i := dest_inj W c H hj hi (ed.symm.trans hd)
  refine congrArg (tableX W c) (funext fun b => Fin.ext ?_)
  fin_cases b
  · exact e0.trans h0.symm
  · exact e1.trans h1.symm
  · exact e2.trans h2.symm

variable (a : (pcfg0 (F := F)).Adm)

theorem whole_1 : (win0 a 1).WholeAt ⟨499, by decide⟩ := by
  refine ⟨(flush_1 a _).mpr rfl, fun t h => Fin.ext ((flush_1 a t).mp h), fun b => ?_⟩
  fin_cases b <;> exact ⟨rfl, rfl⟩

/-- The result's array when the call ends. -/
theorem final_1 (c : Dev nD) (H : Ok W c) (n : ℕ) (hn : n = (cfg0 a).N) (G) (hG : (rdat a W c).ArrAt 1 n G) : G = gathered W c := by
  subst hn
  obtain ⟨X, hX, e⟩ := hG.emb_eq_of_wholeAt (whole_1 a)
  have hR := (dat a W c).toRRel_leaves (fgt := fgt a) (Rl := Rl a W c) (w := 1) rfl hX
  refine funext fun (y : S500x16x224.Idx) => ?_
  obtain ⟨i, hi, hd⟩ := H.dest_surj (y 0).val (y 0).isLt
  have hx := hR i (show i ≤ 499 by omega) y hd.symm (ix3 (y 1) (y 2) ⟨Tn W c i * 128 + Ln W c i, H.gene_lt i hi⟩) rfl rfl rfl
  refine (e y).trans ?_
  refine (cast_eq _ _).trans ?_
  refine Eq.trans hx (gathered_at W c H y _ i hi hd.symm rfl rfl rfl).symm

/-- The unscoped buffers when the call ends. -/
abbrev next (c : Dev nD) : Valuation τ sig (Elt F) := Function.update (W c) main_v25 (gathered W c)

theorem next_out (c : Dev nD) : next W c main_v25 = gathered W c := Function.update_self (Proc.devRef .tc main_v25 : DevRef τ sig) _ _
theorem next_of (c : Dev nD) (b : Ref sig .tc) (h : b ≠ main_v25) : next W c b = W c b :=
  Function.update_of_ne (StableHlo.devRef_ne_of_ne h : (Proc.devRef .tc b : DevRef τ sig) ≠ Proc.devRef .tc main_v25) _ _

/-- The same data with the table's share whole. -/
def datF (c : Dev nD) : Dat τ (Elt F) Unit ℕ UU ℕ (cfg0 a) c := { dat a W c with q := fun _ => fullShare }

/-- The windows' arrays held whole are the pipeline's shares of them and the other half of the table. -/
theorem arrays_split (c : Dev nD) (A : (w : Fin (cfg0 a).W) → Buf (Elt F) (((cfg0 a).win w).arr.view.loc (c.tc : Thread nD τ))) :
    ((datF W a c).arrays A : sProp 𝕄) ⊣⊢ iprop((dat a W c).arrays A ∗ ((c : Thread nD τ).loc main_v1) ↦{(fullShare : PosShare TreeShare).right} A 0) := by
  have hs := pointsTo_share (Ix := Unit) (Name := ℕ) (U := UU) (Lvl := ℕ) (ℓ := (c : Thread nD τ).loc main_v1) (I := Finset.univ) (f := A 0) (Val := Elt F)
    (q := (fullShare : PosShare TreeShare)) (q₁ := (fullShare : PosShare TreeShare).left) (q₂ := (fullShare : PosShare TreeShare).right)
    (by rw [PosShare.left_op_right]; exact Part.mem_some _)
  have e1 : ((datF W a c).arrays A : sProp 𝕄) = iprop((((c : Thread nD τ).loc main_v1) ↦{fullShare} A 0) ∗ ((c : Thread nD τ).loc main_v25) ↦{fullShare} A 1) := by
    unfold Pipeline.Dat.arrays
    rw [bigSep_W0, (arr_whole0 0).set_eq_univ, (arr_whole0 1).set_eq_univ]; rfl
  have e2 : ((dat a W c).arrays A : sProp 𝕄) = iprop((((c : Thread nD τ).loc main_v1) ↦{(fullShare : PosShare TreeShare).left} A 0) ∗ ((c : Thread nD τ).loc main_v25) ↦{fullShare} A 1) := by
    unfold Pipeline.Dat.arrays
    rw [bigSep_W0, (arr_whole0 0).set_eq_univ, (arr_whole0 1).set_eq_univ]; rfl
  rw [e1, e2]
  constructor
  · iintro ⟨H0, H1⟩
    ihave H0 := hs.1 $$ H0
    icases H0 with ⟨Hl, Hr⟩
    isplitr [Hr]
    · isplitl [Hl]; · iexact Hl
      iexact H1
    iexact Hr
  · iintro ⟨⟨Hl, H1⟩, Hr⟩
    isplitr [H1]
    · iapply hs.2; isplitl [Hl]; · iexact Hl
      iexact Hr
    iexact H1

/-- The table is as it was. -/
theorem final_0 (c : Dev nD) (n : ℕ) (G) (hG : (rdat a W c).ArrAt 0 n G) : G = W c main_v1 := by
  rw [(rdat a W c).ArrAt_in 0 rfl] at hG; exact hG

/-- The arrays when the call ends. -/
theorem arrays_out (c : Dev nD) (H : Ok W c) (n : ℕ) (hn : n = (cfg0 a).N) : ((rdat a W c).arraysAt n : sProp 𝕄)
    ⊢ iprop(∃ A : (w : Fin (cfg0 a).W) → Buf (Elt F) (((cfg0 a).win w).arr.view.loc (c.tc : Thread nD τ)),
      ⌜A 0 = W c main_v1 ∧ A 1 = gathered W c⌝ ∗ (dat a W c).arrays A) := by
  unfold Pipeline.RDat.arraysAt Pipeline.Dat.arrays
  refine (BI.bigSep_exists_pi Finset.univ _).trans ?_
  iintro ⟨%A, H⟩
  ihave H' := (BI.bigSep_pure_sep Finset.univ (fun w => (rdat a W c).ArrAt w n (A w)) _) $$ H
  icases H' with ⟨%hA, H⟩
  iexists A
  isplitr
  · ipureintro
    exact ⟨final_0 W a c n _ (hA 0 (Finset.mem_univ _)), final_1 W a c H n hn _ (hA 1 (Finset.mem_univ _))⟩
  iexact H

variable (adm : (p : Fin 3) → (pcfgs (F := F) p).Adm)
  (rdats : (p : Fin 3) → (c : Dev nD) → RDat τ (Elt F) Unit ℕ UU ℕ (Pipeline.pin (pcfgs (F := F)) adm p) c)

/-- Exact data for all the pipelines, of which only this one's matters. -/
def family : (p : Fin 3) → (c : Dev nD) → Dat τ (Elt F) Unit ℕ UU ℕ (Pipeline.pin (pcfgs (F := F)) adm p) c := fun p c =>
  if h : p = 0 then h ▸ datF W (adm 0) c else
  { A := fun _ _ => Classical.arbitrary _, after := fun _ _ _ => Classical.arbitrary _, Φ := fun _ => BI.emp, q := fun _ => fullShare, owed := fun _ => 0 }

/-- The scoped buffers that are no staging buffer of this call. -/
theorem scoped_eq (c : Dev nD) : (Pipeline.scopedRest (Ix := Unit) (Name := ℕ) (U := UU) (Lvl := ℕ) (Val := Elt F) spec0 c : sProp 𝕄)
    = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f) ∗ others c) := by
  rw [scopedRest0_eq]; rfl

/-- The prefetched tables, when they are what the unscoped buffers hold. -/
theorem pref_eq (c : Dev nD) (T : pre0.Contents (Elt F)) (hT : ∀ k, T k = W c (pre0.ref k)) :
    (Pipeline.prefHeld pre0 c (fun _ => fullShare) T : sProp 𝕄) = tables W c := by
  obtain rfl : T = fun k => W c (pre0.ref k) := funext hT
  unfold Pipeline.prefHeld tables
  exact bigSep_univ_eq_bigSepL [(0 : Fin 5), (1 : Fin 5), (2 : Fin 5), (3 : Fin 5), (4 : Fin 5)] (by decide) (by decide) _

theorem before_first (c : Dev nD) : before W c 0 = fun _ => 390 := if_pos (Or.inl rfl)
theorem before_last (c : Dev nD) : before W c 500 = fun _ => 390 := if_pos (Or.inr rfl)

set_option backward.isDefEq.respectTransparency.types false in
/-- The call as a segment: from `W` to `next W`. -/
def segment (H : ∀ c, Ok W c) (hT : ∀ c k, (adm 0).1 k = W c (pre0.ref k)) (hr : ∀ c, rdats 0 c = rdat (adm 0) W c) :
    RDat.RegionSeg (pcfgs (F := F)) adm rdats () defs₀ Variants.none noCells level 0 where
  win := winFacts0.to₀
  block_pos := block_pos0
  stage_whole := stage_whole0
  K := Fin 4
  osem := osem
  ho := ⟨by decide, by decide, (by decide : ∀ (k : Fin 4) (w : Fin 2) (s : Fin (spec0 w).nbuf), osem k ≠ .dma ((spec0 w).sem s))⟩
  hbody c := by rw [hr c]; exact (obligation (adm 0) W c (H c)).toRRel
  hwaits c := RDat.hwaits_of_owed_zero (pcfgs (F := F)) adm rdats () noCells level 0 (fun c t => by rw [hr c]; rfl) c
  pre c := atRest c (W c)
  post c := atRest c (next W c)
  X c := iprop(half W c ∗ Pipeline.ownSems0 osem c)
  Y c := iprop(half W c ∗ tables W c)
  Z c := Pipeline.unscopedRestP (Ix := Unit) (Name := ℕ) (U := UU) (Lvl := ℕ) pre0 spec0 c (fun b => W c b)
  hentry c := by
    unfold atRest
    rw [hr c, ← Pipeline.unscopedBufs_held]
    have hsplit := Pipeline.arrays_of_unscopedBufs (p := 0) (pcfgs (F := F)) adm (family W adm) winFacts0 arr_whole0 c
      ((datF W (adm 0) c).share_full fun _ => rfl) (fun b => W c b) fun _ => rfl
    have hrest := Pipeline.unscopedRest_split (Ix := Unit) (Name := ℕ) (U := UU) (Lvl := ℕ) (Val := Elt F) preFacts0 c (fun b => W c b)
    have harr := (arrays_split W (adm 0) c (dat (adm 0) W c).A).1
    iintro ⟨⟨Hub, HO⟩, Hos, -⟩
    ihave H := hsplit $$ Hub
    icases H with ⟨Ha, Hrest⟩
    ihave Ha := (show ((family W adm 0 c).arrays ((family W adm 0 c).arrAt · 0) : sProp 𝕄) ⊢ _ from harr) $$ Ha
    icases Ha with ⟨Ha, Hh⟩
    ihave Hrest := (Entails.of_eq hrest) $$ Hrest
    icases Hrest with ⟨Hp, Hrest⟩
    imodintro
    isplitl [Ha]; · iapply (show ((dat (adm 0) W c).arrays (dat (adm 0) W c).A : sProp 𝕄) ⊢ (rdat (adm 0) W c).arrays (rdat (adm 0) W c).A from .rfl); iexact Ha
    isplitl [Hp]
    · iapply (show (Pipeline.prefHeld pre0 c (fun _ => fullShare) (fun k => W c (pre0.ref k)) : sProp 𝕄) ⊢ Pipeline.prefHeld pre0 c (fun _ => fullShare) (adm 0).1 from
        Entails.of_eq ((pref_eq W c _ fun _ => rfl).trans (pref_eq W c _ (hT c)).symm))
      iexact Hp
    isplitl [HO]
    · iapply (owed_in (adm 0) W c 0); iexact HO
    isplitr [Hrest]
    · isplitl [Hh]; · iexact Hh
      iexact Hos
    iexact Hrest
  hin c := by
    rw [hr c, show (rdat (adm 0) W c).Φ 0 = going W c 0 from rfl]
    unfold going
    rw [before_first]
    have hb := slots_begin W c
    have hs := Entails.of_eq (scoped_eq (F := F) c)
    have hp := Entails.of_eq (pref_eq W c _ (hT c))
    iintro ⟨⟨Hh, Hos⟩, Hp, Hr⟩
    ihave Hr := hs $$ Hr
    icases Hr with ⟨HB, ⟨%g, Hg⟩, Hot⟩
    ihave HS := hb $$ [HB Hh Hos]
    · isplitl [HB]; · iexact HB
      isplitl [Hh]; · iexact Hh
      iexact Hos
    icases HS with ⟨HS, Hsp⟩
    isplitl [Hp]; · iapply hp; iexact Hp
    isplitl [HS]; · iexact HS
    isplitl [Hg]
    · iexists g; isplitr
      · ipureintro; exact fun h => absurd h (lt_irrefl _)
      iexact Hg
    isplitl [Hsp]; · iexact Hsp
    iexact Hot
  hout c := by
    rw [hr c, show (rdat (adm 0) W c).Φ (Fin.last (Pipeline.pin (pcfgs (F := F)) adm 0).N) = going W c 500 from rfl]
    unfold going
    rw [before_last]
    have he := slots_end W c
    have hs := Entails.of_eq (scoped_eq (F := F) c).symm
    iintro ⟨Hp, HS, ⟨%g, -, Hg⟩, Hsp, Hot⟩
    ihave HS := he $$ [HS Hsp]
    · isplitl [HS]; · iexact HS
      iexact Hsp
    icases HS with ⟨HB, Hh, Hos⟩
    isplitl [Hh Hp]
    · isplitl [Hh]; · iexact Hh
      iexact Hp
    isplitl [Hos]; · iexact Hos
    iapply hs
    isplitl [HB]; · iexact HB
    isplitl [Hg]; · iexists g; iexact Hg
    iexact Hot
  hexit c := by
    rw [hr c]
    have hrest := Pipeline.unscopedRest_split (Ix := Unit) (Name := ℕ) (U := UU) (Lvl := ℕ) (Val := Elt F) preFacts0 c (fun b => W c b)
    have hjoin := fun (A : (w : Fin (cfg0 (adm 0)).W) → Buf (Elt F) (((cfg0 (adm 0)).win w).arr.view.loc (c.tc : Thread nD τ)))
        (h : A 0 = W c main_v1 ∧ A 1 = gathered W c) =>
      Pipeline.unscopedBufs_of_arrays (p := 0) (pcfgs (F := F)) adm (Ix := Unit) (Name := ℕ) (U := UU) (Lvl := ℕ) winFacts0 arr_whole0 c
      (family W adm) ((datF W (adm 0) c).share_full fun _ => rfl) (fun b => W c b) (fun b => next W c b) A
      (fun w => by
        fin_cases w
        · exact h.1.trans (next_of W c _ (by decide)).symm
        · exact h.2.trans (next_out W c).symm)
      (fun b hb => next_of W c b fun h => hb (by subst h; exact Finset.mem_image.mpr ⟨1, Finset.mem_univ _, rfl⟩))
    have hpost := arrays_out W (adm 0) c (H c) (cfg0 (adm 0)).N rfl
    have harr := fun A => (arrays_split W (adm 0) c A).2
    have hp := Entails.of_eq (pref_eq W c _ fun _ => rfl).symm
    unfold atRest
    iintro ⟨Ha, HO, ⟨Hh, Hp⟩, Hrest⟩
    ihave Ha := hpost $$ Ha
    icases Ha with ⟨%A, %hA, Ha⟩
    imodintro
    isplitr [HO]
    · rw [← Pipeline.unscopedBufs_held]
      iapply (hjoin A hA); isplitl [Ha Hh]
      · iapply (show iprop((dat (adm 0) W c).arrays A ∗ ((c : Thread nD τ).loc main_v1) ↦{(fullShare : PosShare TreeShare).right} A 0) ⊢ ((family W adm 0 c).arrays A : sProp 𝕄) from harr A)
        isplitl [Ha]; · iexact Ha
        rw [hA.1]; iexact Hh
      iapply (Entails.of_eq hrest.symm)
      isplitl [Hp]; · iapply hp; iexact Hp
      iexact Hrest
    iapply (owed_out (adm 0) W c (Fin.last (cfg0 (adm 0)).N)); iexact HO

end Cert.KernelIdeal.Collect

end
-- ==== Proof.KernelIdeal.Run.lean ====
/-
  The whole program from its three calls: the host lines that make the gather's tables, the gather call, the decoder call,
  the scale call, the host transposes.
-/
module

public import proofs.«01_k».proof.Proof.KernelIdeal.Host
public import proofs.«01_k».proof.Proof.KernelIdeal.Call
public import proofs.«01_k».proof.Proof.KernelIdeal.Logit
public import proofs.«01_k».proof.Proof.KernelIdeal.Rho

@[expose] public section

set_option maxRecDepth 16384

noncomputable section

namespace Cert.KernelIdeal.Decoder

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

local notation "𝕄" => MT nD τ sig Unit (Elt F) ℕ UU ℕ

variable (m : (ℓ : Loc nD τ sig) → Buf (Elt F) ℓ) (ρ : Dev nD → PrngReg)

/-- The buffers before the gather call, before the decoder call, before the scale call, and what the scale call may leave. -/
abbrev W1 (c : Dev nD) : Valuation τ sig (Elt F) := V11 m c
abbrev W2 (c : Dev nD) : Valuation τ sig (Elt F) := Collect.next (W1 m) c
abbrev W3 (c : Dev nD) : Valuation τ sig (Elt F) := Logit.next (W2 m) c
abbrev Left (c : Dev nD) : Type := { G // Rho.Meets (W3 m) c G }
abbrev W4 (c : Dev nD) (G : Left m c) : Valuation τ sig (Elt F) := Rho.next (W3 m) c G.1
abbrev W5 (c : Dev nD) (G : Left m c) : Valuation τ sig (Elt F) := StableHlo.after hostOps3 (W4 m c G)

/-- The tables the gather is launched with: the host's, as its lines left them (there is one core). -/
def adm : (p : Fin 3) → (pcfgs (F := F) p).Adm
  | ⟨0, _⟩ => ⟨fun k => V11 m 0 (pre0.ref k), trivial⟩
  | ⟨1, _⟩ => cfg1.toPCfg_adm
  | ⟨2, _⟩ => cfg2.toPCfg_adm

theorem adm_tables (c : Dev nD) (k) : (adm m 0).1 k = W1 m c (pre0.ref k) := by
  rw [show c = 0 from Subsingleton.elim _ _]; rfl

/-- The proof data of the three pipelines. -/
def rdats : (p : Fin 3) → (c : Dev nD) → RDat τ (Elt F) Unit ℕ UU ℕ (Pipeline.pin (pcfgs (F := F)) (adm m) p) c
  | ⟨0, _⟩ => fun c => Collect.rdat (adm m 0) (W1 m) c
  | ⟨1, _⟩ => fun c => (Logit.dat (W2 m) c).toR
  | ⟨2, _⟩ => fun c => Rho.rdat (W3 m) c

/-- The host lines after the calls. -/
def afterwards : HostSeg (Ix := Unit) (Name := ℕ) (U := UU) (Lvl := ℕ) (pcfgs (F := F)) defs₀ Variants.none noCells level :=
  HostSeg.ofOpsEx _ _ _ _ _ (Γ := Left m) (Pipeline.ucRefs τ sig) hostOps3
    (fun op h => Pipeline.sub_ucRefs op ((List.forall_iff_forall_mem.mp hostOps3_sub) op h))
    (fun op h => (List.forall_iff_forall_mem.mp hostOps3_fresh) op h) (W4 m) fun c => settled c

/-- What rides along through the host lines before the calls. -/
abbrev along : Fin 4 → Dev nD → sProp 𝕄 := fun _ c => settled c

/-- Every gene number is a row of the weights' table. -/
abbrev InTable : Prop := ∀ (c : Dev nD) (k : Fin 500), (Host.genes m c (ValueIdx.ix1 k)).toNat < 50000

/-- The program as segments. -/
abbrev items (hg : InTable m) (_ : Dev nD) : List (RDat.Seg (pcfgs (F := F)) (adm m) (rdats m) () defs₀ Variants.none noCells level) :=
  [.host (seg0 m Variants.none noCells level along), .host (seg1 m Variants.none noCells level along),
    .host (seg2 m Variants.none noCells level along), .host (seg3 m Variants.none noCells level along),
    .host (seg4 m Variants.none noCells level along), .host (seg5 m Variants.none noCells level along),
    .host (seg6 m Variants.none noCells level along), .host (seg7 m Variants.none noCells level along),
    .host (seg8 m Variants.none noCells level along), .host (seg9 m Variants.none noCells level along),
    .host (seg10 m Variants.none noCells level along),
    .region (Collect.segment (W1 m) (adm m) (rdats m) (fun c => Host.tables m c (hg c)) (adm_tables m) fun _ => rfl),
    .region (Logit.segment (W2 m) (adm m) (rdats m) fun _ => rfl),
    .region (Rho.segment (W3 m) (adm m) (rdats m) fun _ => rfl), .host (afterwards m)]

/-- The arguments reach the end as launched. -/
theorem W5_arg (c : Dev nD) (G : Left m c) (r : Ref sig .tc) (hr : W1 m c r = m ((c : Thread nD τ).loc r))
    (h : r ∉ [main_v25, main_v26, main_v27, main_v28, main_v29]) : W5 m c G r = m ((c : Thread nD τ).loc r) := by
  simp only [List.mem_cons, List.not_mem_nil, or_false, not_or] at h
  refine (StableHlo.after_of_writes_sub hostOps3 _ hostOps3_writes (by simp [h])).trans ?_
  exact (Rho.next_of (W3 m) c G.1 r h.2.2.1).trans ((Logit.next_of (W2 m) c r h.2.1).trans
    ((Collect.next_of (W1 m) c r h.1).trans hr))

theorem kept0 (c : Dev nD) : W1 m c main_arg0 = m ((c : Thread nD τ).loc main_arg0) :=
  (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| V1_of m c main_arg0 (by decide)
theorem kept1 (c : Dev nD) : W1 m c main_arg1 = m ((c : Thread nD τ).loc main_arg1) :=
  (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| V1_of m c main_arg1 (by decide)
theorem kept2 (c : Dev nD) : W1 m c main_arg2 = m ((c : Thread nD τ).loc main_arg2) :=
  (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| V1_of m c main_arg2 (by decide)
theorem kept3 (c : Dev nD) : W1 m c main_arg3 = m ((c : Thread nD τ).loc main_arg3) :=
  (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| V1_of m c main_arg3 (by decide)

/-- The launch element: the pipelines' own; no counter yet. -/
def start : UU := (initOf (Pipeline.cells (Pipeline.pin (pcfgs (F := F)) (adm m)) (cellOf_inj (adm m))) (Pipeline.launchToks (Pipeline.pin (pcfgs (F := F)) (adm m)) (cellOf_inj (adm m))), 1)

/-- What a final state's memory holds on core `c`: the arguments as launched, the results at what some `G` of `Left` makes. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ ∃ G : Left m c, s.mem ((c.tc : Thread nD τ).loc main_v28) = W5 m c G main_v28
      ∧ s.mem ((c.tc : Thread nD τ).loc main_v29) = W5 m c G main_v29

-- the kit's implicit arguments are found by unifying its conclusion with this one, which takes unfolding plain definitions
-- in a metavariable's type
set_option backward.isDefEq.respectTransparency.types false in
/-- THE RUN: every weakly fair execution terminates, every final state as `Ends` says and every semaphore counter at zero. -/
theorem run (hg : InTable m) : θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) (adm m) (rdats m) () (cellOf_inj (adm m)) EP defs₀ Variants.none noCells level m ρ main
    (items m hg)
    (fun c Q => by
      rewrite [main_chain c, Pipeline.RDat.Seg.run_eq_chain,
        show (items m hg c).map Pipeline.RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Pipeline.RDat.Seg.pipes_host, Pipeline.RDat.Seg.pipes_region, Pipeline.RDat.Seg.pipes_nil]; decide)
    (O₀ := 0) (hL := fun _ _ => rfl) (G := fun _ => iprop(emp)) (u₀ := start m)
    (hu₀ := by
      unfold start
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => atRest c (V0 m c))
    (Tₙ := fun c => iprop(∃ G : Left m c, StableHlo.held (c : Thread nD τ) (Pipeline.ucRefs τ sig) (W5 m c G)))
    (hch := fun c => ⟨.rfl, .rfl, .rfl, .rfl, .rfl, .rfl, .rfl, .rfl, .rfl, .rfl, .rfl, .rfl, .rfl, .rfl, .rfl, .rfl⟩)
    (hinit := by
      refine Pipeline.initEach noCells level fun c => ?_
      rw [Pipeline.unscopedBufs_held (Ix := Unit) (Name := ℕ) (U := UU) (Lvl := ℕ) c (V0 m c)]
      iintro ⟨⟨Hh, -, HO, -, -, -⟩, -⟩
      imodintro
      isplitl [Hh]; · iexact Hh
      iexists ∅; iexact HO)
    (QY := Ends m)
    (hfin := fun c s' => ?_) (hQ := fun _ h hz => ⟨h, funext fun g => hz g (.inr (regions_no_unscoped g.2))⟩)
  · unfold StableHlo.held
    iintro ⟨⟨%G, Hh⟩, HSI⟩
    ihave Hr := (pointsTo_read_all (Pipeline.ucRefs τ sig) (fun b => ((c : Thread nD τ).1, b)) (W5 m c G) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (W5_arg m c G main_arg0 (kept0 m c) (by decide)),
        (h (Proc.devRef .tc main_arg1) (Finset.mem_filter.mpr ⟨StableHlo.devRef_mem_tcRefs main_arg1, by decide⟩)).trans (W5_arg m c G main_arg1 (kept1 m c) (by decide)),
        (h (Proc.devRef .tc main_arg2) (Finset.mem_filter.mpr ⟨StableHlo.devRef_mem_tcRefs main_arg2, by decide⟩)).trans (W5_arg m c G main_arg2 (kept2 m c) (by decide)),
        (h (Proc.devRef .tc main_arg3) (Finset.mem_filter.mpr ⟨StableHlo.devRef_mem_tcRefs main_arg3, by decide⟩)).trans (W5_arg m c G main_arg3 (kept3 m c) (by decide))⟩,
        G, h (Proc.devRef .tc main_v28) (Finset.mem_filter.mpr ⟨StableHlo.devRef_mem_tcRefs main_v28, by decide⟩),
        h (Proc.devRef .tc main_v29) (Finset.mem_filter.mpr ⟨StableHlo.devRef_mem_tcRefs main_v29, by decide⟩)⟩
    · iexact HSI

/-- The frame: the arguments end as launched, every semaphore counter at zero. -/
theorem frame (hg : InTable m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run m ρ hg)

end Cert.KernelIdeal.Decoder

end
-- ==== Proof.Rows.lean ====
/-
  A gather of whole rows of a three-axis table, and the reference's take by it: entry `(k, h, c)` is the table's entry
  `(g k, h, c)` wherever every number `g` names a row.
-/
module

public import proofs.«01_k».proof.Proof.Gen.ReferenceIdeal
public import proofs.«01_k».proof.Proof.Tables
public import Idealize.ShloMosaic.Lib.Tactic

@[expose] public section

noncomputable section

namespace Cert.Rows

open Idealize.ShloMosaic hiding ix0 ix1 ix2 ix3
open Idealize.ShloMosaic.ValueIdx Idealize.ShloMosaic.WordCmp Idealize.ShloMosaic.Tactic

/-- Row `b` of the table where the index array holds `b`. -/
theorem gather_rows {α : Type} {nb A B n : Nat} (d : GatherDims ⟨3, ![nb, A, B]⟩ ⟨2, ![n, 1]⟩ ⟨3, ![n, A, B]⟩) (hoff : d.offsetDims = [1, 2])
    (hcoll : d.collapsedSliceDims = [0]) (hob : d.operandBatchingDims = []) (hsim : d.startIndexMap = [0]) (hivd : d.indexVectorDim = 1)
    (x : (⟨3, ![nb, A, B]⟩ : Shape).Idx → α) (idx : IVec ⟨2, ![n, 1]⟩ 32) (c : Fin n) (y : Fin A) (z : Fin B) (b : Fin nb)
    (hb : idx (ix2 c (0 : Fin 1)) = BitVec.ofNat 32 b.val) (hnb : nb < 2 ^ 31) :
    Host.gather d x idx (ix3 c y z) = x (ix3 b y z) := by
  unfold Host.gather
  refine congrArg x (funext fun a => Fin.ext ?_)
  have none : ∀ a', a' ∉ d.operandBatchingDims := fun a' => by rw [hob]; exact List.not_mem_nil
  have kept : d.sKept = [1, 2] := by unfold GatherDims.sKept; rw [hcoll, hob]; rfl
  have first : ∀ k ∈ d.batchDims, k = (0 : Fin 3) := fun k hk => by
    have h := of_decide_eq_true (List.mem_filter.1 hk).2
    rw [hoff] at h
    exact (by decide : ∀ k : Fin 3, k ∉ [(1 : Fin 3), 2] → k = 0) k h
  have at0 : ∀ X : Fin 3, X = 0 → (ix3 c y z X).val = c.val := fun X h => by subst h; rfl
  match a with
  | ⟨0, _⟩ =>
    have hk : (0 : Fin 3) ∉ d.sKept := by rw [kept]; exact (by decide : (0 : Fin 3) ∉ [(1 : Fin 3), 2])
    have hm : (0 : Fin 3) ∈ d.startIndexMap := by rw [hsim]; exact List.mem_singleton.2 rfl
    have hsl : d.sliceSizes 0 = 1 := d.slice_collapsed 0 (by rw [hcoll]; exact List.mem_singleton.2 rfl)
    show d.start (ix3 c y z) idx 0 + d.batchCoord (ix3 c y z) 0 + d.offCoord (ix3 c y z) 0 = b.val
    rw [d.batchCoord_eq_zero _ _ (none 0), d.offCoord_eq_zero _ _ hk]
    simp only [Nat.add_zero]
    unfold GatherDims.start
    rw [dif_pos hm]
    have hsi : d.siIdx (ix3 c y z) ⟨d.startIndexMap.idxOf 0, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact at0 _ (first _ (List.getElem_mem _))
      | ⟨1, _⟩ =>
        unfold GatherDims.siIdx
        rw [dif_pos (by rw [hivd])]
        show List.idxOf (0 : Fin 3) d.startIndexMap = 0
        rw [hsim]; simp
    have hbl := b.isLt
    rw [hsi, hb, hsl, StableHlo.Predicate.toInt_ofNat_small _ (by omega)]
    show min ((b.val : Int)).toNat (nb - 1) = b.val
    omega
  | ⟨1, _⟩ =>
    have hk : (1 : Fin 3) ∈ d.sKept := by rw [kept]; exact (by decide : (1 : Fin 3) ∈ [(1 : Fin 3), 2])
    have hm : (1 : Fin 3) ∉ d.startIndexMap := by rw [hsim]; exact (by decide : (1 : Fin 3) ∉ [(0 : Fin 3)])
    show d.start (ix3 c y z) idx 1 + d.batchCoord (ix3 c y z) 1 + d.offCoord (ix3 c y z) 1 = y.val
    rw [d.batchCoord_eq_zero _ _ (none 1), Nat.add_zero]
    unfold GatherDims.start GatherDims.offCoord
    rw [dif_neg hm, dif_pos hk, Nat.zero_add]
    have e : ∀ (l k : List (Fin 3)) (hl : l = [1, 2]) (hk : k = [1, 2]) (h), (ix3 c y z (l[k.idxOf 1]'h)).val = y.val := fun l k hl hk h => by
      subst hl; subst hk; rfl
    exact e _ _ hoff kept _
  | ⟨2, _⟩ =>
    have hk : (2 : Fin 3) ∈ d.sKept := by rw [kept]; exact (by decide : (2 : Fin 3) ∈ [(1 : Fin 3), 2])
    have hm : (2 : Fin 3) ∉ d.startIndexMap := by rw [hsim]; exact (by decide : (2 : Fin 3) ∉ [(0 : Fin 3)])
    show d.start (ix3 c y z) idx 2 + d.batchCoord (ix3 c y z) 2 + d.offCoord (ix3 c y z) 2 = z.val
    rw [d.batchCoord_eq_zero _ _ (none 2), Nat.add_zero]
    unfold GatherDims.start GatherDims.offCoord
    rw [dif_neg hm, dif_pos hk, Nat.zero_add]
    have e : ∀ (l k : List (Fin 3)) (hl : l = [1, 2]) (hk : k = [1, 2]) (h), (ix3 c y z (l[k.idxOf 2]'h)).val = z.val := fun l k hl hk h => by
      subst hl; subst hk; rfl
    exact e _ _ hoff kept _

open Cert.ReferenceIdeal Cert.ReferenceIdeal.Gen

variable {F : FTy → Type} [FloatOps F]

/-- The index column of the reference's take: a negative number counts from the table's end. -/
def rowOf (g : IVec S500 32) : IVec S500x1 32 :=
  broadcastInDim S500x1 ![0] Facts₀.bcast_S500_S500x1_0
    (select (cmpi .slt g (broadcastInDim S500 ![] Facts₀.bcast_S_S500 (constantI S_ 32 0#32)))
      (addi g (broadcastInDim S500 ![] Facts₀.bcast_S_S500 (constantI S_ 32 50000#32))) g)

/-- The reference's take of rows: rows out of the table's range are filled. -/
def taken (t : FVec F S50000x16x224 .f32) (g : IVec S500 32) : FVec F S500x16x224 .f32 :=
  select (broadcastInDim S500x16x224 ![0] Facts₀.bcast_S500_S500x16x224_0
      (Host.reduce IntOp.andi (andi
        (cmpi .sge (rowOf g) (broadcastInDim S500x1 ![] Facts₀.bcast_S_S500x1 (constantI S_ 32 0#32)))
        (cmpi .sle (rowOf g) (broadcastInDim S500x1 ![0, 1] Facts₀.bcast_S1x1_S500x1_0_1
          (broadcastInDim S1x1 ![1] Facts₀.bcast_S1_S1x1_1 (constantI S1 32 49999#32)))))
        (constantI S_ 1 1#1) Facts₀.reducesTo_S500x1_S500_d1 Facts₀.h_S_))
    (Host.gather gather_S50000x16x224_S500x1_S500x16x224_12_0_n_n_0_1_116224 t (rowOf g))
    (broadcastInDim S500x16x224 ![] Facts₀.bcast_S_S500x16x224 (constant S_ .f32 0x7FC00000#32))

theorem rowOf_at (g : IVec S500 32) (i : Fin 500) (n : ℕ) (hn : n < 50000) (hv : g (ix1 i) = BitVec.ofNat 32 n) :
    rowOf g (ix2 i 0) = BitVec.ofNat 32 n := by
  have e : rowOf g (ix2 i 0) = Scalar.select (IntOp.cmpi .slt (g (ix1 i)) 0#32) (IntOp.addi (g (ix1 i)) 50000#32) (g (ix1 i)) := by
    refine (congrArg (select (cmpi .slt g (broadcastInDim S500 ![] Facts₀.bcast_S_S500 (constantI S_ 32 0#32)))
      (addi g (broadcastInDim S500 ![] Facts₀.bcast_S_S500 (constantI S_ 32 50000#32))) g)
      (show _ = ix1 i from funext fun a => ?_)).trans rfl
    match a with
    | ⟨0, _⟩ => rfl
  rw [e, hv]
  exact Cert.Tables.front_word n (by omega) _

/-- Where every number names a row, the take is those rows. -/
theorem taken_at (t : FVec F S50000x16x224 .f32) (g : IVec S500 32) (hg : ∀ k : Fin 500, (g (ix1 k)).toNat < 50000)
    (k : Fin 500) (y : Fin 16) (z : Fin 224) : taken t g (ix3 k y z) = t (ix3 ⟨_, hg k⟩ y z) := by
  have hrow : ∀ k : Fin 500, rowOf g (ix2 k 0) = BitVec.ofNat 32 (g (ix1 k)).toNat := fun k =>
    rowOf_at g k _ (hg k) (by rw [BitVec.ofNat_toNat, BitVec.setWidth_eq])
  have hm : Host.reduce IntOp.andi (andi
        (cmpi .sge (rowOf g) (broadcastInDim S500x1 ![] Facts₀.bcast_S_S500x1 (constantI S_ 32 0#32)))
        (cmpi .sle (rowOf g) (broadcastInDim S500x1 ![0, 1] Facts₀.bcast_S1x1_S500x1_0_1
          (broadcastInDim S1x1 ![1] Facts₀.bcast_S1_S1x1_1 (constantI S1 32 49999#32)))))
        (constantI S_ 1 1#1) Facts₀.reducesTo_S500x1_S500_d1 Facts₀.h_S_ (ix1 k) = 1#1 := by
    refine Host.reduce_andi_one _ _ _ _ _ rfl fun y => ?_
    show IntOp.andi (IntOp.cmpi .sge (rowOf g y) 0#32) (IntOp.cmpi .sle (rowOf g y) 49999#32) = 1#1
    obtain ⟨a, b, rfl⟩ : ∃ (a : Fin 500) (b : Fin 1), y = ix2 a b := ⟨y 0, y 1, by funext d; match d with | ⟨0, _⟩ => rfl | ⟨1, _⟩ => rfl⟩
    obtain rfl : b = 0 := Subsingleton.elim _ _
    have hp := hg a
    rw [hrow a, IntOp.andi_eq_one, cmpi_sge_ofNat (by omega) (by omega), cmpi_sle_ofNat (by omega) (by omega)]
    exact ⟨by rw [ofBool_decide_eq_one_iff]; omega, by rw [ofBool_decide_eq_one_iff]; omega⟩
  refine (if_pos (show broadcastInDim S500x16x224 ![0] Facts₀.bcast_S500_S500x16x224_0 (Host.reduce IntOp.andi (andi
        (cmpi .sge (rowOf g) (broadcastInDim S500x1 ![] Facts₀.bcast_S_S500x1 (constantI S_ 32 0#32)))
        (cmpi .sle (rowOf g) (broadcastInDim S500x1 ![0, 1] Facts₀.bcast_S1x1_S500x1_0_1
          (broadcastInDim S1x1 ![1] Facts₀.bcast_S1_S1x1_1 (constantI S1 32 49999#32)))))
        (constantI S_ 1 1#1) Facts₀.reducesTo_S500x1_S500_d1 Facts₀.h_S_) (ix3 k y z) = 1 from ?_)).trans ?_
  · refine (congrArg (Host.reduce IntOp.andi _ _ Facts₀.reducesTo_S500x1_S500_d1 Facts₀.h_S_) (show _ = ix1 k from funext fun a => ?_)).trans hm
    match a with
    | ⟨0, _⟩ => rfl
  exact gather_rows gather_S50000x16x224_S500x1_S500x16x224_12_0_n_n_0_1_116224 rfl rfl rfl rfl rfl t (rowOf g) k y z ⟨_, hg k⟩ (hrow k) (by decide)

end Cert.Rows

end
-- ==== Proof.KernelIdeal.Answers.lean ====
/-
  The results over exact numbers: the gathered rows are the reference's take, and both products' arrays, with the cells
  brought to the front, are the reference's products.
-/
module

public import proofs.«01_k».proof.Proof.KernelIdeal.LogitValue
public import proofs.«01_k».proof.Proof.KernelIdeal.RhoValue
public import proofs.«01_k».proof.Proof.KernelIdeal.Run
public import proofs.«01_k».proof.Proof.Rows
public import proofs.«01_k».proof.Proof.Gen.ReferenceIdeal

@[expose] public section

set_option maxRecDepth 16384

noncomputable section

namespace Cert.KernelIdeal.Decoder

open Cert.KernelIdeal Cert.KernelIdeal.Gen
open Idealize.ShloMosaic Idealize.ShloMosaic.TcCoe Idealize.ShloMosaic.Tactic Idealize.SL.Sem

/-- The reference's decoder product and its scale product. -/
abbrev logitRef (x : FVec Ideal S1024x16 .f32) (w : FVec Ideal S500x16x224 .f32) : FVec Ideal S1024x500x224 .f32 :=
  Host.dotGeneral Cert.ReferenceIdeal.dot_S1024x16_S500x16x224_S1024x500x224_1_1_0_02_n_n none x w
abbrev rhoRef (x : FVec Ideal S1024x16 .f32) (w : FVec Ideal S50000x16 .f32) : FVec Ideal S1024x50000 .f32 :=
  Host.dotGeneral Cert.ReferenceIdeal.dot_S1024x16_S16x50000_S1024x50000_1_0_0_1_n_n none x
    (transpose Cert.ReferenceIdeal.S16x50000 [1, 0] w Cert.ReferenceIdeal.Facts₀.transposes_S50000x16_S16x50000_1_0)

variable (m : (ℓ : Loc nD τ sig) → Buf (Elt Ideal) ℓ)

/-- The sums of transposed operands, transposed, are the products. -/
theorem logit_sums (x : FVec Ideal S1024x16 .f32) (w : FVec Ideal S500x16x224 .f32) (h0 h1) :
    transpose S1024x500x224 [2, 0, 1] (Logit.sums (transpose S16x1024 [1, 0] x h0) w) h1 = logitRef x w := by
  funext i
  pointwise [logitRef, Logit.sums]
  exact Finset.sum_congr rfl fun h _ => mul_comm _ _
theorem rho_sums (x : FVec Ideal S1024x16 .f32) (w : FVec Ideal S50000x16 .f32) (h0 h1 h2) :
    transpose S1024x50000 [1, 0] (Rho.sums (transpose S16x1024 [1, 0] x h0) (transpose S16x50000 [1, 0] w h1)) h2 = rhoRef x w := by
  funext i
  pointwise [rhoRef, Rho.sums]
  exact Finset.sum_congr rfl fun h _ => mul_comm _ _

/-- What the first host lines leave: the arguments transposed. -/
theorem read_latent (W : Valuation τ sig (Elt Ideal)) : StableHlo.after hostOps0 W main_v0
    = transpose S16x1024 [1, 0] (W main_arg0) Facts₀.transposes_S1024x16_S16x1024_1_0 := by after_results
theorem read_table (W : Valuation τ sig (Elt Ideal)) : StableHlo.after hostOps0 W main_v1
    = transpose S16x224x50000 [1, 2, 0] (W main_arg2) Facts₀.transposes_S50000x16x224_S16x224x50000_1_2_0 := by after_results
theorem read_scale (W : Valuation τ sig (Elt Ideal)) : StableHlo.after hostOps0 W main_v2
    = transpose S16x50000 [1, 0] (W main_arg3) Facts₀.transposes_S50000x16_S16x50000_1_0 := by after_results

theorem latent_eq (c : Dev nD) : W1 m c main_v0 = transpose S16x1024 [1, 0] (m ((c.tc : Thread nD τ).loc main_arg0)) Facts₀.transposes_S1024x16_S16x1024_1_0 :=
  (V11_of m c main_v0 (by decide)).trans <| (V10_of m c main_v0 (by decide)).trans <| (V9_of m c main_v0 (by decide)).trans <| (V8_of m c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide)).trans <| read_latent (V0 m c)
theorem table_eq (c : Dev nD) : W1 m c main_v1 = transpose S16x224x50000 [1, 2, 0] (m ((c.tc : Thread nD τ).loc main_arg2)) Facts₀.transposes_S50000x16x224_S16x224x50000_1_2_0 :=
  (V11_of m c main_v1 (by decide)).trans <| (V10_of m c main_v1 (by decide)).trans <| (V9_of m c main_v1 (by decide)).trans <| (V8_of m c main_v1 (by decide)).trans <| (V7_of m c main_v1 (by decide)).trans <| (V6_of m c main_v1 (by decide)).trans <| (V5_of m c main_v1 (by decide)).trans <| (V4_of m c main_v1 (by decide)).trans <| (V3_of m c main_v1 (by decide)).trans <| (V2_of m c main_v1 (by decide)).trans <| read_table (V0 m c)
theorem scale_eq (c : Dev nD) : W1 m c main_v2 = transpose S16x50000 [1, 0] (m ((c.tc : Thread nD τ).loc main_arg3)) Facts₀.transposes_S50000x16_S16x50000_1_0 :=
  (V11_of m c main_v2 (by decide)).trans <| (V10_of m c main_v2 (by decide)).trans <| (V9_of m c main_v2 (by decide)).trans <| (V8_of m c main_v2 (by decide)).trans <| (V7_of m c main_v2 (by decide)).trans <| (V6_of m c main_v2 (by decide)).trans <| (V5_of m c main_v2 (by decide)).trans <| (V4_of m c main_v2 (by decide)).trans <| (V3_of m c main_v2 (by decide)).trans <| (V2_of m c main_v2 (by decide)).trans <| read_scale (V0 m c)

/-- The transposed table at a lane is the table at that gene. -/
theorem table_at (t : FVec Ideal S50000x16x224 .f32) (h1) (y : Fin 16) (z : Fin 224) (g : Fin 50000) :
    transpose S16x224x50000 [1, 2, 0] t h1 (ValueIdx.ix3 y z g) = t (ValueIdx.ix3 g y z) := by
  refine congrArg t (funext fun a => ?_)
  match a with
  | ⟨0, _⟩ => rfl
  | ⟨1, _⟩ => rfl
  | ⟨2, _⟩ => rfl

/-- The gathered rows are the reference's take. -/
theorem gathered_eq (hg : InTable m) (c : Dev nD) : Collect.gathered (W1 m) c
    = Cert.Rows.taken (F := Ideal) (m ((c.tc : Thread nD τ).loc main_arg2)) (m ((c.tc : Thread nD τ).loc main_arg1)) := by
  funext y
  obtain ⟨k, h, z, rfl⟩ : ∃ (k : Fin 500) (h : Fin 16) (z : Fin 224), y = ValueIdx.ix3 k h z :=
    ⟨y 0, y 1, y 2, by funext d; match d with | ⟨0, _⟩ => rfl | ⟨1, _⟩ => rfl | ⟨2, _⟩ => rfl⟩
  have H := Host.tables m c (hg c)
  obtain ⟨i, hi, hd⟩ := H.dest_surj k.val k.isLt
  have hgene := Host.gene_of_place m c (hg c) i hi k hd
  have hb : (Host.genes m c (ValueIdx.ix1 k)).toNat < 50000 := hg c k
  refine (Collect.gathered_at (W1 m) c H (ValueIdx.ix3 k h z) (ValueIdx.ix3 h z ⟨_, hb⟩) i hi hd.symm rfl rfl hgene.symm).trans ?_
  refine (congrFun (table_eq m c) _).trans ((table_at _ _ h z ⟨_, hb⟩).trans ?_)
  exact (Cert.Rows.taken_at (F := Ideal) (m ((c.tc : Thread nD τ).loc main_arg2)) (m ((c.tc : Thread nD τ).loc main_arg1)) (hg c) k h z).symm

/-- The last host lines transpose the products. -/
theorem read_first (W : Valuation τ sig (Elt Ideal)) : StableHlo.after hostOps3 W main_v28
    = transpose S1024x500x224 [2, 0, 1] (W main_v26) Facts₀.transposes_S500x224x1024_S1024x500x224_2_0_1 := by after_results
theorem read_second (W : Valuation τ sig (Elt Ideal)) : StableHlo.after hostOps3 W main_v29
    = transpose S1024x50000 [1, 0] (W main_v27) Facts₀.transposes_S50000x1024_S1024x50000_1_0 := by after_results

theorem first (hg : InTable m) (c : Dev nD) (G : Left m c) : W5 m c G main_v28 = logitRef (m ((c.tc : Thread nD τ).loc main_arg0))
    (Cert.Rows.taken (m ((c.tc : Thread nD τ).loc main_arg2)) (m ((c.tc : Thread nD τ).loc main_arg1))) := by
  have e : W4 m c G main_v26 = Logit.sums (W2 m c main_v0) (W2 m c main_v25) :=
    (Rho.next_of (W3 m) c G.1 main_v26 (by decide)).trans ((Logit.next_out (W2 m) c).trans (Logit.result_eq (W2 m) c))
  have x0 : W2 m c main_v0 = _ := (Collect.next_of (W1 m) c main_v0 (by decide)).trans (latent_eq m c)
  have x1 : W2 m c main_v25 = _ := (Collect.next_out (W1 m) c).trans (gathered_eq m hg c)
  refine (read_first (W4 m c G)).trans ?_
  rw [e, x0, x1]
  exact logit_sums _ _ _ _

theorem second (c : Dev nD) (G : Left m c) :
    W5 m c G main_v29 = rhoRef (m ((c.tc : Thread nD τ).loc main_arg0)) (m ((c.tc : Thread nD τ).loc main_arg3)) := by
  have e : W4 m c G main_v27 = Rho.sums (W3 m c main_v0) (W3 m c main_v2) :=
    (Rho.next_out (W3 m) c G.1).trans (Rho.left_eq (W3 m) c G.1 G.2)
  have x0 : W3 m c main_v0 = _ :=
    (Logit.next_of (W2 m) c main_v0 (by decide)).trans ((Collect.next_of (W1 m) c main_v0 (by decide)).trans (latent_eq m c))
  have x1 : W3 m c main_v2 = _ :=
    (Logit.next_of (W2 m) c main_v2 (by decide)).trans ((Collect.next_of (W1 m) c main_v2 (by decide)).trans (scale_eq m c))
  refine (read_second (W4 m c G)).trans ?_
  rw [e, x0, x1]
  exact rho_sums _ _ _ _ _

/-- The kernel's run, its results the reference's products of the arguments. -/
theorem run_products (ρ : Dev nD → PrngReg) (hg : InTable m) : θ_run defs (onTc (τ := τ) (main (F := Ideal))) ⟨m, fun _ => 0, ρ⟩ (fun r => ∀ c : Dev nD,
    r.2.mem ((c.tc : Thread nD τ).loc main_v28) = logitRef (m ((c.tc : Thread nD τ).loc main_arg0))
        (Cert.Rows.taken (m ((c.tc : Thread nD τ).loc main_arg2)) (m ((c.tc : Thread nD τ).loc main_arg1)))
    ∧ r.2.mem ((c.tc : Thread nD τ).loc main_v29) = rhoRef (m ((c.tc : Thread nD τ).loc main_arg0)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => by
    obtain ⟨⟨a0, a1, a2, a3⟩, G, e4, e5⟩ := h.1 c
    exact ⟨e4.trans (first m hg c G), e5.trans (second m c G), a0, a1, a2, a3⟩) (run m ρ hg)

end Cert.KernelIdeal.Decoder

end
-- ==== Proof.lean ====
/- The certificate: each program's run, and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Kernel.Run
public import proofs.«01_k».proof.Proof.KernelIdeal.Answers
public import Idealize.ShloMosaic.Lib.Claim
public import Idealize.ShloMosaic.Lib.WordCmp
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem pre_facts : Cert.Pre_genes_in_table.Facts := ⟨by decide⟩

attribute [local instance] pre_facts

/-- Where the precondition holds, every gene number is a row of the table. -/
theorem in_table {F : FTy → Type} [FloatOps F] (a0 : FVec F ⟨2, ![1024, 16]⟩ .f32) (a1 : IVec ⟨1, ![500]⟩ 32)
    (a2 : FVec F ⟨3, ![50000, 16, 224]⟩ .f32) (a3 : FVec F ⟨2, ![50000, 16]⟩ .f32)
    (h : Cert.Pre_genes_in_table.fn a0 a1 a2 a3 = fun _ => 1#1) (k : Fin 500) : (a1 (ValueIdx.ix1 k)).toNat < 50000 := by
  have e : IntOp.andi (IntOp.cmpi .sge (a1 (ValueIdx.ix1 k)) 0#32) (IntOp.cmpi .slt (a1 (ValueIdx.ix1 k)) (BitVec.ofNat 32 50000)) = 1#1 :=
    congrFun h (ValueIdx.ix1 k)
  rw [WordCmp.andi_sge_zero_slt_ofNat (by omega), WordCmp.ofBool_decide_eq_one_iff] at e
  exact e

theorem ref_frame : Cert.quiescent_ReferenceIdeal (hReferenceIdeal := Cert.ReferenceIdeal.Gen.facts) := by
  intro m g hpre
  hlo_run
  · exact fun _ => ⟨trivial, trivial, trivial, trivial⟩
  · exact sem_eq_zero_of_no_sems (by decide) _

theorem algebraic : Cert.algebraic_KernelIdeal_ReferenceIdeal (hKernelIdeal := Cert.KernelIdeal.Gen.facts)
    (hReferenceIdeal := Cert.ReferenceIdeal.Gen.facts) := by
  pair_intro
  · run_from (Cert.KernelIdeal.Decoder.run_products m g fun c => in_table _ _ _ _ (hpre c))
  · hlo_run
    · rfl
    · rfl

theorem kernel_frame : Cert.quiescent_Kernel (hKernel := Cert.Kernel.Gen.facts) := fun m g hpre =>
  Cert.Kernel.Decoder.frame m g fun c => in_table _ _ _ _ (hpre c)

theorem ideal_frame : Cert.quiescent_KernelIdeal (hKernelIdeal := Cert.KernelIdeal.Gen.facts) := fun m g hpre =>
  Cert.KernelIdeal.Decoder.frame m g fun c => in_table _ _ _ _ (hpre c)

theorem claim : Cert.Claim := ⟨Cert.Kernel.Gen.facts, Cert.KernelIdeal.Gen.facts, Cert.ReferenceIdeal.Gen.facts, pre_facts,
  kernel_frame, ideal_frame, ref_frame, fun m g _ => ref_frame m g trivial, trivial, algebraic⟩

end Cert.Proof

end
